-- ==== Defs.lean ====
def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlps (m : (ℓ : Loc Cert.Mlps.nD Cert.Mlps.τ Cert.Mlps.sig) → Buf (Elt Bits) ℓ) : Prop :=
  True

def Pre_MlpsIdeal (m : (ℓ : Loc Cert.MlpsIdeal.nD Cert.MlpsIdeal.τ Cert.MlpsIdeal.sig) → Buf (Elt Ideal) ℓ) : Prop :=
  True

def Pre_MlpsRefIdeal (m : (ℓ : Loc Cert.MlpsRefIdeal.nD Cert.MlpsRefIdeal.τ Cert.MlpsRefIdeal.sig) → Buf (Elt Ideal) ℓ) : Prop :=
  True

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecIdeal_gates_alike_and_finite [hPre_gates_alike_and_finite : Cert.Pre_gates_alike_and_finite.Facts] (m : (ℓ : Loc Cert.RecIdeal.nD Cert.RecIdeal.τ Cert.RecIdeal.sig) → Buf (Elt Ideal) ℓ) : Prop :=
  ∀ c : Dev Cert.RecIdeal.nD,
    (Cert.Pre_gates_alike_and_finite.fn (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2)) (m ((c.tc : Thread Cert.RecIdeal.nD Cert.RecIdeal.τ).loc Cert.RecIdeal.main_arg3)) (m ((c.tc : Thread Cert.RecIdeal.nD Cert.RecIdeal.τ).loc Cert.RecIdeal.main_arg4)) (m ((c.tc : Thread Cert.RecIdeal.nD Cert.RecIdeal.τ).loc Cert.RecIdeal.main_arg5)) (m ((c.tc : Thread Cert.RecIdeal.nD Cert.RecIdeal.τ).loc Cert.RecIdeal.main_arg6))) = (fun _ => 1#1)

def Pre_RecRefIdeal (m : (ℓ : Loc Cert.RecRefIdeal.nD Cert.RecRefIdeal.τ Cert.RecRefIdeal.sig) → Buf (Elt Ideal) ℓ) : Prop :=
  True

def Pre_RecRefIdeal_gates_alike_and_finite [hPre_gates_alike_and_finite : Cert.Pre_gates_alike_and_finite.Facts] (m : (ℓ : Loc Cert.RecRefIdeal.nD Cert.RecRefIdeal.τ Cert.RecRefIdeal.sig) → Buf (Elt Ideal) ℓ) : Prop :=
  ∀ c : Dev Cert.RecRefIdeal.nD,
    (Cert.Pre_gates_alike_and_finite.fn (F := Ideal) (m ((c.tc : Thread Cert.RecRefIdeal.nD Cert.RecRefIdeal.τ).loc Cert.RecRefIdeal.main_arg0)) (m ((c.tc : Thread Cert.RecRefIdeal.nD Cert.RecRefIdeal.τ).loc Cert.RecRefIdeal.main_arg1)) (m ((c.tc : Thread Cert.RecRefIdeal.nD Cert.RecRefIdeal.τ).loc Cert.RecRefIdeal.main_arg2)) (m ((c.tc : Thread Cert.RecRefIdeal.nD Cert.RecRefIdeal.τ).loc Cert.RecRefIdeal.main_arg3)) (m ((c.tc : Thread Cert.RecRefIdeal.nD Cert.RecRefIdeal.τ).loc Cert.RecRefIdeal.main_arg4)) (m ((c.tc : Thread Cert.RecRefIdeal.nD Cert.RecRefIdeal.τ).loc Cert.RecRefIdeal.main_arg5)) (m ((c.tc : Thread Cert.RecRefIdeal.nD Cert.RecRefIdeal.τ).loc Cert.RecRefIdeal.main_arg6))) = (fun _ => 1#1)

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjRefIdeal (m : (ℓ : Loc Cert.DProjRefIdeal.nD Cert.DProjRefIdeal.τ Cert.DProjRefIdeal.sig) → Buf (Elt Ideal) ℓ) : Prop :=
  True

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Mlps [hMlps : Cert.Mlps.Facts] : Prop :=
  ∀ (m : (ℓ : Loc Cert.Mlps.nD Cert.Mlps.τ Cert.Mlps.sig) → Buf (Elt Bits) ℓ) (g : Dev Cert.Mlps.nD → PrngReg), Pre_Mlps m →
    θ_run (Cert.Mlps.defs (F := Bits)) (onTc (τ := Cert.Mlps.τ) (Cert.Mlps.main (F := Bits))) ⟨m, fun _ => 0, g⟩ (fun r => (∀ c : Dev Cert.Mlps.nD,
      r.2.mem ((c.tc : Thread Cert.Mlps.nD Cert.Mlps.τ).loc Cert.Mlps.main_arg0) = m ((c.tc : Thread Cert.Mlps.nD Cert.Mlps.τ).loc Cert.Mlps.main_arg0)
      ∧ r.2.mem ((c.tc : Thread Cert.Mlps.nD Cert.Mlps.τ).loc Cert.Mlps.main_arg1) = m ((c.tc : Thread Cert.Mlps.nD Cert.Mlps.τ).loc Cert.Mlps.main_arg1)
      ∧ r.2.mem ((c.tc : Thread Cert.Mlps.nD Cert.Mlps.τ).loc Cert.Mlps.main_arg2) = m ((c.tc : Thread Cert.Mlps.nD Cert.Mlps.τ).loc Cert.Mlps.main_arg2)
      ∧ r.2.mem ((c.tc : Thread Cert.Mlps.nD Cert.Mlps.τ).loc Cert.Mlps.main_arg3) = m ((c.tc : Thread Cert.Mlps.nD Cert.Mlps.τ).loc Cert.Mlps.main_arg3)
      ∧ r.2.mem ((c.tc : Thread Cert.Mlps.nD Cert.Mlps.τ).loc Cert.Mlps.main_arg4) = m ((c.tc : Thread Cert.Mlps.nD Cert.Mlps.τ).loc Cert.Mlps.main_arg4)
      ∧ r.2.mem ((c.tc : Thread Cert.Mlps.nD Cert.Mlps.τ).loc Cert.Mlps.main_arg5) = m ((c.tc : Thread Cert.Mlps.nD Cert.Mlps.τ).loc Cert.Mlps.main_arg5)
      ∧ r.2.mem ((c.tc : Thread Cert.Mlps.nD Cert.Mlps.τ).loc Cert.Mlps.main_arg6) = m ((c.tc : Thread Cert.Mlps.nD Cert.Mlps.τ).loc Cert.Mlps.main_arg6)
      ∧ r.2.mem ((c.tc : Thread Cert.Mlps.nD Cert.Mlps.τ).loc Cert.Mlps.main_arg7) = m ((c.tc : Thread Cert.Mlps.nD Cert.Mlps.τ).loc Cert.Mlps.main_arg7))
      ∧ r.2.sem = fun _ => 0)

def quiescent_MlpsIdeal [hMlpsIdeal : Cert.MlpsIdeal.Facts] : Prop :=
  ∀ (m : (ℓ : Loc Cert.MlpsIdeal.nD Cert.MlpsIdeal.τ Cert.MlpsIdeal.sig) → Buf (Elt Ideal) ℓ) (g : Dev Cert.MlpsIdeal.nD → PrngReg), Pre_MlpsIdeal m →
    θ_run (Cert.MlpsIdeal.defs (F := Ideal)) (onTc (τ := Cert.MlpsIdeal.τ) (Cert.MlpsIdeal.main (F := Ideal))) ⟨m, fun _ => 0, g⟩ (fun r => (∀ c : Dev Cert.MlpsIdeal.nD,
      r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
      ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
      ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
      ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
      ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4)
      ∧ r.2.mem ((c.tc : Thread Cert.MlpsIdeal.nD Cert.MlpsIdeal.τ).loc Cert.MlpsIdeal.main_arg5) = m ((c.tc : Thread Cert.MlpsIdeal.nD Cert.MlpsIdeal.τ).loc Cert.MlpsIdeal.main_arg5)
      ∧ r.2.mem ((c.tc : Thread Cert.MlpsIdeal.nD Cert.MlpsIdeal.τ).loc Cert.MlpsIdeal.main_arg6) = m ((c.tc : Thread Cert.MlpsIdeal.nD Cert.MlpsIdeal.τ).loc Cert.MlpsIdeal.main_arg6)
      ∧ r.2.mem ((c.tc : Thread Cert.MlpsIdeal.nD Cert.MlpsIdeal.τ).loc Cert.MlpsIdeal.main_arg7) = m ((c.tc : Thread Cert.MlpsIdeal.nD Cert.MlpsIdeal.τ).loc Cert.MlpsIdeal.main_arg7))
      ∧ r.2.sem = fun _ => 0)

def quiescent_MlpsRefIdeal [hMlpsRefIdeal : Cert.MlpsRefIdeal.Facts] : Prop :=
  ∀ (m : (ℓ : Loc Cert.MlpsRefIdeal.nD Cert.MlpsRefIdeal.τ Cert.MlpsRefIdeal.sig) → Buf (Elt Ideal) ℓ) (g : Dev Cert.MlpsRefIdeal.nD → PrngReg), Pre_MlpsRefIdeal m →
    θ_run (Cert.MlpsRefIdeal.defs (F := Ideal)) (onTc (τ := Cert.MlpsRefIdeal.τ) (Cert.MlpsRefIdeal.main (F := Ideal))) ⟨m, fun _ => 0, g⟩ (fun r => (∀ c : Dev Cert.MlpsRefIdeal.nD,
      r.2.mem ((c.tc : Thread Cert.MlpsRefIdeal.nD Cert.MlpsRefIdeal.τ).loc Cert.MlpsRefIdeal.main_arg0) = m ((c.tc : Thread Cert.MlpsRefIdeal.nD Cert.MlpsRefIdeal.τ).loc Cert.MlpsRefIdeal.main_arg0)
      ∧ r.2.mem ((c.tc : Thread Cert.MlpsRefIdeal.nD Cert.MlpsRefIdeal.τ).loc Cert.MlpsRefIdeal.main_arg1) = m ((c.tc : Thread Cert.MlpsRefIdeal.nD Cert.MlpsRefIdeal.τ).loc Cert.MlpsRefIdeal.main_arg1)
      ∧ r.2.mem ((c.tc : Thread Cert.MlpsRefIdeal.nD Cert.MlpsRefIdeal.τ).loc Cert.MlpsRefIdeal.main_arg2) = m ((c.tc : Thread Cert.MlpsRefIdeal.nD Cert.MlpsRefIdeal.τ).loc Cert.MlpsRefIdeal.main_arg2)
      ∧ r.2.mem ((c.tc : Thread Cert.MlpsRefIdeal.nD Cert.MlpsRefIdeal.τ).loc Cert.MlpsRefIdeal.main_arg3) = m ((c.tc : Thread Cert.MlpsRefIdeal.nD Cert.MlpsRefIdeal.τ).loc Cert.MlpsRefIdeal.main_arg3)
      ∧ r.2.mem ((c.tc : Thread Cert.MlpsRefIdeal.nD Cert.MlpsRefIdeal.τ).loc Cert.MlpsRefIdeal.main_arg4) = m ((c.tc : Thread Cert.MlpsRefIdeal.nD Cert.MlpsRefIdeal.τ).loc Cert.MlpsRefIdeal.main_arg4)
      ∧ r.2.mem ((c.tc : Thread Cert.MlpsRefIdeal.nD Cert.MlpsRefIdeal.τ).loc Cert.MlpsRefIdeal.main_arg5) = m ((c.tc : Thread Cert.MlpsRefIdeal.nD Cert.MlpsRefIdeal.τ).loc Cert.MlpsRefIdeal.main_arg5)
      ∧ r.2.mem ((c.tc : Thread Cert.MlpsRefIdeal.nD Cert.MlpsRefIdeal.τ).loc Cert.MlpsRefIdeal.main_arg6) = m ((c.tc : Thread Cert.MlpsRefIdeal.nD Cert.MlpsRefIdeal.τ).loc Cert.MlpsRefIdeal.main_arg6)
      ∧ r.2.mem ((c.tc : Thread Cert.MlpsRefIdeal.nD Cert.MlpsRefIdeal.τ).loc Cert.MlpsRefIdeal.main_arg7) = m ((c.tc : Thread Cert.MlpsRefIdeal.nD Cert.MlpsRefIdeal.τ).loc Cert.MlpsRefIdeal.main_arg7))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6))
      ∧ r.2.sem = fun _ => 0)

def quiescent_RecIdeal_pre_gates_alike_and_finite [hRecIdeal : Cert.RecIdeal.Facts] [hPre_gates_alike_and_finite : Cert.Pre_gates_alike_and_finite.Facts] : Prop :=
  ∀ (m : (ℓ : Loc Cert.RecIdeal.nD Cert.RecIdeal.τ Cert.RecIdeal.sig) → Buf (Elt Ideal) ℓ) (g : Dev Cert.RecIdeal.nD → PrngReg), Pre_RecIdeal_gates_alike_and_finite m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6))
      ∧ r.2.sem = fun _ => 0)

def quiescent_RecRefIdeal_pre_gates_alike_and_finite [hRecRefIdeal : Cert.RecRefIdeal.Facts] [hPre_gates_alike_and_finite : Cert.Pre_gates_alike_and_finite.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal_gates_alike_and_finite m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1)
      ∧ r.2.mem ((c.tc : Thread Cert.DProj.nD Cert.DProj.τ).loc Cert.DProj.main_arg2) = m ((c.tc : Thread Cert.DProj.nD Cert.DProj.τ).loc Cert.DProj.main_arg2)
      ∧ r.2.mem ((c.tc : Thread Cert.DProj.nD Cert.DProj.τ).loc Cert.DProj.main_arg3) = m ((c.tc : Thread Cert.DProj.nD Cert.DProj.τ).loc Cert.DProj.main_arg3))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3))
      ∧ r.2.sem = fun _ => 0)

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)) (v2 : (c : Dev Cert.StepIdeal.nD) → Buf (Elt Ideal) ((c.tc : Thread Cert.StepIdeal.nD Cert.StepIdeal.τ).loc Cert.StepIdeal.main_v8_2)) (v3 : (c : Dev Cert.StepIdeal.nD) → Buf (Elt Ideal) ((c.tc : Thread Cert.StepIdeal.nD Cert.StepIdeal.τ).loc Cert.StepIdeal.main_v8_3)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_v8_2) = v2 c
          ∧ r.2.mem ((c.tc : Thread Cert.StepIdeal.nD Cert.StepIdeal.τ).loc Cert.StepIdeal.main_v8_3) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v85) = v0 c
          ∧ r.2.mem ((c.tc : Thread Cert.StepRefIdeal.nD Cert.StepRefIdeal.τ).loc Cert.StepRefIdeal.main_v77) = v1 c
          ∧ r.2.mem ((c.tc : Thread Cert.StepRefIdeal.nD Cert.StepRefIdeal.τ).loc Cert.StepRefIdeal.main_v84) = v2 c
          ∧ r.2.mem ((c.tc : Thread Cert.StepRefIdeal.nD Cert.StepRefIdeal.τ).loc Cert.StepRefIdeal.main_v87) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v23_0)) (v1 : (c : Dev Cert.ProjIdeal.nD) → Buf (Elt Ideal) ((c.tc : Thread Cert.ProjIdeal.nD Cert.ProjIdeal.τ).loc Cert.ProjIdeal.main_v23_1)) (v2 : (c : Dev Cert.ProjIdeal.nD) → Buf (Elt Ideal) ((c.tc : Thread Cert.ProjIdeal.nD Cert.ProjIdeal.τ).loc Cert.ProjIdeal.main_v23_2)) (v3 : (c : Dev Cert.ProjIdeal.nD) → Buf (Elt Ideal) ((c.tc : Thread Cert.ProjIdeal.nD Cert.ProjIdeal.τ).loc Cert.ProjIdeal.main_v23_3)) (v4 : (c : Dev Cert.ProjIdeal.nD) → Buf (Elt Ideal) ((c.tc : Thread Cert.ProjIdeal.nD Cert.ProjIdeal.τ).loc Cert.ProjIdeal.main_v23_4)) (v5 : (c : Dev Cert.ProjIdeal.nD) → Buf (Elt Ideal) ((c.tc : Thread Cert.ProjIdeal.nD Cert.ProjIdeal.τ).loc Cert.ProjIdeal.main_v23_5)) (v6 : (c : Dev Cert.ProjIdeal.nD) → Buf (Elt Ideal) ((c.tc : Thread Cert.ProjIdeal.nD Cert.ProjIdeal.τ).loc Cert.ProjIdeal.main_v23_6)) (v7 : (c : Dev Cert.ProjIdeal.nD) → Buf (Elt Ideal) ((c.tc : Thread Cert.ProjIdeal.nD Cert.ProjIdeal.τ).loc Cert.ProjIdeal.main_v23_7)) (v8 : (c : Dev Cert.ProjIdeal.nD) → Buf (Elt Ideal) ((c.tc : Thread Cert.ProjIdeal.nD Cert.ProjIdeal.τ).loc Cert.ProjIdeal.main_v23_8)) (v9 : (c : Dev Cert.ProjIdeal.nD) → Buf (Elt Ideal) ((c.tc : Thread Cert.ProjIdeal.nD Cert.ProjIdeal.τ).loc Cert.ProjIdeal.main_v23_9)) (v10 : (c : Dev Cert.ProjIdeal.nD) → Buf (Elt Ideal) ((c.tc : Thread Cert.ProjIdeal.nD Cert.ProjIdeal.τ).loc Cert.ProjIdeal.main_v23_10)) (v11 : (c : Dev Cert.ProjIdeal.nD) → Buf (Elt Ideal) ((c.tc : Thread Cert.ProjIdeal.nD Cert.ProjIdeal.τ).loc Cert.ProjIdeal.main_v23_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23_0) = v0 c
          ∧ r.2.mem ((c.tc : Thread Cert.ProjIdeal.nD Cert.ProjIdeal.τ).loc Cert.ProjIdeal.main_v23_1) = v1 c
          ∧ r.2.mem ((c.tc : Thread Cert.ProjIdeal.nD Cert.ProjIdeal.τ).loc Cert.ProjIdeal.main_v23_2) = v2 c
          ∧ r.2.mem ((c.tc : Thread Cert.ProjIdeal.nD Cert.ProjIdeal.τ).loc Cert.ProjIdeal.main_v23_3) = v3 c
          ∧ r.2.mem ((c.tc : Thread Cert.ProjIdeal.nD Cert.ProjIdeal.τ).loc Cert.ProjIdeal.main_v23_4) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_v23_6) = v6 c
          ∧ r.2.mem ((c.tc : Thread Cert.ProjIdeal.nD Cert.ProjIdeal.τ).loc Cert.ProjIdeal.main_v23_7) = v7 c
          ∧ r.2.mem ((c.tc : Thread Cert.ProjIdeal.nD Cert.ProjIdeal.τ).loc Cert.ProjIdeal.main_v23_8) = v8 c
          ∧ r.2.mem ((c.tc : Thread Cert.ProjIdeal.nD Cert.ProjIdeal.τ).loc Cert.ProjIdeal.main_v23_9) = v9 c
          ∧ r.2.mem ((c.tc : Thread Cert.ProjIdeal.nD Cert.ProjIdeal.τ).loc Cert.ProjIdeal.main_v23_10) = v10 c
          ∧ r.2.mem ((c.tc : Thread Cert.ProjIdeal.nD Cert.ProjIdeal.τ).loc Cert.ProjIdeal.main_v23_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v34) = v1 c
          ∧ r.2.mem ((c.tc : Thread Cert.ProjRefIdeal.nD Cert.ProjRefIdeal.τ).loc Cert.ProjRefIdeal.main_v38) = v2 c
          ∧ r.2.mem ((c.tc : Thread Cert.ProjRefIdeal.nD Cert.ProjRefIdeal.τ).loc Cert.ProjRefIdeal.main_v40) = v3 c
          ∧ r.2.mem ((c.tc : Thread Cert.ProjRefIdeal.nD Cert.ProjRefIdeal.τ).loc Cert.ProjRefIdeal.main_v41) = v4 c
          ∧ r.2.mem ((c.tc : Thread Cert.ProjRefIdeal.nD Cert.ProjRefIdeal.τ).loc Cert.ProjRefIdeal.main_v32) = v5 c
          ∧ r.2.mem ((c.tc : Thread Cert.ProjRefIdeal.nD Cert.ProjRefIdeal.τ).loc Cert.ProjRefIdeal.main_v44) = v6 c
          ∧ r.2.mem ((c.tc : Thread Cert.ProjRefIdeal.nD Cert.ProjRefIdeal.τ).loc Cert.ProjRefIdeal.main_v47) = v7 c
          ∧ r.2.mem ((c.tc : Thread Cert.ProjRefIdeal.nD Cert.ProjRefIdeal.τ).loc Cert.ProjRefIdeal.main_v50) = v8 c
          ∧ r.2.mem ((c.tc : Thread Cert.ProjRefIdeal.nD Cert.ProjRefIdeal.τ).loc Cert.ProjRefIdeal.main_v53) = v9 c
          ∧ r.2.mem ((c.tc : Thread Cert.ProjRefIdeal.nD Cert.ProjRefIdeal.τ).loc Cert.ProjRefIdeal.main_v54) = v10 c
          ∧ r.2.mem ((c.tc : Thread Cert.ProjRefIdeal.nD Cert.ProjRefIdeal.τ).loc Cert.ProjRefIdeal.main_v56) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Mlps_MlpsIdeal : Prop :=
  True

def algebraic_MlpsIdeal_MlpsRefIdeal [hMlpsIdeal : Cert.MlpsIdeal.Facts] [hMlpsRefIdeal : Cert.MlpsRefIdeal.Facts] : Prop :=
  ∀ (m : (ℓ : Loc Cert.MlpsIdeal.nD Cert.MlpsIdeal.τ Cert.MlpsIdeal.sig) → Buf (Elt Ideal) ℓ) (g : Dev Cert.MlpsIdeal.nD → PrngReg)
    (m' : (ℓ : Loc Cert.MlpsRefIdeal.nD Cert.MlpsRefIdeal.τ Cert.MlpsRefIdeal.sig) → Buf (Elt Ideal) ℓ) (g' : Dev Cert.MlpsRefIdeal.nD → PrngReg), Pre_MlpsIdeal m →
    (∀ c : Dev Cert.MlpsIdeal.nD,
      m' ((c.tc : Thread Cert.MlpsRefIdeal.nD Cert.MlpsRefIdeal.τ).loc Cert.MlpsRefIdeal.main_arg0) = m ((c.tc : Thread Cert.MlpsIdeal.nD Cert.MlpsIdeal.τ).loc Cert.MlpsIdeal.main_arg0)
      ∧ m' ((c.tc : Thread Cert.MlpsRefIdeal.nD Cert.MlpsRefIdeal.τ).loc Cert.MlpsRefIdeal.main_arg1) = m ((c.tc : Thread Cert.MlpsIdeal.nD Cert.MlpsIdeal.τ).loc Cert.MlpsIdeal.main_arg1)
      ∧ m' ((c.tc : Thread Cert.MlpsRefIdeal.nD Cert.MlpsRefIdeal.τ).loc Cert.MlpsRefIdeal.main_arg2) = m ((c.tc : Thread Cert.MlpsIdeal.nD Cert.MlpsIdeal.τ).loc Cert.MlpsIdeal.main_arg2)
      ∧ m' ((c.tc : Thread Cert.MlpsRefIdeal.nD Cert.MlpsRefIdeal.τ).loc Cert.MlpsRefIdeal.main_arg3) = m ((c.tc : Thread Cert.MlpsIdeal.nD Cert.MlpsIdeal.τ).loc Cert.MlpsIdeal.main_arg3)
      ∧ m' ((c.tc : Thread Cert.MlpsRefIdeal.nD Cert.MlpsRefIdeal.τ).loc Cert.MlpsRefIdeal.main_arg4) = m ((c.tc : Thread Cert.MlpsIdeal.nD Cert.MlpsIdeal.τ).loc Cert.MlpsIdeal.main_arg4)
      ∧ m' ((c.tc : Thread Cert.MlpsRefIdeal.nD Cert.MlpsRefIdeal.τ).loc Cert.MlpsRefIdeal.main_arg5) = m ((c.tc : Thread Cert.MlpsIdeal.nD Cert.MlpsIdeal.τ).loc Cert.MlpsIdeal.main_arg5)
      ∧ m' ((c.tc : Thread Cert.MlpsRefIdeal.nD Cert.MlpsRefIdeal.τ).loc Cert.MlpsRefIdeal.main_arg6) = m ((c.tc : Thread Cert.MlpsIdeal.nD Cert.MlpsIdeal.τ).loc Cert.MlpsIdeal.main_arg6)
      ∧ m' ((c.tc : Thread Cert.MlpsRefIdeal.nD Cert.MlpsRefIdeal.τ).loc Cert.MlpsRefIdeal.main_arg7) = m ((c.tc : Thread Cert.MlpsIdeal.nD Cert.MlpsIdeal.τ).loc Cert.MlpsIdeal.main_arg7)) →
    ∃ (v0 : (c : Dev Cert.MlpsIdeal.nD) → Buf (Elt Ideal) ((c.tc : Thread Cert.MlpsIdeal.nD Cert.MlpsIdeal.τ).loc Cert.MlpsIdeal.main_v10)),
      θ_run (Cert.MlpsIdeal.defs (F := Ideal)) (onTc (τ := Cert.MlpsIdeal.τ) (Cert.MlpsIdeal.main (F := Ideal))) ⟨m, fun _ => 0, g⟩ (fun r => ∀ c : Dev Cert.MlpsIdeal.nD,
          r.2.mem ((c.tc : Thread Cert.MlpsIdeal.nD Cert.MlpsIdeal.τ).loc Cert.MlpsIdeal.main_v10) = v0 c
          ∧ r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
          ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
          ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
          ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
          ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4)
          ∧ r.2.mem ((c.tc : Thread Cert.MlpsIdeal.nD Cert.MlpsIdeal.τ).loc Cert.MlpsIdeal.main_arg5) = m ((c.tc : Thread Cert.MlpsIdeal.nD Cert.MlpsIdeal.τ).loc Cert.MlpsIdeal.main_arg5)
          ∧ r.2.mem ((c.tc : Thread Cert.MlpsIdeal.nD Cert.MlpsIdeal.τ).loc Cert.MlpsIdeal.main_arg6) = m ((c.tc : Thread Cert.MlpsIdeal.nD Cert.MlpsIdeal.τ).loc Cert.MlpsIdeal.main_arg6)
          ∧ r.2.mem ((c.tc : Thread Cert.MlpsIdeal.nD Cert.MlpsIdeal.τ).loc Cert.MlpsIdeal.main_arg7) = m ((c.tc : Thread Cert.MlpsIdeal.nD Cert.MlpsIdeal.τ).loc Cert.MlpsIdeal.main_arg7))
      ∧ θ_run (Cert.MlpsRefIdeal.defs (F := Ideal)) (onTc (τ := Cert.MlpsRefIdeal.τ) (Cert.MlpsRefIdeal.main (F := Ideal))) ⟨m', fun _ => 0, g'⟩ (fun r => ∀ c : Dev Cert.MlpsRefIdeal.nD,
          r.2.mem ((c.tc : Thread Cert.MlpsRefIdeal.nD Cert.MlpsRefIdeal.τ).loc Cert.MlpsRefIdeal.main_v39) = v0 c
          ∧ r.2.mem ((c.tc : Thread Cert.MlpsRefIdeal.nD Cert.MlpsRefIdeal.τ).loc Cert.MlpsRefIdeal.main_arg0) = m' ((c.tc : Thread Cert.MlpsRefIdeal.nD Cert.MlpsRefIdeal.τ).loc Cert.MlpsRefIdeal.main_arg0)
          ∧ r.2.mem ((c.tc : Thread Cert.MlpsRefIdeal.nD Cert.MlpsRefIdeal.τ).loc Cert.MlpsRefIdeal.main_arg1) = m' ((c.tc : Thread Cert.MlpsRefIdeal.nD Cert.MlpsRefIdeal.τ).loc Cert.MlpsRefIdeal.main_arg1)
          ∧ r.2.mem ((c.tc : Thread Cert.MlpsRefIdeal.nD Cert.MlpsRefIdeal.τ).loc Cert.MlpsRefIdeal.main_arg2) = m' ((c.tc : Thread Cert.MlpsRefIdeal.nD Cert.MlpsRefIdeal.τ).loc Cert.MlpsRefIdeal.main_arg2)
          ∧ r.2.mem ((c.tc : Thread Cert.MlpsRefIdeal.nD Cert.MlpsRefIdeal.τ).loc Cert.MlpsRefIdeal.main_arg3) = m' ((c.tc : Thread Cert.MlpsRefIdeal.nD Cert.MlpsRefIdeal.τ).loc Cert.MlpsRefIdeal.main_arg3)
          ∧ r.2.mem ((c.tc : Thread Cert.MlpsRefIdeal.nD Cert.MlpsRefIdeal.τ).loc Cert.MlpsRefIdeal.main_arg4) = m' ((c.tc : Thread Cert.MlpsRefIdeal.nD Cert.MlpsRefIdeal.τ).loc Cert.MlpsRefIdeal.main_arg4)
          ∧ r.2.mem ((c.tc : Thread Cert.MlpsRefIdeal.nD Cert.MlpsRefIdeal.τ).loc Cert.MlpsRefIdeal.main_arg5) = m' ((c.tc : Thread Cert.MlpsRefIdeal.nD Cert.MlpsRefIdeal.τ).loc Cert.MlpsRefIdeal.main_arg5)
          ∧ r.2.mem ((c.tc : Thread Cert.MlpsRefIdeal.nD Cert.MlpsRefIdeal.τ).loc Cert.MlpsRefIdeal.main_arg6) = m' ((c.tc : Thread Cert.MlpsRefIdeal.nD Cert.MlpsRefIdeal.τ).loc Cert.MlpsRefIdeal.main_arg6)
          ∧ r.2.mem ((c.tc : Thread Cert.MlpsRefIdeal.nD Cert.MlpsRefIdeal.τ).loc Cert.MlpsRefIdeal.main_arg7) = m' ((c.tc : Thread Cert.MlpsRefIdeal.nD Cert.MlpsRefIdeal.τ).loc Cert.MlpsRefIdeal.main_arg7))

def preserves_Rec_RecIdeal : Prop :=
  True

def algebraic_RecIdeal_RecRefIdeal_pre_gates_alike_and_finite [hRecIdeal : Cert.RecIdeal.Facts] [hRecRefIdeal : Cert.RecRefIdeal.Facts] [hPre_gates_alike_and_finite : Cert.Pre_gates_alike_and_finite.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal_gates_alike_and_finite m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)) →
    ∃ (v0 : (c : Dev Cert.RecIdeal.nD) → Buf (Elt Ideal) ((c.tc : Thread Cert.RecIdeal.nD Cert.RecIdeal.τ).loc Cert.RecIdeal.main_v2_0)) (v1 : (c : Dev Cert.RecIdeal.nD) → Buf (Elt Ideal) ((c.tc : Thread Cert.RecIdeal.nD Cert.RecIdeal.τ).loc Cert.RecIdeal.main_v2_1)) (v2 : (c : Dev Cert.RecIdeal.nD) → Buf (Elt Ideal) ((c.tc : Thread Cert.RecIdeal.nD Cert.RecIdeal.τ).loc Cert.RecIdeal.main_v2_2)) (v3 : (c : Dev Cert.RecIdeal.nD) → Buf (Elt Ideal) ((c.tc : Thread Cert.RecIdeal.nD Cert.RecIdeal.τ).loc Cert.RecIdeal.main_v2_3)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v2_0) = v0 c
          ∧ r.2.mem ((c.tc : Thread Cert.RecIdeal.nD Cert.RecIdeal.τ).loc Cert.RecIdeal.main_v2_1) = v1 c
          ∧ r.2.mem ((c.tc : Thread Cert.RecIdeal.nD Cert.RecIdeal.τ).loc Cert.RecIdeal.main_v2_2) = v2 c
          ∧ r.2.mem ((c.tc : Thread Cert.RecIdeal.nD Cert.RecIdeal.τ).loc Cert.RecIdeal.main_v2_3) = v3 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v78) = v0 c
          ∧ r.2.mem ((c.tc : Thread Cert.RecRefIdeal.nD Cert.RecRefIdeal.τ).loc Cert.RecRefIdeal.main_v76) = v1 c
          ∧ r.2.mem ((c.tc : Thread Cert.RecRefIdeal.nD Cert.RecRefIdeal.τ).loc Cert.RecRefIdeal.main_v77) = v2 c
          ∧ r.2.mem ((c.tc : Thread Cert.RecRefIdeal.nD Cert.RecRefIdeal.τ).loc Cert.RecRefIdeal.main_v80) = v3 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6))

def preserves_DProj_DProjIdeal : Prop :=
  True

def algebraic_DProjIdeal_DProjRefIdeal [hDProjIdeal : Cert.DProjIdeal.Facts] [hDProjRefIdeal : Cert.DProjRefIdeal.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)
      ∧ m' ((c.tc : Thread Cert.DProjRefIdeal.nD Cert.DProjRefIdeal.τ).loc Cert.DProjRefIdeal.main_arg2) = m ((c.tc : Thread Cert.DProjIdeal.nD Cert.DProjIdeal.τ).loc Cert.DProjIdeal.main_arg2)
      ∧ m' ((c.tc : Thread Cert.DProjRefIdeal.nD Cert.DProjRefIdeal.τ).loc Cert.DProjRefIdeal.main_arg3) = m ((c.tc : Thread Cert.DProjIdeal.nD Cert.DProjIdeal.τ).loc Cert.DProjIdeal.main_arg3)) →
    ∃ (v0 : (c : Dev Cert.DProjIdeal.nD) → Buf (Elt Ideal) ((c.tc : Thread Cert.DProjIdeal.nD Cert.DProjIdeal.τ).loc Cert.DProjIdeal.main_v13_0)) (v1 : (c : Dev Cert.DProjIdeal.nD) → Buf (Elt Ideal) ((c.tc : Thread Cert.DProjIdeal.nD Cert.DProjIdeal.τ).loc Cert.DProjIdeal.main_v13_1)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v13_0) = v0 c
          ∧ r.2.mem ((c.tc : Thread Cert.DProjIdeal.nD Cert.DProjIdeal.τ).loc Cert.DProjIdeal.main_v13_1) = v1 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
          ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
          ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v22) = v0 c
          ∧ r.2.mem ((c.tc : Thread Cert.DProjRefIdeal.nD Cert.DProjRefIdeal.τ).loc Cert.DProjRefIdeal.main_v23) = v1 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1)
          ∧ r.2.mem ((c.tc : Thread Cert.DProjRefIdeal.nD Cert.DProjRefIdeal.τ).loc Cert.DProjRefIdeal.main_arg2) = m' ((c.tc : Thread Cert.DProjRefIdeal.nD Cert.DProjRefIdeal.τ).loc Cert.DProjRefIdeal.main_arg2)
          ∧ r.2.mem ((c.tc : Thread Cert.DProjRefIdeal.nD Cert.DProjRefIdeal.τ).loc Cert.DProjRefIdeal.main_arg3) = m' ((c.tc : Thread Cert.DProjRefIdeal.nD Cert.DProjRefIdeal.τ).loc Cert.DProjRefIdeal.main_arg3))

def Claim : Prop :=
  ∃ (hStep : Cert.Step.Facts) (hStepIdeal : Cert.StepIdeal.Facts) (hStepRefIdeal : Cert.StepRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hMlps : Cert.Mlps.Facts) (hMlpsIdeal : Cert.MlpsIdeal.Facts) (hMlpsRefIdeal : Cert.MlpsRefIdeal.Facts) (hRec : Cert.Rec.Facts) (hRecIdeal : Cert.RecIdeal.Facts) (hRecRefIdeal : Cert.RecRefIdeal.Facts) (hDProj : Cert.DProj.Facts) (hDProjIdeal : Cert.DProjIdeal.Facts) (hDProjRefIdeal : Cert.DProjRefIdeal.Facts) (hPre_gates_alike_and_finite : Cert.Pre_gates_alike_and_finite.Facts),
    quiescent_Step (hStep := hStep)
    ∧ quiescent_StepIdeal (hStepIdeal := hStepIdeal)
    ∧ quiescent_StepRefIdeal (hStepRefIdeal := hStepRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Mlps (hMlps := hMlps)
    ∧ quiescent_MlpsIdeal (hMlpsIdeal := hMlpsIdeal)
    ∧ quiescent_MlpsRefIdeal (hMlpsRefIdeal := hMlpsRefIdeal)
    ∧ quiescent_Rec (hRec := hRec)
    ∧ quiescent_RecIdeal (hRecIdeal := hRecIdeal)
    ∧ quiescent_RecIdeal_pre_gates_alike_and_finite (hRecIdeal := hRecIdeal) (hPre_gates_alike_and_finite := hPre_gates_alike_and_finite)
    ∧ quiescent_RecRefIdeal (hRecRefIdeal := hRecRefIdeal)
    ∧ quiescent_RecRefIdeal_pre_gates_alike_and_finite (hRecRefIdeal := hRecRefIdeal) (hPre_gates_alike_and_finite := hPre_gates_alike_and_finite)
    ∧ quiescent_DProj (hDProj := hDProj)
    ∧ quiescent_DProjIdeal (hDProjIdeal := hDProjIdeal)
    ∧ quiescent_DProjRefIdeal (hDProjRefIdeal := hDProjRefIdeal)
    ∧ preserves_Step_StepIdeal
    ∧ algebraic_StepIdeal_StepRefIdeal (hStepIdeal := hStepIdeal) (hStepRefIdeal := hStepRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Mlps_MlpsIdeal
    ∧ algebraic_MlpsIdeal_MlpsRefIdeal (hMlpsIdeal := hMlpsIdeal) (hMlpsRefIdeal := hMlpsRefIdeal)
    ∧ preserves_Rec_RecIdeal
    ∧ algebraic_RecIdeal_RecRefIdeal_pre_gates_alike_and_finite (hRecIdeal := hRecIdeal) (hRecRefIdeal := hRecRefIdeal) (hPre_gates_alike_and_finite := hPre_gates_alike_and_finite)
    ∧ preserves_DProj_DProjIdeal
    ∧ algebraic_DProjIdeal_DProjRefIdeal (hDProjIdeal := hDProjIdeal) (hDProjRefIdeal := hDProjRefIdeal)
-- ==== Pre_gates_alike_and_finite.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S16384x8 : Shape := ⟨2, ![16384, 8]⟩
abbrev S_ : Shape := ⟨0, ![]⟩
abbrev S8x16384 : Shape := ⟨2, ![8, 16384]⟩
abbrev S16384x520 : Shape := ⟨2, ![16384, 520]⟩

class Facts : Prop where
  slices_S16384x128_S16384x8_0_0 : S16384x128.Slices ![0, 0] S16384x8
  bitsLt_bf16_f32 : FTy.bits .bf16 < FTy.bits .f32
  bcast_S_S16384x512 : S_.BroadcastsInDim S16384x512 (![] : Fin 0 → Fin S16384x512.rank)
  bcast_S_S16384x8 : S_.BroadcastsInDim S16384x8 (![] : Fin 0 → Fin S16384x8.rank)
  slices_S16x16384_S8x16384_0_0 : S16x16384.Slices ![0, 0] S8x16384
  transposes_S8x16384_S16384x8_1_0 : S8x16384.Transposes [1, 0] S16384x8
  concatenates_S16384x512_S16384x8_S16384x520_d1 : Shape.Concatenates [S16384x512, S16384x8] S16384x520 1

variable [Facts]

def fn_part1 {F : FTy → Type} [FloatOps F] (main_v0 : FVec F S16384x8 .f32) (main_v14 : IVec S16384x512 1) (main_v17 : IVec S16384x8 1) (main_v19 : FVec F S16384x8 .f32) : IVec S16384x520 1 :=
  let main_v20 : IVec S16384x8 1 := cmpf .oeq main_v19 main_v0
  let main_v21 : IVec S16384x8 1 := andi main_v17 main_v20
  let main_v22 : IVec S16384x520 1 := (fun a b => concatenate S16384x520 1 [⟨S16384x512, a⟩, ⟨S16384x8, b⟩] concatenates_S16384x512_S16384x8_S16384x520_d1) main_v14 main_v21
  main_v22

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S16384x128 .f32) (main_arg5 : FVec F S16x16384 .f32) (main_arg6 : FVec F S1x512 .f32) : IVec S16384x520 1 :=
  let main_v0 : FVec F S16384x8 .f32 := (extractStridedSlice S16384x8 ![0, 0] · slices_S16384x128_S16384x8_0_0) main_arg4
  let main_v1 : FVec F S16384x512 .f32 := (extf .f32 · bitsLt_bf16_f32) main_arg0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_v9 : IVec S16384x512 1 := andi main_v4 main_v8
  let main_v10 : FVec F S16384x512 .f32 := (extf .f32 · bitsLt_bf16_f32) main_arg2
  let main_v11 : FVec F S16384x512 .f32 := Host.absf main_v10
  let main_cst_1 : FVec F S_ .f32 := constant S_ .f32 0x7F800000#32
  let main_v12 : FVec F S16384x512 .f32 := broadcastInDim S16384x512 ![] bcast_S_S16384x512 main_cst_1
  let main_v13 : IVec S16384x512 1 := cmpf .olt main_v11 main_v12
  let main_v14 : IVec S16384x512 1 := andi main_v9 main_v13
  let main_v15 : FVec F S16384x8 .f32 := Host.absf main_v0
  let main_cst_2 : FVec F S_ .f32 := constant S_ .f32 0x7F800000#32
  let main_v16 : FVec F S16384x8 .f32 := broadcastInDim S16384x8 ![] bcast_S_S16384x8 main_cst_2
  let main_v17 : IVec S16384x8 1 := cmpf .olt main_v15 main_v16
  let main_v18 : FVec F S8x16384 .f32 := (extractStridedSlice S8x16384 ![0, 0] · slices_S16x16384_S8x16384_0_0) main_arg5
  let main_v19 : FVec F S16384x8 .f32 := (transpose S16384x8 [1, 0] · transposes_S8x16384_S16384x8_1_0) main_v18
  fn_part1 (F := F) main_v0 main_v14 main_v17 main_v19
-- ==== Step.lean ====
abbrev S32x3584 : Shape := ⟨2, ![32, 3584]⟩
abbrev S32x128 : Shape := ⟨2, ![32, 128]⟩
abbrev S1x32x4x128x128 : Shape := ⟨5, ![1, 32, 4, 128, 128]⟩
abbrev S1x32x4x128 : Shape := ⟨4, ![1, 32, 4, 128]⟩
abbrev S1x32x4 : Shape := ⟨3, ![1, 32, 4]⟩
abbrev S1x512 : Shape := ⟨2, ![1, 512]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S32x1x3584 : Shape := ⟨3, ![32, 1, 3584]⟩
abbrev S32x1x128 : Shape := ⟨3, ![32, 1, 128]⟩
abbrev S32x1x4 : Shape := ⟨3, ![32, 1, 4]⟩
abbrev S32x1x512 : Shape := ⟨3, ![32, 1, 512]⟩
abbrev S1x1x3584 : Shape := ⟨3, ![1, 1, 3584]⟩
abbrev S1x1x128 : Shape := ⟨3, ![1, 1, 128]⟩
abbrev S1x4x128x128 : Shape := ⟨4, ![1, 4, 128, 128]⟩
abbrev S1x4x128 : Shape := ⟨3, ![1, 4, 128]⟩
abbrev S1x1x4 : Shape := ⟨3, ![1, 1, 4]⟩
abbrev S1x1x512 : Shape := ⟨3, ![1, 1, 512]⟩
abbrev S128x128 : Shape := ⟨2, ![128, 128]⟩
abbrev S1x128 : Shape := ⟨2, ![1, 128]⟩
abbrev S1x1 : Shape := ⟨2, ![1, 1]⟩
abbrev S1x1x1 : Shape := ⟨3, ![1, 1, 1]⟩
abbrev S1x1x128x128 : Shape := ⟨4, ![1, 1, 128, 128]⟩
abbrev S1 : Shape := ⟨1, ![1]⟩
abbrev S128 : Shape := ⟨1, ![128]⟩
abbrev S128x1 : Shape := ⟨2, ![128, 1]⟩

abbrev nBuf : Space → Nat
  | .hbm => 18
  | .vmem => 19
  | .smem => 0
  | _ => 0

abbrev bufTy : (tb : Table) → Fin (tcTables nBuf tb) → BufTy
  | .hbm, ⟨0, _⟩ => ⟨S32x3584, .f32⟩
  | .hbm, ⟨1, _⟩ => ⟨S32x128, .f32⟩
  | .hbm, ⟨2, _⟩ => ⟨S1x32x4x128x128, .f32⟩
  | .hbm, ⟨3, _⟩ => ⟨S1x32x4x128, .f32⟩
  | .hbm, ⟨4, _⟩ => ⟨S1x32x4, .f32⟩
  | .hbm, ⟨5, _⟩ => ⟨S1x512, .f32⟩
  | .hbm, ⟨6, _⟩ => ⟨S32x4x128x128, .f32⟩
  | .hbm, ⟨7, _⟩ => ⟨S32x4x128, .f32⟩
  | .hbm, ⟨8, _⟩ => ⟨S32x4, .f32⟩
  | .hbm, ⟨9, _⟩ => ⟨S512, .f32⟩
  | .hbm, ⟨10, _⟩ => ⟨S1x512, .f32⟩
  | .hbm, ⟨11, _⟩ => ⟨S32x1x3584, .f32⟩
  | .hbm, ⟨12, _⟩ => ⟨S32x1x128, .f32⟩
  | .hbm, ⟨13, _⟩ => ⟨S32x1x4, .f32⟩
  | .hbm, ⟨14, _⟩ => ⟨S32x1x512, .bf16⟩
  | .hbm, ⟨15, _⟩ => ⟨S32x4x128x128, .f32⟩
  | .hbm, ⟨16, _⟩ => ⟨S32x4x128, .f32⟩
  | .hbm, ⟨17, _⟩ => ⟨S32x4x128, .f32⟩
  | .local _ .vmem, ⟨0, _⟩ => ⟨S1x1x3584, .f32⟩
  | .local _ .vmem, ⟨1, _⟩ => ⟨S1x1x3584, .f32⟩
  | .local _ .vmem, ⟨2, _⟩ => ⟨S1x1x128, .f32⟩
  | .local _ .vmem, ⟨3, _⟩ => ⟨S1x1x128, .f32⟩
  | .local _ .vmem, ⟨4, _⟩ => ⟨S1x4x128x128, .f32⟩
  | .local _ .vmem, ⟨5, _⟩ => ⟨S1x4x128x128, .f32⟩
  | .local _ .vmem, ⟨6, _⟩ => ⟨S1x4x128, .f32⟩
  | .local _ .vmem, ⟨7, _⟩ => ⟨S1x4x128, .f32⟩
  | .local _ .vmem, ⟨8, _⟩ => ⟨S1x1x4, .f32⟩
  | .local _ .vmem, ⟨9, _⟩ => ⟨S1x1x4, .f32⟩
  | .local _ .vmem, ⟨10, _⟩ => ⟨S1x512, .f32⟩
  | .local _ .vmem, ⟨11, _⟩ => ⟨S1x1x512, .bf16⟩
  | .local _ .vmem, ⟨12, _⟩ => ⟨S1x1x512, .bf16⟩
  | .local _ .vmem, ⟨13, _⟩ => ⟨S1x4x128x128, .f32⟩
  | .local _ .vmem, ⟨14, _⟩ => ⟨S1x4x128x128, .f32⟩
  | .local _ .vmem, ⟨15, _⟩ => ⟨S1x4x128, .f32⟩
  | .local _ .vmem, ⟨16, _⟩ => ⟨S1x4x128, .f32⟩
  | .local _ .vmem, ⟨17, _⟩ => ⟨S1x4x128, .f32⟩
  | .local _ .vmem, ⟨18, _⟩ => ⟨S1x4x128, .f32⟩
  | _, _ => ⟨S32x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== StepRefIdeal.lean ====
abbrev S32x3584 : Shape := ⟨2, ![32, 3584]⟩
abbrev S32x128 : Shape := ⟨2, ![32, 128]⟩
abbrev S1x32x4x128x128 : Shape := ⟨5, ![1, 32, 4, 128, 128]⟩
abbrev S1x32x4x128 : Shape := ⟨4, ![1, 32, 4, 128]⟩
abbrev S1x32x4 : Shape := ⟨3, ![1, 32, 4]⟩
abbrev S1x512 : Shape := ⟨2, ![1, 512]⟩
abbrev S32x512 : Shape := ⟨2, ![32, 512]⟩
abbrev S32x4x128 : Shape := ⟨3, ![32, 4, 128]⟩
abbrev S_ : Shape := ⟨0, ![]⟩
abbrev S32x4 : Shape := ⟨2, ![32, 4]⟩
abbrev S32x4x128x128 : Shape := ⟨4, ![32, 4, 128, 128]⟩
abbrev S32x4x1 : Shape := ⟨3, ![32, 4, 1]⟩
abbrev S512 : Shape := ⟨1, ![512]⟩
abbrev S4x128 : Shape := ⟨2, ![4, 128]⟩
abbrev S1x4x128 : Shape := ⟨3, ![1, 4, 128]⟩
abbrev S32x1x512 : Shape := ⟨3, ![32, 1, 512]⟩
abbrev S32x4x1x1 : Shape := ⟨4, ![32, 4, 1, 1]⟩
abbrev S32x4x128x1 : Shape := ⟨4, ![32, 4, 128, 1]⟩
abbrev S32x4x1x128 : Shape := ⟨4, ![32, 4, 1, 128]⟩

abbrev nBuf : Space → Nat
  | .hbm => 115
  | .vmem => 0
  | .smem => 0
  | _ => 0

abbrev bufTy : (tb : Table) → Fin (tcTables nBuf tb) → BufTy
  | .hbm, ⟨0, _⟩ => ⟨S32x3584, .f32⟩
  | .hbm, ⟨1, _⟩ => ⟨S32x128, .f32⟩
  | .hbm, ⟨2, _⟩ => ⟨S1x32x4x128x128, .f32⟩
  | .hbm, ⟨3, _⟩ => ⟨S1x32x4x128, .f32⟩
  | .hbm, ⟨4, _⟩ => ⟨S1x32x4, .f32⟩
  | .hbm, ⟨5, _⟩ => ⟨S1x512, .f32⟩
  | .hbm, ⟨6, _⟩ => ⟨S32x512, .f32⟩
  | .hbm, ⟨7, _⟩ => ⟨S32x4x128, .f32⟩
  | .hbm, ⟨8, _⟩ => ⟨S_, .f32⟩
  | .hbm, ⟨9, _⟩ => ⟨S32x4x128, .f32⟩
  | .hbm, ⟨10, _⟩ => ⟨S32x4x128, .f32⟩
  | .hbm, ⟨11, _⟩ => ⟨S32x512, .f32⟩
  | .hbm, ⟨12, _⟩ => ⟨S32x4x128, .f32⟩
  | .hbm, ⟨13, _⟩ => ⟨S32x512, .f32⟩
  | .hbm, ⟨14, _⟩ => ⟨S32x4x128, .f32⟩
  | .hbm, ⟨15, _⟩ => ⟨S32x512, .f32⟩
  | .hbm, ⟨16, _⟩ => ⟨S32x4, .f32⟩
  | .hbm, ⟨17, _⟩ => ⟨S32x4, .f32⟩
  | .hbm, ⟨18, _⟩ => ⟨S32x4, .f32⟩
  | .hbm, ⟨19, _⟩ => ⟨S_, .f32⟩
  | .hbm, ⟨20, _⟩ => ⟨S32x4, .f32⟩
  | .hbm, ⟨21, _⟩ => ⟨S32x4, .f32⟩
  | .hbm, ⟨22, _⟩ => ⟨S32x4, .f32⟩
  | .hbm, ⟨23, _⟩ => ⟨S32x4, .f32⟩
  | .hbm, ⟨24, _⟩ => ⟨S32x4, .i1⟩
  | .hbm, ⟨25, _⟩ => ⟨S32x4, .f32⟩
  | .hbm, ⟨26, _⟩ => ⟨S32x4, .f32⟩
  | .hbm, ⟨27, _⟩ => ⟨S32x4, .f32⟩
  | .hbm, ⟨28, _⟩ => ⟨S32x4, .f32⟩
  | .hbm, ⟨29, _⟩ => ⟨S32x4, .f32⟩
  | .hbm, ⟨30, _⟩ => ⟨S32x4, .f32⟩
  | .hbm, ⟨31, _⟩ => ⟨S32x4, .f32⟩
  | .hbm, ⟨32, _⟩ => ⟨S32x4, .f32⟩
  | .hbm, ⟨33, _⟩ => ⟨S32x4, .f32⟩
  | .hbm, ⟨34, _⟩ => ⟨S32x4x128x128, .f32⟩
  | .hbm, ⟨35, _⟩ => ⟨S32x4x128, .f32⟩
  | .hbm, ⟨36, _⟩ => ⟨S32x4, .f32⟩
  | .hbm, ⟨37, _⟩ => ⟨S32x4, .f32⟩
  | .hbm, ⟨38, _⟩ => ⟨S32x4, .f32⟩
  | .hbm, ⟨39, _⟩ => ⟨S32x4, .f32⟩
  | .hbm, ⟨40, _⟩ => ⟨S32x4, .f32⟩
  | .hbm, ⟨41, _⟩ => ⟨S32x4, .f32⟩
  | .hbm, ⟨42, _⟩ => ⟨S32x4, .f32⟩
  | .hbm, ⟨43, _⟩ => ⟨S32x4, .f32⟩
  | .hbm, ⟨44, _⟩ => ⟨S32x4, .f32⟩
  | .hbm, ⟨45, _⟩ => ⟨S32x4, .f32⟩
  | .hbm, ⟨46, _⟩ => ⟨S32x4x1, .f32⟩
  | .hbm, ⟨47, _⟩ => ⟨S32x4x128, .f32⟩
  | .hbm, ⟨48, _⟩ => ⟨S32x4x128, .f32⟩
  | .hbm, ⟨49, _⟩ => ⟨S32x4x1, .f32⟩
  | .hbm, ⟨50, _⟩ => ⟨S32x4x128, .f32⟩
  | .hbm, ⟨51, _⟩ => ⟨S32x4x128, .f32⟩
  | .hbm, ⟨52, _⟩ => ⟨S32x4x128, .f32⟩
  | .hbm, ⟨53, _⟩ => ⟨S32x4x128, .f32⟩
  | .hbm, ⟨54, _⟩ => ⟨S32x4, .f32⟩
  | .hbm, ⟨55, _⟩ => ⟨S32x4, .f32⟩
  | .hbm, ⟨56, _⟩ => ⟨S32x4, .f32⟩
  | .hbm, ⟨57, _⟩ => ⟨S32x4, .f32⟩
  | .hbm, ⟨58, _⟩ => ⟨S32x4, .f32⟩
  | .hbm, ⟨59, _⟩ => ⟨S32x4, .f32⟩
  | .hbm, ⟨60, _⟩ => ⟨S32x4, .f32⟩
  | .hbm, ⟨61, _⟩ => ⟨S32x4x1, .f32⟩
  | .hbm, ⟨62, _⟩ => ⟨S32x4x128, .f32⟩
  | .hbm, ⟨63, _⟩ => ⟨S32x4x128, .f32⟩
  | .hbm, ⟨64, _⟩ => ⟨S32x4x128, .f32⟩
  | .hbm, ⟨65, _⟩ => ⟨S_, .f32⟩
  | .hbm, ⟨66, _⟩ => ⟨S32x4, .f32⟩
  | .hbm, ⟨67, _⟩ => ⟨S32x4x1, .f32⟩
  | .hbm, ⟨68, _⟩ => ⟨S_, .f32⟩
  | .hbm, ⟨69, _⟩ => ⟨S32x4x1, .f32⟩
  | .hbm, ⟨70, _⟩ => ⟨S32x4x1, .f32⟩
  | .hbm, ⟨71, _⟩ => ⟨S_, .f32⟩
  | .hbm, ⟨72, _⟩ => ⟨S32x4x1, .f32⟩
  | .hbm, ⟨73, _⟩ => ⟨S32x4x1, .f32⟩
  | .hbm, ⟨74, _⟩ => ⟨S32x4x1, .f32⟩
  | .hbm, ⟨75, _⟩ => ⟨S32x4x128, .f32⟩
  | .hbm, ⟨76, _⟩ => ⟨S32x4x128, .f32⟩
  | .hbm, ⟨77, _⟩ => ⟨S512, .f32⟩
  | .hbm, ⟨78, _⟩ => ⟨S4x128, .f32⟩
  | .hbm, ⟨79, _⟩ => ⟨S1x4x128, .f32⟩
  | .hbm, ⟨80, _⟩ => ⟨S32x4x128, .f32⟩
  | .hbm, ⟨81, _⟩ => ⟨S32x4x128, .f32⟩
  | .hbm, ⟨82, _⟩ => ⟨S32x1x512, .f32⟩
  | .hbm, ⟨83, _⟩ => ⟨S32x512, .f32⟩
  | .hbm, ⟨84, _⟩ => ⟨S32x512, .f32⟩
  | .hbm, ⟨85, _⟩ => ⟨S_, .f32⟩
  | .hbm, ⟨86, _⟩ => ⟨S32x512, .f32⟩
  | .hbm, ⟨87, _⟩ => ⟨S32x512, .f32⟩
  | .hbm, ⟨88, _⟩ => ⟨S_, .f32⟩
  | .hbm, ⟨89, _⟩ => ⟨S32x512, .f32⟩
  | .hbm, ⟨90, _⟩ => ⟨S32x512, .f32⟩
  | .hbm, ⟨91, _⟩ => ⟨S32x1x512, .f32⟩
  | .hbm, ⟨92, _⟩ => ⟨S32x1x512, .f32⟩
  | .hbm, ⟨93, _⟩ => ⟨S32x4x1x1, .f32⟩
  | .hbm, ⟨94, _⟩ => ⟨S32x4x128x128, .f32⟩
  | .hbm, ⟨95, _⟩ => ⟨S32x4x128x128, .f32⟩
  | .hbm, ⟨96, _⟩ => ⟨S32x4x1, .f32⟩
  | .hbm, ⟨97, _⟩ => ⟨S32x4x128, .f32⟩
  | .hbm, ⟨98, _⟩ => ⟨S32x4x128, .f32⟩
  | .hbm, ⟨99, _⟩ => ⟨S32x4x128x1, .f32⟩
  | .hbm, ⟨100, _⟩ => ⟨S32x4x1x128, .f32⟩
  | .hbm, ⟨101, _⟩ => ⟨S32x4x128x128, .f32⟩
  | .hbm, ⟨102, _⟩ => ⟨S32x4x128x128, .f32⟩
  | .hbm, ⟨103, _⟩ => ⟨S32x4x128x128, .f32⟩
  | .hbm, ⟨104, _⟩ => ⟨S32x4x128x128, .f32⟩
  | .hbm, ⟨105, _⟩ => ⟨S32x4x1, .f32⟩
  | .hbm, ⟨106, _⟩ => ⟨S32x4x128, .f32⟩
  | .hbm, ⟨107, _⟩ => ⟨S32x4x128, .f32⟩
  | .hbm, ⟨108, _⟩ => ⟨S32x4x1, .f32⟩
  | .hbm, ⟨109, _⟩ => ⟨S32x4x128, .f32⟩
  | .hbm, ⟨110, _⟩ => ⟨S32x4x128, .f32⟩
  | .hbm, ⟨111, _⟩ => ⟨S32x4x128, .f32⟩
  | .hbm, ⟨112, _⟩ => ⟨S32x1x512, .bf16⟩
  | .hbm, ⟨113, _⟩ => ⟨S32x4x1, .f32⟩
  | .hbm, ⟨114, _⟩ => ⟨S32x4x128, .f32⟩
  | _, _ => ⟨S32x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_0 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_3 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Mlp.lean ====
abbrev S4x4096x1024 : Shape := ⟨3, ![4, 4096, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 19
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S4x4096x1024 : Shape := ⟨3, ![4, 4096, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .bf16⟩
  | .hbm, ⟨9, _⟩ => ⟨S16384x1024, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S4096x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proj.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S1x1024x3584 : Shape := ⟨3, ![1, 1024, 3584]⟩
abbrev S1024x3584 : Shape := ⟨2, ![1024, 3584]⟩
abbrev S1x1024x1024 : Shape := ⟨3, ![1, 1024, 1024]⟩
abbrev S1024x1024 : Shape := ⟨2, ![1024, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S16x1024 : Shape := ⟨2, ![16, 1024]⟩
abbrev S8 : Shape := ⟨1, ![8]⟩
abbrev S128 : Shape := ⟨1, ![128]⟩
abbrev S1x128 : Shape := ⟨2, ![1, 128]⟩
abbrev S16 : Shape := ⟨1, ![16]⟩
abbrev S16x1 : Shape := ⟨2, ![16, 1]⟩
abbrev S16384x1024 : Shape := ⟨2, ![16384, 1024]⟩
abbrev S1024 : Shape := ⟨1, ![1024]⟩
abbrev S4x512x4096 : Shape := ⟨3, ![4, 512, 4096]⟩
abbrev S16384x512 : Shape := ⟨2, ![16384, 512]⟩
abbrev S64x512x256 : Shape := ⟨3, ![64, 512, 256]⟩
abbrev S64x1x512 : Shape := ⟨3, ![64, 1, 512]⟩
abbrev S16384x128 : Shape := ⟨2, ![16384, 128]⟩
abbrev S16x16384 : Shape := ⟨2, ![16, 16384]⟩
abbrev S256x1024 : Shape := ⟨2, ![256, 1024]⟩
abbrev S1x512x256 : Shape := ⟨3, ![1, 512, 256]⟩
abbrev S256x512 : Shape := ⟨2, ![256, 512]⟩
abbrev S1x1x512 : Shape := ⟨3, ![1, 1, 512]⟩
abbrev S256x128 : Shape := ⟨2, ![256, 128]⟩
abbrev S16x256 : Shape := ⟨2, ![16, 256]⟩
abbrev S256 : Shape := ⟨1, ![256]⟩
abbrev S256x1 : Shape := ⟨2, ![256, 1]⟩
abbrev S1024x512 : Shape := ⟨2, ![1024, 512]⟩
abbrev S512 : Shape := ⟨1, ![512]⟩
abbrev S1x512 : Shape := ⟨2, ![1, 512]⟩
abbrev S512x1024 : Shape := ⟨2, ![512, 1024]⟩
abbrev S512x256 : Shape := ⟨2, ![512, 256]⟩

abbrev nBuf : Space → Nat
  | .hbm => 47
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1x1024x3584, .f32⟩
  | .hbm, ⟨5, _⟩ => ⟨S1024x3584, .f32⟩
  | .hbm, ⟨6, _⟩ => ⟨S1024x3584, .bf16⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x8, .f32⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8x1024, .f32⟩
  | .hbm, ⟨18, _⟩ => ⟨S_, .i32⟩
  | .hbm, ⟨19, _⟩ => ⟨S_, .f32⟩
  | .hbm, ⟨20, _⟩ => ⟨S16x1024, .f32⟩
  | .hbm, ⟨21, _⟩ => ⟨S16x1024, .bf16⟩
  | .hbm, ⟨22, _⟩ => ⟨S8, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S16384x1024, .f32⟩
  | .hbm, ⟨33, _⟩ => ⟨S1024, .f32⟩
  | .hbm, ⟨34, _⟩ => ⟨S1x1024, .f32⟩
  | .hbm, ⟨35, _⟩ => ⟨S4x512x4096, .f32⟩
  | .hbm, ⟨36, _⟩ => ⟨S4x512x4096, .f32⟩
  | .hbm, ⟨37, _⟩ => ⟨S16384x512, .bf16⟩
  | .hbm, ⟨38, _⟩ => ⟨S16384x512, .bf16⟩
  | .hbm, ⟨39, _⟩ => ⟨S64x512x256, .bf16⟩
  | .hbm, ⟨40, _⟩ => ⟨S64x1x512, .f32⟩
  | .hbm, ⟨41, _⟩ => ⟨S16384x512, .bf16⟩
  | .hbm, ⟨42, _⟩ => ⟨S16384x512, .bf16⟩
  | .hbm, ⟨43, _⟩ => ⟨S16384x512, .bf16⟩
  | .hbm, ⟨44, _⟩ => ⟨S16384x512, .bf16⟩
  | .hbm, ⟨45, _⟩ => ⟨S16384x128, .f32⟩
  | .hbm, ⟨46, _⟩ => ⟨S16x16384, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S1024x1024, .bf16⟩
  | .local _ .vmem, ⟨5, _⟩ => ⟨S1024x128, .bf16⟩
  | .local _ .vmem, ⟨6, _⟩ => ⟨S16x1024, .bf16⟩
  | .local _ .vmem, ⟨7, _⟩ => ⟨S1x128, .f32⟩
  | .local _ .vmem, ⟨8, _⟩ => ⟨S16x1, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x512x256, .bf16⟩
  | .local _ .vmem, ⟨18, _⟩ => ⟨S1x512x256, .bf16⟩
  | .local _ .vmem, ⟨19, _⟩ => ⟨S1x1x512, .f32⟩
  | .local _ .vmem, ⟨20, _⟩ => ⟨S1x1x512, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x128, .f32⟩
  | .local _ .vmem, ⟨30, _⟩ => ⟨S256x128, .f32⟩
  | .local _ .vmem, ⟨31, _⟩ => ⟨S16x256, .f32⟩
  | .local _ .vmem, ⟨32, _⟩ => ⟨S16x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call2_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_call3_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v23_6 : Ref sig .tc := ⟨.hbm, 41, rfl⟩
abbrev main_v23_7 : Ref sig .tc := ⟨.hbm, 42, rfl⟩
abbrev main_v23_8 : Ref sig .tc := ⟨.hbm, 43, rfl⟩
abbrev main_v23_9 : Ref sig .tc := ⟨.hbm, 44, rfl⟩
abbrev main_v23_10 : Ref sig .tc := ⟨.hbm, 45, rfl⟩
abbrev main_v23_11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3592 : Shape := ⟨2, ![1024, 3592]⟩
abbrev S4x4096x3592 : Shape := ⟨3, ![4, 4096, 3592]⟩
abbrev S4x4096x512 : Shape := ⟨3, ![4, 4096, 512]⟩
abbrev S4x4096x8 : Shape := ⟨3, ![4, 4096, 8]⟩
abbrev S8 : Shape := ⟨1, ![8]⟩
abbrev S1x1x8 : Shape := ⟨3, ![1, 1, 8]⟩
abbrev S16384x8 : Shape := ⟨2, ![16384, 8]⟩
abbrev S16384x512 : Shape := ⟨2, ![16384, 512]⟩
abbrev S64x256x512 : Shape := ⟨3, ![64, 256, 512]⟩
abbrev S64x512x256 : Shape := ⟨3, ![64, 512, 256]⟩
abbrev S64x512 : Shape := ⟨2, ![64, 512]⟩
abbrev S64x1x512 : Shape := ⟨3, ![64, 1, 512]⟩
abbrev S4x512x4096 : Shape := ⟨3, ![4, 512, 4096]⟩
abbrev S16384x128 : Shape := ⟨2, ![16384, 128]⟩
abbrev S8x16384 : Shape := ⟨2, ![8, 16384]⟩
abbrev S16x16384 : Shape := ⟨2, ![16, 16384]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x3592, .f32⟩
  | .hbm, ⟨22, _⟩ => ⟨S4x4096x3592, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x8, .f32⟩
  | .hbm, ⟨27, _⟩ => ⟨S8, .f32⟩
  | .hbm, ⟨28, _⟩ => ⟨S1x1x8, .f32⟩
  | .hbm, ⟨29, _⟩ => ⟨S4x4096x8, .f32⟩
  | .hbm, ⟨30, _⟩ => ⟨S4x4096x8, .f32⟩
  | .hbm, ⟨31, _⟩ => ⟨S16384x8, .f32⟩
  | .hbm, ⟨32, _⟩ => ⟨S16384x512, .f32⟩
  | .hbm, ⟨33, _⟩ => ⟨S64x256x512, .f32⟩
  | .hbm, ⟨34, _⟩ => ⟨S64x512x256, .f32⟩
  | .hbm, ⟨35, _⟩ => ⟨S64x256x512, .f32⟩
  | .hbm, ⟨36, _⟩ => ⟨S_, .f32⟩
  | .hbm, ⟨37, _⟩ => ⟨S64x512, .f32⟩
  | .hbm, ⟨38, _⟩ => ⟨S64x1x512, .f32⟩
  | .hbm, ⟨39, _⟩ => ⟨S_, .f32⟩
  | .hbm, ⟨40, _⟩ => ⟨S64x1x512, .f32⟩
  | .hbm, ⟨41, _⟩ => ⟨S64x1x512, .f32⟩
  | .hbm, ⟨42, _⟩ => ⟨S4x512x4096, .f32⟩
  | .hbm, ⟨43, _⟩ => ⟨S4x512x4096, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .bf16⟩
  | .hbm, ⟨49, _⟩ => ⟨S16384x512, .f32⟩
  | .hbm, ⟨50, _⟩ => ⟨S16384x512, .bf16⟩
  | .hbm, ⟨51, _⟩ => ⟨S64x512x256, .bf16⟩
  | .hbm, ⟨52, _⟩ => ⟨S4x4096x512, .f32⟩
  | .hbm, ⟨53, _⟩ => ⟨S16384x512, .f32⟩
  | .hbm, ⟨54, _⟩ => ⟨S16384x512, .bf16⟩
  | .hbm, ⟨55, _⟩ => ⟨S4x4096x512, .f32⟩
  | .hbm, ⟨56, _⟩ => ⟨S16384x512, .f32⟩
  | .hbm, ⟨57, _⟩ => ⟨S16384x512, .bf16⟩
  | .hbm, ⟨58, _⟩ => ⟨S4x4096x512, .f32⟩
  | .hbm, ⟨59, _⟩ => ⟨S16384x512, .f32⟩
  | .hbm, ⟨60, _⟩ => ⟨S16384x512, .bf16⟩
  | .hbm, ⟨61, _⟩ => ⟨S4x4096x512, .f32⟩
  | .hbm, ⟨62, _⟩ => ⟨S16384x512, .f32⟩
  | .hbm, ⟨63, _⟩ => ⟨S16384x512, .bf16⟩
  | .hbm, ⟨64, _⟩ => ⟨S_, .i32⟩
  | .hbm, ⟨65, _⟩ => ⟨S_, .f32⟩
  | .hbm, ⟨66, _⟩ => ⟨S16384x128, .f32⟩
  | .hbm, ⟨67, _⟩ => ⟨S8x16384, .f32⟩
  | .hbm, ⟨68, _⟩ => ⟨S_, .i32⟩
  | .hbm, ⟨69, _⟩ => ⟨S_, .f32⟩
  | .hbm, ⟨70, _⟩ => ⟨S16x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c : Ref sig .tc := ⟨.hbm, 64, rfl⟩
abbrev main_call0_v0 : Ref sig .tc := ⟨.hbm, 65, rfl⟩
abbrev main_v54 : Ref sig .tc := ⟨.hbm, 66, rfl⟩
abbrev main_v55 : Ref sig .tc := ⟨.hbm, 67, rfl⟩
abbrev main_c_5 : Ref sig .tc := ⟨.hbm, 68, rfl⟩
abbrev main_call1_v0 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Mlps.lean ====
abbrev S32x1x1024 : Shape := ⟨3, ![32, 1, 1024]⟩
abbrev S32x512 : Shape := ⟨2, ![32, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S32x1024 : Shape := ⟨2, ![32, 1024]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S32 : Shape := ⟨1, ![32]⟩
abbrev S32x1 : Shape := ⟨2, ![32, 1]⟩

abbrev nBuf : Space → Nat
  | .hbm => 19
  | .vmem => 14
  | .smem => 0
  | _ => 0

abbrev bufTy : (tb : Table) → Fin (tcTables nBuf tb) → BufTy
  | .hbm, ⟨0, _⟩ => ⟨S32x1x1024, .f32⟩
  | .hbm, ⟨1, _⟩ => ⟨S32x512, .bf16⟩
  | .hbm, ⟨2, _⟩ => ⟨S32x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S32x1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S32x1024, .f32⟩
  | .local _ .vmem, ⟨0, _⟩ => ⟨S32x1024, .f32⟩
  | .local _ .vmem, ⟨1, _⟩ => ⟨S32x512, .bf16⟩
  | .local _ .vmem, ⟨2, _⟩ => ⟨S32x512, .bf16⟩
  | .local _ .vmem, ⟨3, _⟩ => ⟨S1024x1024, .bf16⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .bf16⟩
  | .local _ .vmem, ⟨13, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MlpsRefIdeal.lean ====
abbrev S32x1x1024 : Shape := ⟨3, ![32, 1, 1024]⟩
abbrev S32x512 : Shape := ⟨2, ![32, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S32x1024 : Shape := ⟨2, ![32, 1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1024x4096 : Shape := ⟨2, ![1024, 4096]⟩
abbrev S32x4096 : Shape := ⟨2, ![32, 4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x512, .bf16⟩
  | .hbm, ⟨2, _⟩ => ⟨S32x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S32x1024, .bf16⟩
  | .hbm, ⟨9, _⟩ => ⟨S32x1024, .f32⟩
  | .hbm, ⟨10, _⟩ => ⟨S32x1024, .f32⟩
  | .hbm, ⟨11, _⟩ => ⟨S1024x1024, .f32⟩
  | .hbm, ⟨12, _⟩ => ⟨S32x1024, .f32⟩
  | .hbm, ⟨13, _⟩ => ⟨S32x1024, .f32⟩
  | .hbm, ⟨14, _⟩ => ⟨S1024, .f32⟩
  | .hbm, ⟨15, _⟩ => ⟨S32x1024, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S32x1, .f32⟩
  | .hbm, ⟨26, _⟩ => ⟨S32x1024, .f32⟩
  | .hbm, ⟨27, _⟩ => ⟨S32x1024, .f32⟩
  | .hbm, ⟨28, _⟩ => ⟨S1x1024, .f32⟩
  | .hbm, ⟨29, _⟩ => ⟨S32x1024, .f32⟩
  | .hbm, ⟨30, _⟩ => ⟨S32x1024, .f32⟩
  | .hbm, ⟨31, _⟩ => ⟨S1024x4096, .f32⟩
  | .hbm, ⟨32, _⟩ => ⟨S32x4096, .f32⟩
  | .hbm, ⟨33, _⟩ => ⟨S_, .f32⟩
  | .hbm, ⟨34, _⟩ => ⟨S32x4096, .f32⟩
  | .hbm, ⟨35, _⟩ => ⟨S32x4096, .f32⟩
  | .hbm, ⟨36, _⟩ => ⟨S32x4096, .f32⟩
  | .hbm, ⟨37, _⟩ => ⟨S4096x1024, .f32⟩
  | .hbm, ⟨38, _⟩ => ⟨S32x1024, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x1024, .f32⟩
  | .hbm, ⟨52, _⟩ => ⟨S32x1024, .f32⟩
  | .hbm, ⟨53, _⟩ => ⟨S1x1024, .f32⟩
  | .hbm, ⟨54, _⟩ => ⟨S32x1024, .f32⟩
  | .hbm, ⟨55, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Rec.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S512 : Shape := ⟨1, ![512]⟩
abbrev S4x4x128x128 : Shape := ⟨4, ![4, 4, 128, 128]⟩
abbrev S4x4x128 : Shape := ⟨3, ![4, 4, 128]⟩
abbrev S256x512 : Shape := ⟨2, ![256, 512]⟩
abbrev S256x128 : Shape := ⟨2, ![256, 128]⟩
abbrev S16x256 : Shape := ⟨2, ![16, 256]⟩
abbrev S1x4x128x128 : Shape := ⟨4, ![1, 4, 128, 128]⟩
abbrev S1x4x128 : Shape := ⟨3, ![1, 4, 128]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S1x1x1 : Shape := ⟨3, ![1, 1, 1]⟩
abbrev S1x1 : Shape := ⟨2, ![1, 1]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 13
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S16x16384, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S16384x512, .bf16⟩
  | .hbm, ⟨10, _⟩ => ⟨S4x4x128x128, .f32⟩
  | .hbm, ⟨11, _⟩ => ⟨S4x4x128, .f32⟩
  | .hbm, ⟨12, _⟩ => ⟨S4x4x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S16x256, .f32⟩
  | .local _ .vmem, ⟨11, _⟩ => ⟨S16x256, .f32⟩
  | .local _ .vmem, ⟨12, _⟩ => ⟨S1x512, .f32⟩
  | .local _ .vmem, ⟨13, _⟩ => ⟨S256x512, .bf16⟩
  | .local _ .vmem, ⟨14, _⟩ => ⟨S256x512, .bf16⟩
  | .local _ .vmem, ⟨15, _⟩ => ⟨S1x4x128x128, .f32⟩
  | .local _ .vmem, ⟨16, _⟩ => ⟨S1x4x128x128, .f32⟩
  | .local _ .vmem, ⟨17, _⟩ => ⟨S1x4x128, .f32⟩
  | .local _ .vmem, ⟨18, _⟩ => ⟨S1x4x128, .f32⟩
  | .local _ .vmem, ⟨19, _⟩ => ⟨S1x4x128, .f32⟩
  | .local _ .vmem, ⟨20, _⟩ => ⟨S1x4x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RecRefIdeal.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S4x4096x4x128 : Shape := ⟨4, ![4, 4096, 4, 128]⟩
abbrev S_ : Shape := ⟨0, ![]⟩
abbrev S4x4096x128 : Shape := ⟨3, ![4, 4096, 128]⟩
abbrev S4x128x4096 : Shape := ⟨3, ![4, 128, 4096]⟩
abbrev S4x4x4096 : Shape := ⟨3, ![4, 4, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x1x4096 : Shape := ⟨4, ![4, 4, 1, 4096]⟩
abbrev S4x4x4096x4096 : Shape := ⟨4, ![4, 4, 4096, 4096]⟩
abbrev S4x4x4096x1 : Shape := ⟨4, ![4, 4, 4096, 1]⟩
abbrev S4x4x4096x128 : Shape := ⟨4, ![4, 4, 4096, 128]⟩
abbrev S4x4096x4 : Shape := ⟨3, ![4, 4096, 4]⟩
abbrev S4x4096x4x1 : Shape := ⟨4, ![4, 4096, 4, 1]⟩
abbrev S4x4x128x128 : Shape := ⟨4, ![4, 4, 128, 128]⟩
abbrev S4x4x128 : Shape := ⟨3, ![4, 4, 128]⟩
abbrev S4x4x1 : Shape := ⟨3, ![4, 4, 1]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S16x16384, .f32⟩
  | .hbm, ⟨6, _⟩ => ⟨S1x512, .f32⟩
  | .hbm, ⟨7, _⟩ => ⟨S16384x512, .f32⟩
  | .hbm, ⟨8, _⟩ => ⟨S4x4096x4x128, .f32⟩
  | .hbm, ⟨9, _⟩ => ⟨S_, .f32⟩
  | .hbm, ⟨10, _⟩ => ⟨S4x4096x4x128, .f32⟩
  | .hbm, ⟨11, _⟩ => ⟨S4x4096x4x128, .f32⟩
  | .hbm, ⟨12, _⟩ => ⟨S16384x512, .f32⟩
  | .hbm, ⟨13, _⟩ => ⟨S4x4096x4x128, .f32⟩
  | .hbm, ⟨14, _⟩ => ⟨S16384x512, .f32⟩
  | .hbm, ⟨15, _⟩ => ⟨S4x4096x4x128, .f32⟩
  | .hbm, ⟨16, _⟩ => ⟨S4x4096x128, .f32⟩
  | .hbm, ⟨17, _⟩ => ⟨S4x128x4096, .f32⟩
  | .hbm, ⟨18, _⟩ => ⟨S4x4x4096, .f32⟩
  | .hbm, ⟨19, _⟩ => ⟨S4x4x4096, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S4x4x4096, .f32⟩
  | .hbm, ⟨25, _⟩ => ⟨S4x4x4096, .f32⟩
  | .hbm, ⟨26, _⟩ => ⟨S4x4x4096, .i1⟩
  | .hbm, ⟨27, _⟩ => ⟨S4x4x4096, .f32⟩
  | .hbm, ⟨28, _⟩ => ⟨S4x4x4096, .f32⟩
  | .hbm, ⟨29, _⟩ => ⟨S4x4x4096, .f32⟩
  | .hbm, ⟨30, _⟩ => ⟨S4x4x4096, .f32⟩
  | .hbm, ⟨31, _⟩ => ⟨S4x4x4096, .f32⟩
  | .hbm, ⟨32, _⟩ => ⟨S4x4x4096, .f32⟩
  | .hbm, ⟨33, _⟩ => ⟨S4x4x4096, .f32⟩
  | .hbm, ⟨34, _⟩ => ⟨S4x4x4096, .f32⟩
  | .hbm, ⟨35, _⟩ => ⟨S4x4x4096, .f32⟩
  | .hbm, ⟨36, _⟩ => ⟨S4096, .i32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S4x4x1x4096, .f32⟩
  | .hbm, ⟨43, _⟩ => ⟨S_, .f32⟩
  | .hbm, ⟨44, _⟩ => ⟨S_, .f32⟩
  | .hbm, ⟨45, _⟩ => ⟨S4x4x4096x4096, .i1⟩
  | .hbm, ⟨46, _⟩ => ⟨S4x4x4096x4096, .f32⟩
  | .hbm, ⟨47, _⟩ => ⟨S4x4x4096x4096, .f32⟩
  | .hbm, ⟨48, _⟩ => ⟨S4x4x4096x4096, .f32⟩
  | .hbm, ⟨49, _⟩ => ⟨S_, .f32⟩
  | .hbm, ⟨50, _⟩ => ⟨S4x4x4096, .f32⟩
  | .hbm, ⟨51, _⟩ => ⟨S4x4x4096x1, .f32⟩
  | .hbm, ⟨52, _⟩ => ⟨S4x4x1x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x1x4096, .f32⟩
  | .hbm, ⟨57, _⟩ => ⟨S4x4x4096x4096, .f32⟩
  | .hbm, ⟨58, _⟩ => ⟨S4x4x4096x4096, .f32⟩
  | .hbm, ⟨59, _⟩ => ⟨S_, .f32⟩
  | .hbm, ⟨60, _⟩ => ⟨S_, .f32⟩
  | .hbm, ⟨61, _⟩ => ⟨S4x4x4096x4096, .i1⟩
  | .hbm, ⟨62, _⟩ => ⟨S4x4x4096x4096, .f32⟩
  | .hbm, ⟨63, _⟩ => ⟨S4x4x4096x4096, .f32⟩
  | .hbm, ⟨64, _⟩ => ⟨S_, .f32⟩
  | .hbm, ⟨65, _⟩ => ⟨S4x4x4096, .f32⟩
  | .hbm, ⟨66, _⟩ => ⟨S4x4x4096, .f32⟩
  | .hbm, ⟨67, _⟩ => ⟨S4x4x4096x1, .f32⟩
  | .hbm, ⟨68, _⟩ => ⟨S4x4x4096x4096, .f32⟩
  | .hbm, ⟨69, _⟩ => ⟨S4x4x4096x4096, .f32⟩
  | .hbm, ⟨70, _⟩ => ⟨S4x4x4096x4096, .f32⟩
  | .hbm, ⟨71, _⟩ => ⟨S4x4x4096x4096, .f32⟩
  | .hbm, ⟨72, _⟩ => ⟨S4x4x4096x4096, .f32⟩
  | .hbm, ⟨73, _⟩ => ⟨S4x4x4096x128, .f32⟩
  | .hbm, ⟨74, _⟩ => ⟨S_, .f32⟩
  | .hbm, ⟨75, _⟩ => ⟨S4x4x4096, .f32⟩
  | .hbm, ⟨76, _⟩ => ⟨S4x4x4096, .f32⟩
  | .hbm, ⟨77, _⟩ => ⟨S4x4x4096, .f32⟩
  | .hbm, ⟨78, _⟩ => ⟨S4x4x4096, .f32⟩
  | .hbm, ⟨79, _⟩ => ⟨S4x4x4096, .f32⟩
  | .hbm, ⟨80, _⟩ => ⟨S4x4x4096x1, .f32⟩
  | .hbm, ⟨81, _⟩ => ⟨S4x4x4096x128, .f32⟩
  | .hbm, ⟨82, _⟩ => ⟨S4x4x4096x128, .f32⟩
  | .hbm, ⟨83, _⟩ => ⟨S4x4x4096x128, .f32⟩
  | .hbm, ⟨84, _⟩ => ⟨S_, .f32⟩
  | .hbm, ⟨85, _⟩ => ⟨S4x4x4096, .f32⟩
  | .hbm, ⟨86, _⟩ => ⟨S4x4x4096x1, .f32⟩
  | .hbm, ⟨87, _⟩ => ⟨S_, .f32⟩
  | .hbm, ⟨88, _⟩ => ⟨S4x4x4096x1, .f32⟩
  | .hbm, ⟨89, _⟩ => ⟨S4x4x4096x1, .f32⟩
  | .hbm, ⟨90, _⟩ => ⟨S_, .f32⟩
  | .hbm, ⟨91, _⟩ => ⟨S4x4x4096x1, .f32⟩
  | .hbm, ⟨92, _⟩ => ⟨S4x4x4096x1, .f32⟩
  | .hbm, ⟨93, _⟩ => ⟨S4x4x4096x1, .f32⟩
  | .hbm, ⟨94, _⟩ => ⟨S4x4x4096x128, .f32⟩
  | .hbm, ⟨95, _⟩ => ⟨S4x4x4096x128, .f32⟩
  | .hbm, ⟨96, _⟩ => ⟨S4x4096x4x128, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S_, .f32⟩
  | .hbm, ⟨104, _⟩ => ⟨S16384x512, .f32⟩
  | .hbm, ⟨105, _⟩ => ⟨S16384x512, .f32⟩
  | .hbm, ⟨106, _⟩ => ⟨S_, .f32⟩
  | .hbm, ⟨107, _⟩ => ⟨S16384x512, .f32⟩
  | .hbm, ⟨108, _⟩ => ⟨S16384x512, .f32⟩
  | .hbm, ⟨109, _⟩ => ⟨S16384x512, .f32⟩
  | .hbm, ⟨110, _⟩ => ⟨S4x4x1x4096, .f32⟩
  | .hbm, ⟨111, _⟩ => ⟨S4x4x4096, .f32⟩
  | .hbm, ⟨112, _⟩ => ⟨S4x4096x4, .f32⟩
  | .hbm, ⟨113, _⟩ => ⟨S4x4096x4x1, .f32⟩
  | .hbm, ⟨114, _⟩ => ⟨S4x4096x4x128, .f32⟩
  | .hbm, ⟨115, _⟩ => ⟨S4x4096x4x128, .f32⟩
  | .hbm, ⟨116, _⟩ => ⟨S4x4x128x128, .f32⟩
  | .hbm, ⟨117, _⟩ => ⟨S_, .f32⟩
  | .hbm, ⟨118, _⟩ => ⟨S4x4x128, .f32⟩
  | .hbm, ⟨119, _⟩ => ⟨S16384x512, .bf16⟩
  | .hbm, ⟨120, _⟩ => ⟨S4x4x1, .f32⟩
  | .hbm, ⟨121, _⟩ => ⟨S4x4x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_5 : Ref sig .tc := ⟨.hbm, 84, rfl⟩
abbrev main_v49 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_8 : Ref sig .tc := ⟨.hbm, 103, rfl⟩
abbrev main_v65 : Ref sig .tc := ⟨.hbm, 104, rfl⟩
abbrev main_v66 : Ref sig .tc := ⟨.hbm, 105, rfl⟩
abbrev main_cst_9 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_10 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]
-- ==== DProj.lean ====
abbrev S32x1x1024 : Shape := ⟨3, ![32, 1, 1024]⟩
abbrev S1x1024 : Shape := ⟨2, ![1, 1024]⟩
abbrev S1x1024x3592 : Shape := ⟨3, ![1, 1024, 3592]⟩
abbrev S1x8 : Shape := ⟨2, ![1, 8]⟩
abbrev S1x1024x3584 : Shape := ⟨3, ![1, 1024, 3584]⟩
abbrev S1024x3584 : Shape := ⟨2, ![1024, 3584]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S32x1024 : Shape := ⟨2, ![32, 1024]⟩
abbrev S1024 : Shape := ⟨1, ![1024]⟩
abbrev S32x3584 : Shape := ⟨2, ![32, 3584]⟩
abbrev S32x128 : Shape := ⟨2, ![32, 128]⟩
abbrev S1024x512 : Shape := ⟨2, ![1024, 512]⟩
abbrev S32x512 : Shape := ⟨2, ![32, 512]⟩
abbrev S32 : Shape := ⟨1, ![32]⟩
abbrev S32x1 : Shape := ⟨2, ![32, 1]⟩

abbrev nBuf : Space → Nat
  | .hbm => 23
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1x1024x3584, .f32⟩
  | .hbm, ⟨5, _⟩ => ⟨S1024x3584, .f32⟩
  | .hbm, ⟨6, _⟩ => ⟨S1024x3584, .bf16⟩
  | .hbm, ⟨7, _⟩ => ⟨S1x1024x8, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S8, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32x1024, .f32⟩
  | .hbm, ⟨19, _⟩ => ⟨S1024, .f32⟩
  | .hbm, ⟨20, _⟩ => ⟨S1x1024, .f32⟩
  | .hbm, ⟨21, _⟩ => ⟨S32x3584, .f32⟩
  | .hbm, ⟨22, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1x128, .f32⟩
  | .local _ .vmem, ⟨6, _⟩ => ⟨S32x512, .f32⟩
  | .local _ .vmem, ⟨7, _⟩ => ⟨S32x512, .f32⟩
  | .local _ .vmem, ⟨8, _⟩ => ⟨S32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DProjRefIdeal.lean ====
abbrev S32x1x1024 : Shape := ⟨3, ![32, 1, 1024]⟩
abbrev S1x1024 : Shape := ⟨2, ![1, 1024]⟩
abbrev S1x1024x3592 : Shape := ⟨3, ![1, 1024, 3592]⟩
abbrev S1x8 : Shape := ⟨2, ![1, 8]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x3592 : Shape := ⟨2, ![1024, 3592]⟩
abbrev S32x1x3592 : Shape := ⟨3, ![32, 1, 3592]⟩
abbrev S32x3592 : Shape := ⟨2, ![32, 3592]⟩
abbrev S32x8 : Shape := ⟨2, ![32, 8]⟩
abbrev S8 : Shape := ⟨1, ![8]⟩
abbrev S32x3584 : Shape := ⟨2, ![32, 3584]⟩
abbrev S32x128 : Shape := ⟨2, ![32, 128]⟩

abbrev nBuf : Space → Nat
  | .hbm => 33
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S1024x3592, .f32⟩
  | .hbm, ⟨22, _⟩ => ⟨S32x1x3592, .f32⟩
  | .hbm, ⟨23, _⟩ => ⟨S32x3592, .f32⟩
  | .hbm, ⟨24, _⟩ => ⟨S32x8, .f32⟩
  | .hbm, ⟨25, _⟩ => ⟨S8, .f32⟩
  | .hbm, ⟨26, _⟩ => ⟨S1x8, .f32⟩
  | .hbm, ⟨27, _⟩ => ⟨S32x8, .f32⟩
  | .hbm, ⟨28, _⟩ => ⟨S32x8, .f32⟩
  | .hbm, ⟨29, _⟩ => ⟨S32x3584, .f32⟩
  | .hbm, ⟨30, _⟩ => ⟨S_, .i32⟩
  | .hbm, ⟨31, _⟩ => ⟨S_, .f32⟩
  | .hbm, ⟨32, _⟩ => ⟨S32x128, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.StepMath.lean ====
/-
  The scalar equations of one step of the recurrence (the decoding step of the matrix memory): the gates, the
  memory's update and the normalised read-out of one head, as functions of extended reals, and the three laws that
  bring the kernel's and the reference's spelling to them: the two spellings of the logarithm of the sigmoid, a row
  picked out of a diagonal mask, and a negation written as a difference from zero.
-/
module

public import Idealize.ShloMosaic.Lib.Pipeline.ValueKit
public import Idealize.ShloMosaic.Lib.Pointwise
public import Idealize.ShloMosaic.Lib.Tactic

@[expose] public section

noncomputable section

namespace StepMath

open Idealize.ShloMosaic

/-- The logarithm of the sigmoid, in the spelling that does not overflow. -/
def lsig (x : EReal) : EReal := min x 0 - Ideal.log1p (Ideal.exp (-max x (-x)))

/-- The new stabiliser of a head: from its input gate, its forget gate and the old stabiliser. -/
def mNew (i f m : EReal) : EReal := max (lsig f + m) i

/-- The weight of the new token. -/
def gIn (i f m : EReal) : EReal := Ideal.exp (i - mNew i f m)

/-- The weight of the old memory. -/
def gOld (i f m : EReal) : EReal := Ideal.exp (lsig f + m - mNew i f m)

/-- The read-out of the new memory at a lane: the query against the new outer product and against the old memory. -/
def hNum (i f m : EReal) (q k v : Fin 128 → EReal) (C : Fin 128 → Fin 128 → EReal) (e : Fin 128) : EReal :=
  (∑ d, q d * k d) * gIn i f m * v e + gOld i f m * ∑ d, q d * C d e

/-- The query against the new normaliser. -/
def hDen (i f m : EReal) (q k n : Fin 128 → EReal) : EReal :=
  (∑ d, q d * k d) * gIn i f m + gOld i f m * ∑ d, q d * n d

/-- The read-out divided by the larger of the normaliser and the stabiliser's bound. -/
def hRaw (i f m : EReal) (q k v n : Fin 128 → EReal) (C : Fin 128 → Fin 128 → EReal) (e : Fin 128) : EReal :=
  Ideal.div (hNum i f m q k v C e)
    (max (max (hDen i f m q k n) (-hDen i f m q k n)) (Ideal.exp (-mNew i f m)))

/-- The head's output at a lane: normalised over the head's lanes, weighted and gated. -/
def hOut (i f m : EReal) (q k v n : Fin 128 → EReal) (C : Fin 128 → Fin 128 → EReal) (w o : EReal) (e : Fin 128) : EReal :=
  hRaw i f m q k v n C e *
      Ideal.rsqrt (Ideal.div (∑ d, hRaw i f m q k v n C d * hRaw i f m q k v n C d) (Ideal.ofBits .f32 0x43000000#32)
        + Ideal.ofBits .f32 0x358637BD#32) * w * Ideal.logistic o

/-- The memory after the step at (key lane, value lane). -/
def newC (i f m c k v : EReal) : EReal := gOld i f m * c + gIn i f m * k * v

/-- The normaliser after the step. -/
def newN (i f m n k : EReal) : EReal := gOld i f m * n + gIn i f m * k

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The logarithm of one and something not negative is not minus infinity. -/
theorem log1p_ne_bot {x : EReal} (hx : 0 ≤ x) : Ideal.log1p x ≠ ⊥ := by
  induction x using EReal.rec with
  | bot => simp at hx
  | top =>
    rw [Ideal.log1p, EReal.add_top_of_ne_bot (show (1 : EReal) ≠ ⊥ from EReal.coe_ne_bot 1)]
    exact top_ne_bot
  | coe r =>
    have hr : 0 ≤ r := EReal.coe_nonneg.mp hx
    have h1 : (1 : EReal) + (r : EReal) = ((1 + r : ℝ) : EReal) := by rw [EReal.coe_add, EReal.coe_one]
    rw [Ideal.log1p, h1]
    show (if 1 + r ≤ 0 then ⊥ else (Real.log (1 + r) : EReal)) ≠ ⊥
    rw [if_neg (by linarith)]
    exact EReal.coe_ne_bot _

/-- The reference's spelling: minus the softplus of minus `x`. -/
theorem neg_softplus (x : EReal) :
    -(max (-x) 0 + Ideal.log1p (Ideal.exp (-max (-x) (- -x)))) = lsig x := by
  have hL := log1p_ne_bot (exp_nonneg (-max (-x) (- -x)))
  have hm : max (-x) 0 ≠ (⊥ : EReal) := fun h => by
    have := le_max_right (-x) (0 : EReal); rw [h] at this; simp at this
  rw [EReal.neg_add (.inl hm) (.inr hL)]
  unfold lsig
  rw [neg_neg, max_comm (-x) x]
  congr 1
  rcases le_total x 0 with h | h
  · rw [min_eq_left h, max_eq_left (by rw [← neg_zero (G := EReal)]; exact EReal.neg_le_neg_iff.mpr h), neg_neg]
  · rw [min_eq_right h, max_eq_right (by rw [← neg_zero (G := EReal)]; exact EReal.neg_le_neg_iff.mpr h), neg_zero]

/-- A sum along a diagonal mask picks its one term. -/
theorem eye_sum (a : Fin 128) (f : Fin 128 → EReal) :
    (∑ x : Fin 128, Scalar.select (IntOp.cmpi .eq (BitVec.ofNat 32 ↑a) (BitVec.ofNat 32 ↑x)) (f x) 0) = f a := by
  rw [Finset.sum_eq_single a]
  · simp [Scalar.select, IntOp.cmpi]
  · intro b _ hb
    have : ¬ (BitVec.ofNat 32 ↑a = BitVec.ofNat 32 ↑b) := by
      intro h
      have h' := congrArg BitVec.toNat h
      simp only [BitVec.toNat_ofNat] at h'
      have ha := a.isLt
      have hb' := b.isLt
      exact hb (Fin.ext (by omega))
    have hf : (BitVec.ofNat 32 ↑a == BitVec.ofNat 32 ↑b) = false := beq_eq_false_iff_ne.mpr this
    simp only [Scalar.select, IntOp.cmpi, hf]; rfl
  · intro h; exact absurd (Finset.mem_univ a) h

end StepMath
end
-- ==== Proof.StepValue.lean ====
/-
  What the decoding kernel's body leaves in its four result blocks, element by element: each head's stores are the
  scalar equations of `StepMath` at the loaded blocks.
-/
module

public import proofs.«01_k».proof.Proof.Gen.StepIdeal.Value
public import proofs.«01_k».proof.Proof.StepMath

@[expose] public section

set_option maxRecDepth 16384

noncomputable section

namespace Cert.StepIdeal.Hand

open Cert.StepIdeal Cert.StepIdeal.Gen Idealize.ShloMosaic Idealize.ShloMosaic.TcCoe Idealize.SL.Sem StepMath
open Idealize.ShloMosaic.Pipeline (Dat)

variable (x0 : Vec Ideal S1x1x3584 .f32) (x1 : Vec Ideal S1x1x128 .f32) (x2 : Vec Ideal S1x4x128x128 .f32)
    (x3 : Vec Ideal S1x4x128 .f32) (x4 : Vec Ideal S1x1x4 .f32) (x5 : Vec Ideal S1x512 .f32)

/-- A head's lanes of the projected row, from the segment's first lane. -/
def lane (o : ℕ) (h : Fin 4) (ho : o + 512 ≤ 3584) (d : Fin 128) : EReal :=
  x0 (ix3 0 0 ⟨o + 128 * h.val + d.val, by have := h.isLt; have := d.isLt; omega⟩)

/-- The head's query, scaled. -/
def hq (h : Fin 4) (d : Fin 128) : EReal := lane x0 1536 h (by omega) d * Ideal.ofBits .f32 0x3DB504F3#32

/-- The head's input gate. -/
def hi (h : Fin 4) : EReal := x1 (ix3 0 0 ⟨h.val, by have := h.isLt; omega⟩)

/-- The head's forget gate. -/
def hf (h : Fin 4) : EReal := x1 (ix3 0 0 ⟨4 + h.val, by have := h.isLt; omega⟩)

/-- The stabiliser's block. -/
theorem win9 (h : Fin 4) (d : Fin 128) :
    out0_9 x0 x1 x2 x3 x4 x5 (ix3 0 h d) = mNew (hi x1 h) (hf x1 h) (x4 (ix3 0 0 h)) := by
  unfold_out out0_9
  canon_tiles j hh
  all_goals (idx_vars j; open_payloads; try pointwise)
  case piece0 =>
    obtain rfl : h = 3 := Fin.ext (by have e := hh1; change h.val = 3 + j1.val at e; have := j1.isLt; show h.val = 3; omega)
    simp only [mNew, lsig, hi, hf, Ideal.absf_def, zero_sub]; rfl
  case piece1 =>
    obtain rfl : h = 2 := Fin.ext (by have e := hh1; change h.val = 2 + j1.val at e; have := j1.isLt; show h.val = 2; omega)
    simp only [mNew, lsig, hi, hf, Ideal.absf_def, zero_sub]; rfl
  case piece2 =>
    obtain rfl : h = 1 := Fin.ext (by have e := hh1; change h.val = 1 + j1.val at e; have := j1.isLt; show h.val = 1; omega)
    simp only [mNew, lsig, hi, hf, Ideal.absf_def, zero_sub]; rfl
  case piece3 =>
    obtain rfl : h = 0 := Fin.ext (by have e := hh1; change h.val = j1.val at e; have := j1.isLt; show h.val = 0; omega)
    simp only [mNew, lsig, hi, hf, Ideal.absf_def, zero_sub]; rfl

/-- The memory's block. -/
theorem win7 (h : Fin 4) (d e : Fin 128) :
    out0_7 x0 x1 x2 x3 x4 x5 (ix4 0 h d e) = newC (hi x1 h) (hf x1 h) (x4 (ix3 0 0 h)) (x2 (ix4 0 h d e))
      (lane x0 2048 h (by omega) d) (lane x0 2560 h (by omega) e) := by
  unfold_out out0_7
  canon_tiles j hh
  all_goals (idx_vars j; open_payloads; try pointwise)
  case piece0 =>
    obtain rfl : h = 3 := Fin.ext (by have e := hh1; change h.val = 3 + j1.val at e; have := j1.isLt; show h.val = 3; omega)
    obtain rfl : d = j2 := Fin.ext hh2
    obtain rfl : e = j3 := Fin.ext hh3
    simp only [eye_sum, newC, gIn, gOld, mNew, lsig, hi, hf, lane, Ideal.absf_def, zero_sub]; rfl
  case piece1 =>
    obtain rfl : h = 2 := Fin.ext (by have e := hh1; change h.val = 2 + j1.val at e; have := j1.isLt; show h.val = 2; omega)
    obtain rfl : d = j2 := Fin.ext hh2
    obtain rfl : e = j3 := Fin.ext hh3
    simp only [eye_sum, newC, gIn, gOld, mNew, lsig, hi, hf, lane, Ideal.absf_def, zero_sub]; rfl
  case piece2 =>
    obtain rfl : h = 1 := Fin.ext (by have e := hh1; change h.val = 1 + j1.val at e; have := j1.isLt; show h.val = 1; omega)
    obtain rfl : d = j2 := Fin.ext hh2
    obtain rfl : e = j3 := Fin.ext hh3
    simp only [eye_sum, newC, gIn, gOld, mNew, lsig, hi, hf, lane, Ideal.absf_def, zero_sub]; rfl
  case piece3 =>
    obtain rfl : h = 0 := Fin.ext (by have e := hh1; change h.val = j1.val at e; have := j1.isLt; show h.val = 0; omega)
    obtain rfl : d = j2 := Fin.ext hh2
    obtain rfl : e = j3 := Fin.ext hh3
    simp only [eye_sum, newC, gIn, gOld, mNew, lsig, hi, hf, lane, Ideal.absf_def, zero_sub]; rfl

/-- The normaliser's block. -/
theorem win8 (h : Fin 4) (d : Fin 128) :
    out0_8 x0 x1 x2 x3 x4 x5 (ix3 0 h d) = newN (hi x1 h) (hf x1 h) (x4 (ix3 0 0 h)) (x3 (ix3 0 h d))
      (lane x0 2048 h (by omega) d) := by
  unfold_out out0_8
  canon_tiles j hh
  all_goals (idx_vars j; open_payloads; try pointwise)
  case piece0 =>
    obtain rfl : h = 3 := Fin.ext (by have e := hh1; change h.val = 3 + j1.val at e; have := j1.isLt; show h.val = 3; omega)
    obtain rfl : d = j2 := Fin.ext hh2
    simp only [newN, gIn, gOld, mNew, lsig, hi, hf, lane, Ideal.absf_def, zero_sub]; rfl
  case piece1 =>
    obtain rfl : h = 2 := Fin.ext (by have e := hh1; change h.val = 2 + j1.val at e; have := j1.isLt; show h.val = 2; omega)
    obtain rfl : d = j2 := Fin.ext hh2
    simp only [newN, gIn, gOld, mNew, lsig, hi, hf, lane, Ideal.absf_def, zero_sub]; rfl
  case piece2 =>
    obtain rfl : h = 1 := Fin.ext (by have e := hh1; change h.val = 1 + j1.val at e; have := j1.isLt; show h.val = 1; omega)
    obtain rfl : d = j2 := Fin.ext hh2
    simp only [newN, gIn, gOld, mNew, lsig, hi, hf, lane, Ideal.absf_def, zero_sub]; rfl
  case piece3 =>
    obtain rfl : h = 0 := Fin.ext (by have e := hh1; change h.val = j1.val at e; have := j1.isLt; show h.val = 0; omega)
    obtain rfl : d = j2 := Fin.ext hh2
    simp only [newN, gIn, gOld, mNew, lsig, hi, hf, lane, Ideal.absf_def, zero_sub]; rfl

/-- The heads' outputs, side by side. -/
theorem win6 (h : Fin 4) (d : Fin 128) :
    out0_6 x0 x1 x2 x3 x4 x5 (ix3 0 0 ⟨128 * h.val + d.val, by have := h.isLt; have := d.isLt; omega⟩) =
      hOut (hi x1 h) (hf x1 h) (x4 (ix3 0 0 h)) (hq x0 h) (lane x0 2048 h (by omega)) (lane x0 2560 h (by omega))
        (fun d => x3 (ix3 0 h d)) (fun d e => x2 (ix4 0 h d e))
        (x5 (ix2 0 ⟨128 * h.val + d.val, by have := h.isLt; have := d.isLt; omega⟩)) (lane x0 3072 h (by omega) d) d := by
  unfold_out out0_6
  canon_tiles j hh
  all_goals (idx_vars j; open_payloads; try pointwise)
  case piece0 =>
    obtain ⟨eh, ed⟩ : h.val = 3 ∧ d.val = j2.val := by
      have e : 128 * h.val + d.val = 384 + j2.val := hh2
      have := h.isLt; have := d.isLt; have := j2.isLt; omega
    obtain rfl : h = 3 := Fin.ext eh
    obtain rfl : d = j2 := Fin.ext ed
    simp only [eye_sum, hOut, hRaw, hNum, hDen, gIn, gOld, mNew, lsig, hi, hf, hq, lane, Ideal.absf_def, zero_sub]
    congr 2
    all_goals congr 1
  case piece1 =>
    obtain ⟨eh, ed⟩ : h.val = 2 ∧ d.val = j2.val := by
      have e : 128 * h.val + d.val = 256 + j2.val := hh2
      have := h.isLt; have := d.isLt; have := j2.isLt; omega
    obtain rfl : h = 2 := Fin.ext eh
    obtain rfl : d = j2 := Fin.ext ed
    simp only [eye_sum, hOut, hRaw, hNum, hDen, gIn, gOld, mNew, lsig, hi, hf, hq, lane, Ideal.absf_def, zero_sub]
    congr 2
    all_goals congr 1
  case piece2 =>
    obtain ⟨eh, ed⟩ : h.val = 1 ∧ d.val = j2.val := by
      have e : 128 * h.val + d.val = 128 + j2.val := hh2
      have := h.isLt; have := d.isLt; have := j2.isLt; omega
    obtain rfl : h = 1 := Fin.ext eh
    obtain rfl : d = j2 := Fin.ext ed
    simp only [eye_sum, hOut, hRaw, hNum, hDen, gIn, gOld, mNew, lsig, hi, hf, hq, lane, Ideal.absf_def, zero_sub]
    congr 2
    all_goals congr 1
  case piece3 =>
    obtain ⟨eh, ed⟩ : h.val = 0 ∧ d.val = j2.val := by
      have e : 128 * h.val + d.val = 0 + j2.val := hh2.trans (Nat.zero_add _).symm
      have := h.isLt; have := d.isLt; have := j2.isLt; omega
    obtain rfl : h = 0 := Fin.ext eh
    obtain rfl : d = j2 := Fin.ext ed
    simp only [eye_sum, hOut, hRaw, hNum, hDen, gIn, gOld, mNew, lsig, hi, hf, hq, lane, Ideal.absf_def, zero_sub]
    congr 2
    all_goals congr 1
    exact congrArg (fun i => ix2 0 i) (Fin.ext hh2.symm)

end Cert.StepIdeal.Hand
end
-- ==== Proof.StepArrays.lean ====
/-
  The decoding kernel's four result arrays after the run, element by element, as functions of the argument arrays.
-/
module

public import proofs.«01_k».proof.Proof.StepValue

@[expose] public section

set_option maxRecDepth 16384

noncomputable section

namespace Cert.StepIdeal.Hand

open Cert.StepIdeal Cert.StepIdeal.Gen Idealize.ShloMosaic Idealize.ShloMosaic.TcCoe Idealize.SL.Sem StepMath
open Idealize.ShloMosaic.Pipeline (Dat)

variable (m : (ℓ : Loc nD τ sig) → Buf (Elt Ideal) ℓ) (c : Dev nD)

/-- Where every window's block stands at a grid point. -/
theorem idx : ∀ t : Fin cfg0.N, win0_0.index t = ![t.val, 0, 0] ∧ win0_1.index t = ![t.val, 0, 0]
    ∧ win0_2.index t = ![t.val, 0, 0, 0] ∧ win0_3.index t = ![t.val, 0, 0] ∧ win0_4.index t = ![t.val, 0, 0]
    ∧ win0_5.index t = ![0, 0] ∧ win0_6.index t = ![t.val, 0, 0] ∧ win0_7.index t = ![t.val, 0, 0, 0]
    ∧ win0_8.index t = ![t.val, 0, 0] ∧ win0_9.index t = ![t.val, 0, 0] :=
  (by decide +kernel : ∀ t : Fin grid0.N, win0_0.index t = ![t.val, 0, 0] ∧ win0_1.index t = ![t.val, 0, 0]
    ∧ win0_2.index t = ![t.val, 0, 0, 0] ∧ win0_3.index t = ![t.val, 0, 0] ∧ win0_4.index t = ![t.val, 0, 0]
    ∧ win0_5.index t = ![0, 0] ∧ win0_6.index t = ![t.val, 0, 0] ∧ win0_7.index t = ![t.val, 0, 0, 0]
    ∧ win0_8.index t = ![t.val, 0, 0] ∧ win0_9.index t = ![t.val, 0, 0])

/-- A head's lanes of a row of the projections. -/
def zl (x0 : (⟨S32x3584, .f32⟩ : BufTy).Contents (Elt Ideal)) (o : ℕ) (b : Fin 32) (h : Fin 4) (ho : o + 512 ≤ 3584) (d : Fin 128) : EReal :=
  x0 (ix2 b ⟨o + 128 * h.val + d.val, by have := h.isLt; have := d.isLt; omega⟩)

/-- The input gate of a sequence and a head. -/
def gi (x1 : (⟨S32x128, .f32⟩ : BufTy).Contents (Elt Ideal)) (b : Fin 32) (h : Fin 4) : EReal :=
  x1 (ix2 b ⟨h.val, by have := h.isLt; omega⟩)

/-- The forget gate of a sequence and a head. -/
def gf (x1 : (⟨S32x128, .f32⟩ : BufTy).Contents (Elt Ideal)) (b : Fin 32) (h : Fin 4) : EReal :=
  x1 (ix2 b ⟨4 + h.val, by have := h.isLt; omega⟩)

/-- The sequence a grid point works on. -/
def bt (t : Fin cfg0.N) : Fin 32 := ⟨t.val, by have h := t.isLt; have e : cfg0.N = 32 := N_0; omega⟩

/-- A point reads its own request's row of the projections, here at a head's lane. -/
theorem lane_blk (t : Fin cfg0.N) (o : ℕ) (h : Fin 4) (ho : o + 512 ≤ 3584) (d : Fin 128) :
    lane (iblk m c 0 t) o h ho d = zl (m ((c.tc : Thread nD τ).loc main_arg0)) o (bt t) h ho d := by
  unfold lane zl bt
  blk_point [iblk, V, idx t]

/-- A point's input gate is its request's. -/
theorem hi_blk (t : Fin cfg0.N) (h : Fin 4) :
    hi (iblk m c 1 t) h = gi (m ((c.tc : Thread nD τ).loc main_arg1)) (bt t) h := by
  unfold hi gi bt
  blk_point [iblk, V, idx t]

/-- A point's forget gate is its request's. -/
theorem hf_blk (t : Fin cfg0.N) (h : Fin 4) :
    hf (iblk m c 1 t) h = gf (m ((c.tc : Thread nD τ).loc main_arg1)) (bt t) h := by
  unfold hf gf bt
  blk_point [iblk, V, idx t]

/-- A point's old matrix memory is its request's. -/
theorem C_blk (t : Fin cfg0.N) (h : Fin 4) (d e : Fin 128) :
    iblk m c 2 t (ix4 0 h d e) = m ((c.tc : Thread nD τ).loc main_arg2) (ix5 0 (bt t) h d e) := by
  unfold bt
  blk_point [iblk, V, idx t]

/-- A point's old normaliser is its request's. -/
theorem n_blk (t : Fin cfg0.N) (h : Fin 4) (d : Fin 128) :
    iblk m c 3 t (ix3 0 h d) = m ((c.tc : Thread nD τ).loc main_arg3) (ix4 0 (bt t) h d) := by
  unfold bt
  blk_point [iblk, V, idx t]

/-- A point's old stabiliser is its request's. -/
theorem m_blk (t : Fin cfg0.N) (h : Fin 4) :
    iblk m c 4 t (ix3 0 0 h) = m ((c.tc : Thread nD τ).loc main_arg4) (ix3 0 (bt t) h) := by
  unfold bt
  blk_point [iblk, V, idx t]

/-- Every point reads the whole of the norm weight. -/
theorem w_blk (t : Fin cfg0.N) (d : Fin 512) :
    iblk m c 5 t (ix2 0 d) = m ((c.tc : Thread nD τ).loc main_arg5) (ix2 0 d) := by
  blk_point [iblk, V, idx t]

/-- The stabiliser after the step. -/
def Gm (x1 : (⟨S32x128, .f32⟩ : BufTy).Contents (Elt Ideal)) (x4 : (⟨S1x32x4, .f32⟩ : BufTy).Contents (Elt Ideal))
    (b : Fin 32) (h : Fin 4) : EReal :=
  mNew (gi x1 b h) (gf x1 b h) (x4 (ix3 0 b h))

/-- The memory after the step. -/
def GC (x0 : (⟨S32x3584, .f32⟩ : BufTy).Contents (Elt Ideal)) (x1 : (⟨S32x128, .f32⟩ : BufTy).Contents (Elt Ideal))
    (x2 : (⟨S1x32x4x128x128, .f32⟩ : BufTy).Contents (Elt Ideal)) (x4 : (⟨S1x32x4, .f32⟩ : BufTy).Contents (Elt Ideal))
    (b : Fin 32) (h : Fin 4) (d e : Fin 128) : EReal :=
  newC (gi x1 b h) (gf x1 b h) (x4 (ix3 0 b h)) (x2 (ix5 0 b h d e)) (zl x0 2048 b h (by omega) d) (zl x0 2560 b h (by omega) e)

/-- The normaliser after the step. -/
def Gn (x0 : (⟨S32x3584, .f32⟩ : BufTy).Contents (Elt Ideal)) (x1 : (⟨S32x128, .f32⟩ : BufTy).Contents (Elt Ideal))
    (x3 : (⟨S1x32x4x128, .f32⟩ : BufTy).Contents (Elt Ideal)) (x4 : (⟨S1x32x4, .f32⟩ : BufTy).Contents (Elt Ideal))
    (b : Fin 32) (h : Fin 4) (d : Fin 128) : EReal :=
  newN (gi x1 b h) (gf x1 b h) (x4 (ix3 0 b h)) (x3 (ix4 0 b h d)) (zl x0 2048 b h (by omega) d)

/-- The step's output. -/
def Gh (x0 : (⟨S32x3584, .f32⟩ : BufTy).Contents (Elt Ideal)) (x1 : (⟨S32x128, .f32⟩ : BufTy).Contents (Elt Ideal))
    (x2 : (⟨S1x32x4x128x128, .f32⟩ : BufTy).Contents (Elt Ideal)) (x3 : (⟨S1x32x4x128, .f32⟩ : BufTy).Contents (Elt Ideal))
    (x4 : (⟨S1x32x4, .f32⟩ : BufTy).Contents (Elt Ideal)) (x5 : (⟨S1x512, .f32⟩ : BufTy).Contents (Elt Ideal))
    (b : Fin 32) (h : Fin 4) (d : Fin 128) : EReal :=
  hOut (gi x1 b h) (gf x1 b h) (x4 (ix3 0 b h)) (fun d => zl x0 1536 b h (by omega) d * Ideal.ofBits .f32 0x3DB504F3#32)
    (zl x0 2048 b h (by omega)) (zl x0 2560 b h (by omega)) (fun d => x3 (ix4 0 b h d)) (fun d e => x2 (ix5 0 b h d e))
    (x5 (ix2 0 ⟨128 * h.val + d.val, by have := h.isLt; have := d.isLt; omega⟩)) (zl x0 3072 b h (by omega) d) d

/-- The array of new stabilisers after the whole grid. -/
theorem arr9 : (dats m 0 c).arrAt 9 cfg0.N = fun i => Gm (m ((c.tc : Thread nD τ).loc main_arg1)) (m ((c.tc : Thread nD τ).loc main_arg4)) (i 0) (i 1) := by
  refine (dats m 0 c).arrAt_eq_of_covers 9 _ (by decide +kernel) fun t hfl y => ?_
  blk_simp
  rw [after0_9]
  idx_vars y
  obtain rfl : y0 = 0 := Subsingleton.elim _ _
  rw [win9, hi_blk, hf_blk, m_blk]
  show Gm _ _ (bt t) y1 = _
  congr 1
  · exact Fin.ext (by blk_simp [idx t]; simp [bt])
  · exact Fin.ext (by blk_simp [idx t])

/-- The array of new matrix memories after the whole grid. -/
theorem arr7 : (dats m 0 c).arrAt 7 cfg0.N = fun i => GC (m ((c.tc : Thread nD τ).loc main_arg0)) (m ((c.tc : Thread nD τ).loc main_arg1)) (m ((c.tc : Thread nD τ).loc main_arg2)) (m ((c.tc : Thread nD τ).loc main_arg4)) (i 0) (i 1) (i 2) (i 3) := by
  refine (dats m 0 c).arrAt_eq_of_covers 7 _ (by decide +kernel) fun t hfl y => ?_
  blk_simp
  rw [after0_7]
  idx_vars y
  obtain rfl : y0 = 0 := Subsingleton.elim _ _
  rw [win7, hi_blk, hf_blk, m_blk, lane_blk, lane_blk, C_blk]
  show GC _ _ _ _ (bt t) y1 y2 y3 = _
  congr 1
  · exact Fin.ext (by blk_simp [idx t]; simp [bt])
  · exact Fin.ext (by blk_simp [idx t])
  · exact Fin.ext (by blk_simp [idx t])
  · exact Fin.ext (by blk_simp [idx t])

/-- The array of new normalisers after the whole grid. -/
theorem arr8 : (dats m 0 c).arrAt 8 cfg0.N = fun i => Gn (m ((c.tc : Thread nD τ).loc main_arg0)) (m ((c.tc : Thread nD τ).loc main_arg1)) (m ((c.tc : Thread nD τ).loc main_arg3)) (m ((c.tc : Thread nD τ).loc main_arg4)) (i 0) (i 1) (i 2) := by
  refine (dats m 0 c).arrAt_eq_of_covers 8 _ (by decide +kernel) fun t hfl y => ?_
  blk_simp
  rw [after0_8]
  idx_vars y
  obtain rfl : y0 = 0 := Subsingleton.elim _ _
  rw [win8, hi_blk, hf_blk, m_blk, lane_blk, n_blk]
  show Gn _ _ _ _ (bt t) y1 y2 = _
  congr 1
  · exact Fin.ext (by blk_simp [idx t]; simp [bt])
  · exact Fin.ext (by blk_simp [idx t])
  · exact Fin.ext (by blk_simp [idx t])

/-- The array of hidden states after the whole grid. -/
theorem arr6 : (dats m 0 c).arrAt 6 cfg0.N = fun i => Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0)
      ⟨(i 2).val / 128, by have h : (i 2).val < 512 := (i 2).isLt; omega⟩ ⟨(i 2).val % 128, by omega⟩ := by
  refine (dats m 0 c).arrAt_eq_of_covers 6 _ (by decide +kernel) fun t hfl y => ?_
  blk_simp
  rw [after0_6]
  idx_vars y
  obtain rfl : y0 = 0 := Subsingleton.elim _ _
  obtain rfl : y1 = 0 := Subsingleton.elim _ _
  obtain ⟨h, d, rfl⟩ : ∃ (h : Fin 4) (d : Fin 128), y2 = ⟨128 * h.val + d.val, by have := h.isLt; have := d.isLt; omega⟩ :=
    ⟨⟨y2.val / 128, by have := y2.isLt; omega⟩, ⟨y2.val % 128, by omega⟩, Fin.ext (by simp; omega)⟩
  rw [win6, hi_blk, hf_blk, m_blk, lane_blk, w_blk]
  simp only [funext (lane_blk m c t _ h _), n_blk, C_blk]
  have e : hq (iblk m c 0 t) h = fun d => zl (m ((c.tc : Thread nD τ).loc main_arg0)) 1536 (bt t) h (by omega) d * Ideal.ofBits .f32 0x3DB504F3#32 :=
    funext fun d => by unfold hq; rw [lane_blk]
  rw [e]
  show Gh _ _ _ _ _ _ (bt t) h d = _
  congr 1
  · exact Fin.ext (by blk_simp [idx t]; simp [bt])
  · exact Fin.ext (by blk_simp [idx t]; have := h.isLt; have := d.isLt; simp; omega)
  · exact Fin.ext (by blk_simp [idx t]; have := h.isLt; have := d.isLt; simp; omega)

end Cert.StepIdeal.Hand
end
-- ==== Proof.StepRef.lean ====
/-
  The reference's step of the recurrence, element by element: each of its four results is the scalar equations of
  `StepMath` at the argument arrays.
-/
module

public import proofs.«01_k».proof.Proof.StepArrays
public import proofs.«01_k».proof.Proof.Gen.StepRefIdeal.Read

@[expose] public section

set_option maxRecDepth 16384

noncomputable section

namespace Cert.StepRefIdeal.Hand

open Cert.StepRefIdeal Cert.StepRefIdeal.Gen Cert.StepRefIdeal.Read Idealize.ShloMosaic Idealize.ShloMosaic.TcCoe Idealize.SL.Sem StepMath
open Cert.StepIdeal.Hand (zl gi gf Gm GC Gn Gh)

variable (x0 : (⟨S32x3584, .f32⟩ : BufTy).Contents (Elt Ideal)) (x1 : (⟨S32x128, .f32⟩ : BufTy).Contents (Elt Ideal))
    (x2 : (⟨S1x32x4x128x128, .f32⟩ : BufTy).Contents (Elt Ideal)) (x3 : (⟨S1x32x4x128, .f32⟩ : BufTy).Contents (Elt Ideal))
    (x4 : (⟨S1x32x4, .f32⟩ : BufTy).Contents (Elt Ideal)) (x5 : (⟨S1x512, .f32⟩ : BufTy).Contents (Elt Ideal))

/-- The log forget gate of the reference. -/
theorem ref_lf (b : Fin 32) (h : Fin 4) : val_main_v11 (F := Ideal) x1 (ix2 b h) = lsig (gf x1 b h) := by
  pointwise [val_main_v11, val_main_call0_v1, val_main_call0_call0_v4, val_main_call0_call0_v3, val_main_call0_v0, val_main_v10,
    val_main_call0_call0_v2, val_main_call0_call0_cst, val_main_call0_call0_v6, val_main_call0_call0_v5, val_main_call0_call0_v11,
    val_main_call0_call0_v1, val_main_call0_call0_v0, val_main_call0_call0_v10, val_main_call0_call0_v9, val_main_call0_call0_v8, val_main_call0_call0_v7]
  rw [if_neg (fun h => h rfl), Ideal.absf_def]
  exact neg_softplus _

/-- The scaled query of the reference. -/
theorem ref_q (b : Fin 32) (h : Fin 4) (d : Fin 128) :
    val_main_v3 (F := Ideal) x0 (ix3 b h d) = zl x0 1536 b h (by omega) d * Ideal.ofBits .f32 0x3DB504F3#32 := by
  pointwise [val_main_v3, val_main_v2, val_main_v1, val_main_v0, val_main_cst]
  unfold zl
  congr 1
  blk_point

/-- The key of the reference. -/
theorem ref_k (b : Fin 32) (h : Fin 4) (d : Fin 128) :
    val_main_v5 (F := Ideal) x0 (ix3 b h d) = zl x0 2048 b h (by omega) d := by
  pointwise [val_main_v5, val_main_v4]
  unfold zl
  blk_point

/-- The value of the reference. -/
theorem ref_v (b : Fin 32) (h : Fin 4) (d : Fin 128) :
    val_main_v7 (F := Ideal) x0 (ix3 b h d) = zl x0 2560 b h (by omega) d := by
  pointwise [val_main_v7, val_main_v6]
  unfold zl
  blk_point

/-- The old matrix memory of the reference. -/
theorem ref_C (b : Fin 32) (h : Fin 4) (d e : Fin 128) :
    val_main_v12 (F := Ideal) x2 (ix4 b h d e) = x2 (ix5 0 b h d e) := by
  pointwise [val_main_v12]

/-- The old normaliser of the reference. -/
theorem ref_n (b : Fin 32) (h : Fin 4) (d : Fin 128) :
    val_main_v13 (F := Ideal) x3 (ix3 b h d) = x3 (ix4 0 b h d) := by
  pointwise [val_main_v13]

/-- The new stabiliser of the reference. -/
theorem ref_m (b : Fin 32) (h : Fin 4) : val_main_v16 (F := Ideal) x1 x4 (ix2 b h) = Gm x1 x4 b h := by
  unfold val_main_v16 val_main_v15
  pointwise [val_main_v14, val_main_v9]
  rw [ref_lf]
  rfl

/-- The weight of the new token in the reference. -/
theorem ref_in (b : Fin 32) (h : Fin 4) :
    val_main_v18 (F := Ideal) x1 x4 (ix2 b h) = gIn (gi x1 b h) (gf x1 b h) (x4 (ix3 0 b h)) := by
  unfold val_main_v18 val_main_v17
  pointwise [val_main_v9]
  rw [ref_m]
  rfl

/-- The weight of the old state in the reference. -/
theorem ref_old (b : Fin 32) (h : Fin 4) :
    val_main_v21 (F := Ideal) x1 x4 (ix2 b h) = gOld (gi x1 b h) (gf x1 b h) (x4 (ix3 0 b h)) := by
  unfold val_main_v21 val_main_v20 val_main_v19
  pointwise [val_main_v14]
  rw [ref_m, ref_lf]
  rfl

/-- The reference's memory. -/
theorem ref_newC (b : Fin 32) (h : Fin 4) (d e : Fin 128) :
    val_main_v77 (F := Ideal) x0 x1 x2 x4 (ix4 b h d e) = GC x0 x1 x2 x4 b h d e := by
  unfold val_main_v77 val_main_v76 val_main_v75 val_main_v74 val_main_v73 val_main_v72 val_main_v71 val_main_v70 val_main_v69 val_main_v68 val_main_v67 val_main_v66
  pointwise
  rw [ref_in, ref_old, ref_k, ref_v, ref_C]
  rfl

/-- The reference's normaliser. -/
theorem ref_newN (b : Fin 32) (h : Fin 4) (d : Fin 128) :
    val_main_v84 (F := Ideal) x0 x1 x3 x4 (ix3 b h d) = Gn x0 x1 x3 x4 b h d := by
  unfold val_main_v84 val_main_v83 val_main_v82 val_main_v81 val_main_v80 val_main_v79 val_main_v78
  pointwise
  rw [ref_in, ref_old, ref_k, ref_n]
  rfl

/-- The reference's stabiliser, on every lane. -/
theorem ref_mB (b : Fin 32) (h : Fin 4) (d : Fin 128) :
    val_main_v87 (F := Ideal) x1 x4 (ix3 b h d) = Gm x1 x4 b h := by
  unfold val_main_v87 val_main_v86
  pointwise
  rw [ref_m]

/-- The reference's read-out before the normalisation over the lanes. -/
theorem ref_raw (b : Fin 32) (h : Fin 4) (e : Fin 128) :
    val_main_v41 (F := Ideal) x0 x1 x2 x3 x4 (ix3 b h e) =
      hRaw (gi x1 b h) (gf x1 b h) (x4 (ix3 0 b h)) (fun d => zl x0 1536 b h (by omega) d * Ideal.ofBits .f32 0x3DB504F3#32)
        (zl x0 2048 b h (by omega)) (zl x0 2560 b h (by omega)) (fun d => x3 (ix4 0 b h d)) (fun d e => x2 (ix5 0 b h d e)) e := by
  unfold val_main_v41 val_main_v40 val_main_v39 val_main_v38 val_main_v37 val_main_v36 val_main_v35 val_main_v34 val_main_v33
    val_main_v32 val_main_v31 val_main_v30 val_main_v29 val_main_v28 val_main_v27 val_main_v26 val_main_v25 val_main_v24 val_main_v23 val_main_v22
  pointwise
  simp only [ref_q, ref_k, ref_v, ref_C, ref_n, ref_in, ref_old, ref_m, Ideal.absf_def]
  rfl

/-- The reference's output. -/
theorem ref_h (b : Fin 32) (h : Fin 4) (d : Fin 128) :
    val_main_v85 (F := Ideal) x0 x1 x2 x3 x4 x5 (ix3 b 0 ⟨128 * h.val + d.val, by have := h.isLt; have := d.isLt; omega⟩) = Gh x0 x1 x2 x3 x4 x5 b h d := by
  unfold val_main_v85 val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47 val_main_v46
    val_main_v45 val_main_v44 val_main_v43 val_main_v42
  pointwise [val_main_cst_0, val_main_cst_1, val_main_cst_2, val_main_cst_3, val_main_cst_4, val_main_v8]
  simp only [ref_raw]
  unfold Gh hOut Ideal.logistic zl
  congr 2
  · congr 1
    have e : (⟨h.val * 128 + d.val, by have := h.isLt; have := d.isLt; omega⟩ : Fin 512) = ⟨128 * h.val + d.val, by have := h.isLt; have := d.isLt; omega⟩ :=
      Fin.ext (by show h.val * 128 + d.val = 128 * h.val + d.val; omega)
    exact congrArg (fun i => ix2 0 i) e
  · congr 2
    have e : (⟨3072 + (128 * h.val + d.val), by have := h.isLt; have := d.isLt; omega⟩ : Fin 3584) = ⟨3072 + 128 * h.val + d.val, by have := h.isLt; have := d.isLt; omega⟩ :=
      Fin.ext (by show 3072 + (128 * h.val + d.val) = 3072 + 128 * h.val + d.val; omega)
    exact congrArg (fun i => -x0 (ix2 b i)) e

end Cert.StepRefIdeal.Hand
end
-- ==== Proof.StepClaim.lean ====
/-
  The one-token step against its reference: both programs run, from the same arguments, to the same four arrays.
-/
module

public import proofs.«01_k».proof.Defs
public import proofs.«01_k».proof.Proof.StepRef
public import proofs.«01_k».proof.Proof.Gen.StepRefIdeal.Run

@[expose] public section

set_option maxRecDepth 16384

noncomputable section

namespace Cert.Proof

open Idealize.ShloMosaic Idealize.ShloMosaic.TcCoe Idealize.SL.Sem
open Cert.StepIdeal.Hand (Gm GC Gn Gh)

/-- A function of six arguments at equal arguments. -/
theorem congr6 {A B C D E F R : Type _} (f : A → B → C → D → E → F → R) {a a' : A} {b b' : B} {c c' : C} {d d' : D} {e e' : E} {g g' : F}
    (ha : a = a') (hb : b = b') (hc : c = c') (hd : d = d') (he : e = e') (hg : g = g') : f a b c d e g = f a' b' c' d' e' g' := by
  subst ha hb hc hd he hg
  rfl

/-- A function of four arguments at equal arguments. -/
theorem congr4 {A B C D R : Type _} (f : A → B → C → D → R) {a a' : A} {b b' : B} {c c' : C} {d d' : D}
    (ha : a = a') (hb : b = b') (hc : c = c') (hd : d = d') : f a b c d = f a' b' c' d' := by
  subst ha hb hc hd
  rfl

section
open Cert.StepRefIdeal Cert.StepRefIdeal.Gen Cert.StepRefIdeal.Read
variable (x0 : (⟨S32x3584, .f32⟩ : BufTy).Contents (Elt Ideal)) (x1 : (⟨S32x128, .f32⟩ : BufTy).Contents (Elt Ideal))
    (x2 : (⟨S1x32x4x128x128, .f32⟩ : BufTy).Contents (Elt Ideal)) (x3 : (⟨S1x32x4x128, .f32⟩ : BufTy).Contents (Elt Ideal))
    (x4 : (⟨S1x32x4, .f32⟩ : BufTy).Contents (Elt Ideal)) (x5 : (⟨S1x512, .f32⟩ : BufTy).Contents (Elt Ideal))

/-- The reference's array of read-outs, at the head and the lane its flat position names. -/
theorem step_h : val_main_v85 (F := Ideal) x0 x1 x2 x3 x4 x5 = fun i => Gh x0 x1 x2 x3 x4 x5 (i 0)
      ⟨(i 2).val / 128, by have h : (i 2).val < 512 := (i 2).isLt; omega⟩ ⟨(i 2).val % 128, by omega⟩ := by
  funext j
  idx_vars j
  obtain rfl : j1 = 0 := Subsingleton.elim _ _
  have h := Cert.StepRefIdeal.Hand.ref_h x0 x1 x2 x3 x4 x5 j0 ⟨j2.val / 128, by have := j2.isLt; omega⟩ ⟨j2.val % 128, by omega⟩
  refine Eq.trans ?_ h
  refine congrArg (fun k => val_main_v85 (F := Ideal) x0 x1 x2 x3 x4 x5 (ix3 j0 0 k)) (Fin.ext ?_)
  exact (Nat.div_add_mod j2.val 128).symm

/-- The reference's array of new matrix states. -/
theorem step_C : val_main_v77 (F := Ideal) x0 x1 x2 x4 = fun i => GC x0 x1 x2 x4 (i 0) (i 1) (i 2) (i 3) := by
  funext j
  idx_vars j
  exact Cert.StepRefIdeal.Hand.ref_newC x0 x1 x2 x4 j0 j1 j2 j3

/-- The reference's array of new normaliser states. -/
theorem step_n : val_main_v84 (F := Ideal) x0 x1 x3 x4 = fun i => Gn x0 x1 x3 x4 (i 0) (i 1) (i 2) := by
  funext j
  idx_vars j
  exact Cert.StepRefIdeal.Hand.ref_newN x0 x1 x3 x4 j0 j1 j2

/-- The reference's array of new stabilisers, the same at every lane. -/
theorem step_m : val_main_v87 (F := Ideal) x1 x4 = fun i => Gm x1 x4 (i 0) (i 1) := by
  funext j
  idx_vars j
  exact Cert.StepRefIdeal.Hand.ref_mB x1 x4 j0 j1 j2
end

/-- The kernel and the reference of the one-token step end with equal results. -/
theorem step_algebraic : Cert.algebraic_StepIdeal_StepRefIdeal := fun m ρ m' ρ' _ hag =>
  ⟨fun c => (Cert.StepIdeal.Gen.dats m 0 c).arrAt 6 Cert.StepIdeal.cfg0.N,
   fun c => (Cert.StepIdeal.Gen.dats m 0 c).arrAt 7 Cert.StepIdeal.cfg0.N,
   fun c => (Cert.StepIdeal.Gen.dats m 0 c).arrAt 8 Cert.StepIdeal.cfg0.N,
   fun c => (Cert.StepIdeal.Gen.dats m 0 c).arrAt 9 Cert.StepIdeal.cfg0.N,
   Cert.StepIdeal.Value.run_blocks m ρ,
   (θ_run _ _ _).mono (fun r h c =>
    have a := hag c
    ⟨(h c).1.trans ((Cert.StepRefIdeal.Read.val_main_v85_eq m' c).trans
        ((congr6 (fun a b c d e f => Cert.StepRefIdeal.Read.val_main_v85 (F := Ideal) a b c d e f) a.1 a.2.1 a.2.2.1 a.2.2.2.1 a.2.2.2.2.1 a.2.2.2.2.2).trans
          ((step_h _ _ _ _ _ _).trans (Cert.StepIdeal.Hand.arr6 m c).symm))),
     (h c).2.1.trans ((Cert.StepRefIdeal.Read.val_main_v77_eq m' c).trans
        ((congr4 (fun a b c d => Cert.StepRefIdeal.Read.val_main_v77 (F := Ideal) a b c d) a.1 a.2.1 a.2.2.1 a.2.2.2.2.1).trans
          ((step_C _ _ _ _).trans (Cert.StepIdeal.Hand.arr7 m c).symm))),
     (h c).2.2.1.trans ((Cert.StepRefIdeal.Read.val_main_v84_eq m' c).trans
        ((congr4 (fun a b c d => Cert.StepRefIdeal.Read.val_main_v84 (F := Ideal) a b c d) a.1 a.2.1 a.2.2.2.1 a.2.2.2.2.1).trans
          ((step_n _ _ _ _).trans (Cert.StepIdeal.Hand.arr8 m c).symm))),
     (h c).2.2.2.1.trans ((Cert.StepRefIdeal.Read.val_main_v87_eq _ _).trans
        ((congrArg₂ (fun a b => Cert.StepRefIdeal.Read.val_main_v87 (F := Ideal) a b) a.2.1 a.2.2.2.2.1).trans
          ((step_m _ _).trans (Cert.StepIdeal.Hand.arr9 m c).symm))),
     (h c).2.2.2.2⟩)
    (Cert.StepRefIdeal.Value.run m' ρ')⟩

/-- The reference of the one-token step leaves its arguments, and has no counters. -/
theorem step_ref_frame : Cert.quiescent_StepRefIdeal := fun m ρ _ =>
  (θ_run Cert.StepRefIdeal.defs _ _).mono (fun r h => ⟨fun c => (h c).2.2.2.2,
    Idealize.ShloMosaic.sem_eq_zero_of_no_sems (by decide) r.2⟩)
    (Cert.StepRefIdeal.Value.run (F := Ideal) m ρ)

end Cert.Proof

end
-- ==== Proof.MlpValue.lean ====
/-
  The output projection and the feed-forward part: what one grid point's payloads compute, element by element, and what the
  carried scratch holds after each grid point.
-/
module

public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic
public import proofs.«01_k».proof.Proof.Gen.MlpIdeal.Value

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)

/-! ## The mathematics of one row -/

/-- A row scaled to unit mean square, times the norm's weight. -/
def rms (f w : Fin 1024 → EReal) (n : Fin 1024) : EReal :=
  f n * Ideal.rsqrt (Ideal.div (∑ k, f k * f k) (Ideal.ofBits FTy.f32 1149239296#32) + Ideal.ofBits FTy.f32 897988541#32) * w n

/-- The square of the positive part. -/
def sq (a : EReal) : EReal := max a 0 * max a 0

/-! ## The payloads -/

/-- The residual sum: the layer's input and the two halves of the output projection. -/
theorem pay4_at (v22 : Vec Ideal S1024x1024 .f32) (v24 : Vec Ideal S1024x512 .bf16) (v25 : Vec Ideal S512x1024 .bf16) (v29 : Vec Ideal S1024x512 .bf16) (v30 : Vec Ideal S512x1024 .bf16) (p q : Fin 1024) :
    k0_pay4 v22 v24 v25 v29 v30 (ix2 p q)
      = v22 (ix2 p q) + ∑ x, v24 (ix2 p x) * v25 (ix2 x q) + ∑ x, v29 (ix2 p x) * v30 (ix2 x q) := by
  open_payloads
  pointwise

/-- What the first scratch is given: the residual sum. -/
theorem pay5_at (v22 : Vec Ideal S1024x1024 .f32) (v24 : Vec Ideal S1024x512 .bf16) (v25 : Vec Ideal S512x1024 .bf16) (v29 : Vec Ideal S1024x512 .bf16) (v30 : Vec Ideal S512x1024 .bf16) (p q : Fin 1024) :
    k0_pay5 v22 v24 v25 v29 v30 (ix2 p q) = k0_pay4 v22 v24 v25 v29 v30 (ix2 p q) := by
  unfold k0_pay5
  pointwise

/-- What the second scratch is given: the residual sum, normalised. -/
theorem pay6_at (v22 : Vec Ideal S1024x1024 .f32) (v24 : Vec Ideal S1024x512 .bf16) (v25 : Vec Ideal S512x1024 .bf16) (v29 : Vec Ideal S1024x512 .bf16) (v30 : Vec Ideal S512x1024 .bf16) (v37 : Vec Ideal S1x1024 .f32) (p q : Fin 1024) :
    k0_pay6 v22 v24 v25 v29 v30 v37 (ix2 p q)
      = rms (fun k => k0_pay4 v22 v24 v25 v29 v30 (ix2 p k)) (fun k => v37 (ix2 0 k)) q := by
  unfold k0_pay6 rms
  pointwise

/-- What the result is given: the two sums added, normalised. -/
theorem pay3_at (v22 : Vec Ideal S1024x1024 .f32) (v23 : Vec Ideal S1024x1024 .f32) (v25 : Vec Ideal S1x1024 .f32) (p q : Fin 1024) :
    k0_pay3 v22 v23 v25 (ix2 p q) = rms (fun k => v22 (ix2 p k) + v23 (ix2 p k)) (fun k => v25 (ix2 0 k)) q := by
  unfold k0_pay3 rms
  pointwise

/-- What the accumulator is given: what it held and this block of hidden units' part. -/
theorem pay2_at (v3 : Vec Ideal S1024x1024 .bf16) (v4 : Vec Ideal S1024x512 .bf16) (v11 : Vec Ideal S1024x1024 .f32) (v12 : Vec Ideal S512x1024 .bf16) (p q : Fin 1024) :
    k0_pay2 v3 v4 v11 v12 (ix2 p q)
      = v11 (ix2 p q) + ∑ x, sq (∑ k, v3 (ix2 p k) * v4 (ix2 k x)) * v12 (ix2 x q) := by
  unfold k0_pay2 sq
  pointwise

/-- The accumulator starts at zero. -/
theorem pay1_at (p q : Fin 1024) : k0_pay1 (k0_pay7 (F := Ideal)) (ix2 p q) = 0 := by
  unfold k0_pay1 k0_pay7
  pointwise

variable (m : (ℓ : Loc nD τ sig) → Buf (Elt Ideal) ℓ) (c : Dev nD)

/-! ## The carried scratch after each point -/

/-- The residual sum's tile at a grid point, from its blocks. -/
abbrev x1Tile (t : Fin cfg0.N) : Vec Ideal S1024x1024 .f32 :=
  k0_pay4 (iblk m c 0 t) (iblk m c 1 t)
      (View.ld (iblk m c 3 t) (Rect.unit ![0, 0] ![512, 1024] inb_S1024x1024_S512x1024_0_0)) (iblk m c 2 t)
      (View.ld (iblk m c 3 t) (Rect.unit ![512, 0] ![512, 1024] inb_S1024x1024_S512x1024_512_0))

/-- The first scratch holds, all through a row tile's points, the residual sum its first point wrote. -/
theorem scr0 (t : Fin cfg0.N) (p q : Fin 1024) :
    (outsAt0 m c t.val t.isLt).2.1 (ix2 p q) = x1Tile m c ⟨8 * (t.val / 8), Pipeline.run_start_lt t⟩ (ix2 p q) :=
  Pipeline.eq_of_write_hold_apply (fun n h (i : S1024x1024.Idx) => (outsAt0 m c n h).2.1 i) 8 (fun t i => x1Tile m c t i)
    (fun t h j => by
      idx_vars j
      rw [outsAt0_A m c t h (by omega)]
      frame_out
      exact pay5_at _ _ _ _ _ _ _)
    (fun t h j => by
      by_cases h1 : t.val % 8 = 7
      · rw [outsAt0_C m c t h h1]; rfl
      · rw [outsAt0_B m c t h h1]; rfl)
    t (ix2 p q)

/-- The second scratch holds, all through a row tile's points, the normalised rows its first point wrote. -/
theorem scr1 (t : Fin cfg0.N) (p q : Fin 1024) :
    (outsAt0 m c t.val t.isLt).2.2.1 (ix2 p q)
      = rms (fun k => x1Tile m c ⟨8 * (t.val / 8), Pipeline.run_start_lt t⟩ (ix2 p k))
          (fun k => iblk m c 4 ⟨8 * (t.val / 8), Pipeline.run_start_lt t⟩ (ix2 0 k)) q :=
  Pipeline.eq_of_write_hold_apply (fun n h (i : S1024x1024.Idx) => (outsAt0 m c n h).2.2.1 i) 8
    (fun t i => rms (fun k => x1Tile m c t (ix2 (i 0) k)) (fun k => iblk m c 4 t (ix2 0 k)) (i 1))
    (fun t h j => by
      idx_vars j
      rw [outsAt0_A m c t h (by omega)]
      frame_out
      exact pay6_at _ _ _ _ _ _ _ _)
    (fun t h j => by
      by_cases h1 : t.val % 8 = 7
      · rw [outsAt0_C m c t h h1]; rfl
      · rw [outsAt0_B m c t h h1]; rfl)
    t (ix2 p q)

/-- The part of one block of hidden units, at a grid point. -/
def part (t : Fin cfg0.N) (i : S1024x1024.Idx) : EReal :=
  ∑ x : Fin 512, sq (∑ k : Fin 1024, (outsAt0 m c t.val t.isLt).2.2.1 (ix2 (i 0) k) * iblk m c 5 t (ix2 k x)) * iblk m c 6 t (ix2 x (i 1))

/-- At a point that is not a row tile's first the second scratch is what the point before left. -/
theorem scr1_hold (t : Fin cfg0.N) (h : ¬t.val % 8 = 0) :
    (outsAt0 m c (t.val - 1) (Nat.lt_of_le_of_lt (Nat.sub_le _ _) t.isLt)).2.2.1 = (outsAt0 m c t.val t.isLt).2.2.1 := by
  by_cases h1 : t.val % 8 = 7
  · rw [outsAt0_C m c t h h1]; rfl
  · rw [outsAt0_B m c t h h1]; rfl

/-- At a point that is not a row tile's first the first scratch is what the point before left. -/
theorem scr0_hold (t : Fin cfg0.N) (h : ¬t.val % 8 = 0) :
    (outsAt0 m c (t.val - 1) (Nat.lt_of_le_of_lt (Nat.sub_le _ _) t.isLt)).2.1 = (outsAt0 m c t.val t.isLt).2.1 := by
  by_cases h1 : t.val % 8 = 7
  · rw [outsAt0_C m c t h h1]; rfl
  · rw [outsAt0_B m c t h h1]; rfl

/-- The accumulator at a row tile's last point is the sum of all the blocks of hidden units. -/
theorem scr2 (t : Fin cfg0.N) (ht : t.val % 8 = 7) (p q : Fin 1024) :
    (outsAt0 m c t.val t.isLt).2.2.2 (ix2 p q)
      = 0 + ∑ s : Fin 8, part m c ⟨8 * (t.val / 8) + s.val, Pipeline.run_point_lt_of_flush t ht s⟩ (ix2 p q) :=
  Pipeline.eq_sum_fin_of_reset_step_apply_of_flush (fun n h (i : S1024x1024.Idx) => (outsAt0 m c n h).2.2.2 i) 8 (fun _ => (0 : EReal))
    (fun t i => part m c t i)
    (fun t h j => by
      have e : (outsAt0 m c t.val t.isLt).2.2.1 = k0_pay6 (iblk m c 0 t) (iblk m c 1 t)
          (View.ld (iblk m c 3 t) (Rect.unit ![0, 0] ![512, 1024] inb_S1024x1024_S512x1024_0_0)) (iblk m c 2 t)
          (View.ld (iblk m c 3 t) (Rect.unit ![512, 0] ![512, 1024] inb_S1024x1024_S512x1024_512_0)) (iblk m c 4 t) := by
        rw [outsAt0_A m c t h (by omega)]
        frame_out
        rfl
      dsimp only [part]
      rw [e]
      idx_vars j
      rw [outsAt0_A m c t h (by omega)]
      frame_out
      rw [pay2_at, pay1_at]
      rfl)
    (fun t h j => by
      dsimp only [part]
      rw [← scr1_hold m c t h]
      idx_vars j
      by_cases h1 : t.val % 8 = 7
      · rw [outsAt0_C m c t h h1]
        frame_out
        simp only [read_unread_whole]
        rw [pay2_at]
      · rw [outsAt0_B m c t h h1]
        frame_out
        simp only [read_unread_whole]
        rw [pay2_at])
    t ht (ix2 p q)

/-- What a row tile's last point leaves in the result's block. -/
theorem out8 (t : Fin cfg0.N) (ht : t.val % 8 = 7) (p q : Fin 1024) :
    (outsAt0 m c t.val t.isLt).1 (ix2 p q)
      = rms (fun k => (outsAt0 m c t.val t.isLt).2.1 (ix2 p k) + (outsAt0 m c t.val t.isLt).2.2.2 (ix2 p k))
          (fun k => iblk m c 7 t (ix2 0 k)) q := by
  have h : ¬t.val % 8 = 0 := by omega
  rw [← scr0_hold m c t h]
  have e : (outsAt0 m c t.val t.isLt).2.2.2 = k0_pay2 (outsAt0 m c (t.val - 1) (Nat.lt_of_le_of_lt (Nat.sub_le _ _) t.isLt)).2.2.1 (iblk m c 5 t)
      (outsAt0 m c (t.val - 1) (Nat.lt_of_le_of_lt (Nat.sub_le _ _) t.isLt)).2.2.2 (iblk m c 6 t) := by
    rw [outsAt0_C m c t h ht]
    frame_out
    simp only [read_unread_whole]
  rw [e, outsAt0_C m c t h ht]
  frame_out
  simp only [read_unread_whole]
  exact pay3_at _ _ _ _ _

end Cert.MlpIdeal.Hand

end
-- ==== Proof.MlpArrays.lean ====
/-
  The output projection and the feed-forward part: the result array after the run, element by element, as a function of the
  argument arrays.
-/
module

public import proofs.«01_k».proof.Proof.MlpValue

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)

/-! ## The result as a function of the arguments -/

section
variable (x0 : (⟨S4x4096x1024, .f32⟩ : BufTy).Contents (Elt Ideal)) (x1 x2 : (⟨S16384x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- A token's residual sum: the layer's input, plus the attention's and the recurrence's outputs through the output projection. -/
def resid (r : Fin 16384) (n : Fin 1024) : EReal :=
  x0 (ix3 ⟨r.val / 4096, by omega⟩ ⟨r.val % 4096, by omega⟩ n)
    + ∑ k : Fin 512, x1 (ix2 r k) * x3 (ix3 0 ⟨k.val, by omega⟩ n)
    + ∑ k : Fin 512, x2 (ix2 r k) * x3 (ix3 0 ⟨512 + k.val, by omega⟩ n)

/-- A token's hidden unit. -/
def hidden (r : Fin 16384) (f : Fin 4096) : EReal :=
  sq (∑ k : Fin 1024, rms (resid x0 x1 x2 x3 r) (fun k => x4 (ix2 0 k)) k * x5 (ix3 0 k f))

/-- A token's output. -/
def outRow (r : Fin 16384) (n : Fin 1024) : EReal :=
  rms (fun n => resid x0 x1 x2 x3 r n + ∑ f : Fin 4096, hidden x0 x1 x2 x3 x4 x5 r f * x6 (ix3 0 f n)) (fun k => x7 (ix1 k)) n
end

/-! ## The blocks -/

variable (m : (ℓ : Loc nD τ sig) → Buf (Elt Ideal) ℓ) (c : Dev nD)

/-- Where every window's block stands at a grid point. -/
theorem idx : ∀ t : Fin cfg0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, t.val % 8] ∧ win0_6.index t = ![t.val % 8, 0]
    ∧ win0_7.index t = ![0, 0] ∧ win0_8.index t = ![t.val / 8, 0] :=
  (by decide +kernel : ∀ t : Fin grid0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, t.val % 8] ∧ win0_6.index t = ![t.val % 8, 0]
    ∧ win0_7.index t = ![0, 0] ∧ win0_8.index t = ![t.val / 8, 0])

/-- The grid has 128 points. -/
theorem lt128 (t : Fin cfg0.N) : t.val < 128 := lt_of_lt_of_eq t.isLt (show cfg0.N = 128 from N_0)

/-- The token of a row of the tile a grid point works on. -/
def tok (t : Fin cfg0.N) (p : Fin 1024) : Fin 16384 := ⟨1024 * (t.val / 8) + p.val, by have := lt128 t; omega⟩

/-- The hidden unit of a column of the block a grid point works on. -/
def unitOf (t : Fin cfg0.N) (x : Fin 512) : Fin 4096 := ⟨512 * (t.val % 8) + x.val, by omega⟩

/-- The block of the residual stream a point reads: its own rows of the argument. -/
theorem x_blk (t : Fin cfg0.N) (p q : Fin 1024) :
    iblk m c 0 t (ix2 p q) = m ((c.tc : Thread nD τ).loc main_arg0)
      (ix3 ⟨(tok t p).val / 4096, by have := (tok t p).isLt; omega⟩ ⟨(tok t p).val % 4096, by omega⟩ q) := by
  unfold tok
  blk_point [iblk, V, idx t]

/-- The block of the attention output a point reads: its own rows. -/
theorem a_blk (t : Fin cfg0.N) (p : Fin 1024) (k : Fin 512) :
    iblk m c 1 t (ix2 p k) = m ((c.tc : Thread nD τ).loc main_arg1) (ix2 (tok t p) k) := by
  unfold tok
  blk_point [iblk, V, idx t]

/-- The block of the recurrence output a point reads: its own rows. -/
theorem h_blk (t : Fin cfg0.N) (p : Fin 1024) (k : Fin 512) :
    iblk m c 2 t (ix2 p k) = m ((c.tc : Thread nD τ).loc main_arg2) (ix2 (tok t p) k) := by
  unfold tok
  blk_point [iblk, V, idx t]

/-- Every point reads the whole of the output projection. -/
theorem wo_blk (t : Fin cfg0.N) (p q : Fin 1024) :
    iblk m c 3 t (ix2 p q) = m ((c.tc : Thread nD τ).loc main_arg3) (ix3 0 p q) := by
  blk_point [iblk, V, idx t]

/-- Every point reads the whole of the second norm weight. -/
theorem l2_blk (t : Fin cfg0.N) (q : Fin 1024) :
    iblk m c 4 t (ix2 0 q) = m ((c.tc : Thread nD τ).loc main_arg4) (ix2 0 q) := by
  blk_point [iblk, V, idx t]

/-- A point reads its own 512 columns of the up projection. -/
theorem wu_blk (t : Fin cfg0.N) (k : Fin 1024) (x : Fin 512) :
    iblk m c 5 t (ix2 k x) = m ((c.tc : Thread nD τ).loc main_arg5) (ix3 0 k (unitOf t x)) := by
  unfold unitOf
  blk_point [iblk, V, idx t]

/-- A point reads its own 512 rows of the down projection. -/
theorem wd_blk (t : Fin cfg0.N) (x : Fin 512) (q : Fin 1024) :
    iblk m c 6 t (ix2 x q) = m ((c.tc : Thread nD τ).loc main_arg6) (ix3 0 (unitOf t x) q) := by
  unfold unitOf
  blk_point [iblk, V, idx t]

/-- Every point reads the whole of the final norm weight. -/
theorem lf_blk (t : Fin cfg0.N) (q : Fin 1024) :
    iblk m c 7 t (ix2 0 q) = m ((c.tc : Thread nD τ).loc main_arg7) (ix1 q) := by
  blk_point [iblk, V, idx t]

/-- The residual sum's tile holds the residual sums of its tokens. -/
theorem x1Tile_at (t : Fin cfg0.N) (p q : Fin 1024) :
    x1Tile m c t (ix2 p q) = resid (m ((c.tc : Thread nD τ).loc main_arg0)) (m ((c.tc : Thread nD τ).loc main_arg1))
      (m ((c.tc : Thread nD τ).loc main_arg2)) (m ((c.tc : Thread nD τ).loc main_arg3)) (tok t p) q := by
  unfold resid
  refine (pay4_at _ _ _ _ _ p q).trans ?_
  refine congrArg₂ (fun a b : EReal => a + b) (congrArg₂ (fun a b : EReal => a + b) (x_blk m c t p q) (Finset.sum_congr rfl fun k _ => ?_)) (Finset.sum_congr rfl fun k _ => ?_)
  · refine congrArg₂ (fun a b : EReal => a * b) (a_blk m c t p k) (Eq.trans ?_ (wo_blk m c t ⟨k.val, by omega⟩ q))
    refine View.ld_unit_apply_of _ _ _ _ _ _ fun a => ?_
    fin_cases a <;> simp
  · refine congrArg₂ (fun a b : EReal => a * b) (h_blk m c t p k) (Eq.trans ?_ (wo_blk m c t ⟨512 + k.val, by omega⟩ q))
    refine View.ld_unit_apply_of _ _ _ _ _ _ fun a => ?_
    fin_cases a <;> simp

/-! ## The result -/

/-- The rows of a tile's first point are the rows of all its points. -/
theorem tok_start (t : Fin cfg0.N) (p : Fin 1024) : tok ⟨8 * (t.val / 8), Pipeline.run_start_lt t⟩ p = tok t p :=
  Fin.ext (by simp [tok])

/-- The eight points that share a row block read the same token, and the row block is theirs. -/
theorem tok_point (t : Fin cfg0.N) (ht : t.val % 8 = 7) (s : Fin 8) (p : Fin 1024) :
    tok ⟨8 * (t.val / 8) + s.val, Pipeline.run_point_lt_of_flush t ht s⟩ p = tok t p :=
  Fin.ext (by have := s.isLt; simp [tok]; omega)

/-- The second scratch holds the normalised residual sums of its tokens. -/
theorem scr1_at (t : Fin cfg0.N) (p q : Fin 1024) :
    (outsAt0 m c t.val t.isLt).2.2.1 (ix2 p q)
      = rms (resid (m ((c.tc : Thread nD τ).loc main_arg0)) (m ((c.tc : Thread nD τ).loc main_arg1))
          (m ((c.tc : Thread nD τ).loc main_arg2)) (m ((c.tc : Thread nD τ).loc main_arg3)) (tok t p))
          (fun k => m ((c.tc : Thread nD τ).loc main_arg4) (ix2 0 k)) q := by
  rw [scr1]
  simp only [x1Tile_at, tok_start, l2_blk]

/-- A block of hidden units adds, to a token's output, its units' parts. -/
theorem part_at (t : Fin cfg0.N) (p q : Fin 1024) :
    part m c t (ix2 p q) = ∑ x : Fin 512,
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) (unitOf t x) * m ((c.tc : Thread nD τ).loc main_arg6) (ix3 0 (unitOf t x) q) := by
  show (∑ x : Fin 512, sq (∑ k : Fin 1024, (outsAt0 m c t.val t.isLt).2.2.1 (ix2 p k) * iblk m c 5 t (ix2 k x)) * iblk m c 6 t (ix2 x q)) = _
  refine Finset.sum_congr rfl fun x _ => ?_
  rw [wd_blk]
  unfold hidden
  congr 2
  refine Finset.sum_congr rfl fun k _ => ?_
  rw [wu_blk, scr1_at]

/-- The blocks of hidden units, one after another, are all the hidden units. -/
theorem parts_at (t : Fin cfg0.N) (ht : t.val % 8 = 7) (p q : Fin 1024) :
    (outsAt0 m c t.val t.isLt).2.2.2 (ix2 p q) = ∑ f : Fin 4096,
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) f * m ((c.tc : Thread nD τ).loc main_arg6) (ix3 0 f q) := by
  rw [scr2 m c t ht, zero_add]
  have := Fin.sum_mul_add_fin (L := 4096) 8 512 (fun f =>
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) f * m ((c.tc : Thread nD τ).loc main_arg6) (ix3 0 f q)) (by norm_num)
  rw [← this]
  refine Finset.sum_congr rfl fun s _ => ?_
  rw [part_at]
  refine Finset.sum_congr rfl fun x _ => ?_
  rw [tok_point t ht s p]
  have e : unitOf ⟨8 * (t.val / 8) + s.val, Pipeline.run_point_lt_of_flush t ht s⟩ x = ⟨s.val * 512 + x.val, by have := s.isLt; have := x.isLt; omega⟩ :=
    Fin.ext (by have := s.isLt; simp [unitOf]; omega)
  rw [e]

/-- The result array after the run: every token's output. -/
theorem arr8 : (dats m 0 c).arrAt 8 cfg0.N = fun i =>
    outRow (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (i 0) (i 1) := by
  refine (dats m 0 c).arrAt_eq_of_covers 8 _ (by decide +kernel) fun t hfl y => ?_
  have ht : t.val % 8 = 7 := (flush0_8 t).mp hfl
  blk_simp
  rw [after0_8]
  idx_vars y
  rw [out8 m c t ht]
  simp only [scr0, x1Tile_at, tok_start, parts_at m c t ht, lf_blk]
  show outRow _ _ _ _ _ _ _ _ (tok t y0) y1 = _
  congr 1
  · exact Fin.ext (by blk_simp [idx t]; simp [tok]; omega)
  · exact Fin.ext (by blk_simp [idx t])

end Cert.MlpIdeal.Hand

end
-- ==== Proof.MlpRef.lean ====
/-
  The reference's output projection and feed-forward part, element by element: its result is `outRow` at the argument
  arrays.
-/
module

public import proofs.«01_k».proof.Proof.MlpArrays
public import proofs.«01_k».proof.Proof.Gen.MlpRefIdeal.Read

@[expose] public section

set_option maxRecDepth 16384

noncomputable section

namespace Cert.MlpRefIdeal.Hand

open Cert.MlpRefIdeal Cert.MlpRefIdeal.Gen Cert.MlpRefIdeal.Read Idealize.ShloMosaic Idealize.ShloMosaic.TcCoe Idealize.SL.Sem
open Cert.MlpIdeal.Hand (rms sq resid hidden outRow)

variable (x0 : (⟨S4x4096x1024, .f32⟩ : BufTy).Contents (Elt Ideal)) (x1 x2 : (⟨S16384x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- The first half of the joined outputs is the attention's. -/
theorem ref_mix_left (r : Fin 16384) (k : Fin 512) : val_main_v1 (F := Ideal) x1 x2 (ix2 r ⟨k.val, by omega⟩) = x1 (ix2 r k) := by
  have := k.isLt
  unfold val_main_v1 val_main_v0
  pointwise

/-- The second half is the recurrence's. -/
theorem ref_mix_right (r : Fin 16384) (k : Fin 512) : val_main_v1 (F := Ideal) x1 x2 (ix2 r ⟨512 + k.val, by omega⟩) = x2 (ix2 r k) := by
  have := k.isLt
  unfold val_main_v1 val_main_v0
  pointwise

/-- The reference's residual sum. -/
theorem ref_resid (r : Fin 16384) (n : Fin 1024) : val_main_v5 (F := Ideal) x0 x1 x2 x3 (ix2 r n) = resid x0 x1 x2 x3 r n := by
  unfold val_main_v5 val_main_v4 val_main_v3 val_main_v2
  pointwise
  rw [Fin.sum_univ_two_halves 512 512 (by norm_num)]
  simp only [ref_mix_left, ref_mix_right]
  unfold resid
  rw [add_assoc]

/-- The reference's normalised residual sum. -/
theorem ref_hn (r : Fin 16384) (n : Fin 1024) :
    val_main_v19 (F := Ideal) x0 x1 x2 x3 x4 (ix2 r n) = rms (resid x0 x1 x2 x3 r) (fun k => x4 (ix2 0 k)) n := by
  unfold val_main_v19 val_main_v18 val_main_v17 val_main_v16 val_main_v15 val_main_v14 val_main_v13 val_main_v12 val_main_v11 val_main_v10
    val_main_v9 val_main_v8 val_main_v7 val_main_v6 val_main_cst_1 val_main_cst_0 val_main_cst
  pointwise
  simp only [ref_resid]
  rfl

/-- The reference's hidden units. -/
theorem ref_hidden (r : Fin 16384) (f : Fin 4096) :
    val_main_v23 (F := Ideal) x0 x1 x2 x3 x4 x5 (ix2 r f) = hidden x0 x1 x2 x3 x4 x5 r f := by
  unfold val_main_v23 val_main_v22 val_main_v21 val_main_v20 val_main_call0_v0 val_main_call0_cst
  pointwise
  simp only [ref_hn]
  rfl

/-- The reference's sum before the last normalisation. -/
theorem ref_sum (r : Fin 16384) (n : Fin 1024) :
    val_main_v26 (F := Ideal) x0 x1 x2 x3 x4 x5 x6 (ix2 r n)
      = resid x0 x1 x2 x3 r n + ∑ f : Fin 4096, hidden x0 x1 x2 x3 x4 x5 r f * x6 (ix3 0 f n) := by
  unfold val_main_v26 val_main_v25 val_main_v24
  pointwise
  simp only [ref_resid, ref_hidden]

/-- The reference's result. -/
theorem ref_out (r : Fin 16384) (n : Fin 1024) :
    val_main_v39 (F := Ideal) x0 x1 x2 x3 x4 x5 x6 x7 (ix2 r n) = outRow x0 x1 x2 x3 x4 x5 x6 x7 r n := by
  unfold val_main_v39 val_main_v38 val_main_v37 val_main_v36 val_main_v35 val_main_v34 val_main_v33 val_main_v32 val_main_v31 val_main_v30
    val_main_v29 val_main_v28 val_main_v27 val_main_cst_4 val_main_cst_3 val_main_cst_2
  pointwise
  simp only [ref_sum]
  rfl

end Cert.MlpRefIdeal.Hand

end
-- ==== Proof.MlpFrame.lean ====
/-
  The reference of Mlp leaves its arguments unchanged.
-/
module

public import Idealize.ShloMosaic.Lib.Quiescent
public import proofs.«01_k».proof.Defs
public import proofs.«01_k».proof.Proof.Gen.MlpRefIdeal.Run

@[expose] public section

noncomputable section

namespace Cert.Proof

open Idealize.ShloMosaic Idealize.SL.Sem

/-- The reference writes none of its arguments, and declares no semaphore. -/
theorem mlp_ref_frame : Cert.quiescent_MlpRefIdeal := fun m ρ _ =>
  (θ_run Cert.MlpRefIdeal.defs _ _).mono (fun r h => ⟨fun c => (h c).2,
    Idealize.ShloMosaic.sem_eq_zero_of_no_sems (by decide) r.2⟩)
    (Cert.MlpRefIdeal.Value.run (F := Ideal) m ρ)

end Cert.Proof

end
-- ==== Proof.MlpClaim.lean ====
/-
  The output projection and the feed-forward part: the kernel's result is the reference's.
-/
module

public import proofs.«01_k».proof.Defs
public import proofs.«01_k».proof.Proof.MlpRef
public import proofs.«01_k».proof.Proof.MlpFrame
public import proofs.«01_k».proof.Proof.Gen.MlpRefIdeal.Run

@[expose] public section

set_option maxRecDepth 16384

noncomputable section

namespace Cert.Proof

open Idealize.ShloMosaic Idealize.ShloMosaic.TcCoe Idealize.SL.Sem
open Cert.MlpIdeal.Hand (outRow)

/-- A function of eight arguments at equal arguments. -/
theorem congr8 {A B C D E F G H R : Type _} (f : A → B → C → D → E → F → G → H → R) {a a' : A} {b b' : B} {c c' : C} {d d' : D}
    {e e' : E} {g g' : F} {h h' : G} {k k' : H} (ha : a = a') (hb : b = b') (hc : c = c') (hd : d = d') (he : e = e') (hg : g = g')
    (hh : h = h') (hk : k = k') : f a b c d e g h k = f a' b' c' d' e' g' h' k' := by
  subst ha hb hc hd he hg hh hk
  rfl

section
open Cert.MlpRefIdeal Cert.MlpRefIdeal.Gen Cert.MlpRefIdeal.Read
variable (x0 : (⟨S4x4096x1024, .f32⟩ : BufTy).Contents (Elt Ideal)) (x1 x2 : (⟨S16384x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- The reference's array of outputs. -/
theorem mlp_out : val_main_v39 (F := Ideal) x0 x1 x2 x3 x4 x5 x6 x7 = fun i => outRow x0 x1 x2 x3 x4 x5 x6 x7 (i 0) (i 1) := by
  funext j
  idx_vars j
  exact Cert.MlpRefIdeal.Hand.ref_out x0 x1 x2 x3 x4 x5 x6 x7 j0 j1
end

/-- The kernel and the reference of the output projection and the feed-forward part end with equal results. -/
theorem mlp_algebraic : Cert.algebraic_MlpIdeal_MlpRefIdeal := fun m ρ m' ρ' _ hag =>
  ⟨fun c => (Cert.MlpIdeal.Gen.dats m 0 c).arrAt 8 Cert.MlpIdeal.cfg0.N,
   Cert.MlpIdeal.Value.run_blocks m ρ,
   (θ_run _ _ _).mono (fun r h c =>
    have a := hag c
    ⟨(h c).1.trans ((Cert.MlpRefIdeal.Read.val_main_v39_eq m' c).trans
        ((congr8 (fun a b c d e f g h => Cert.MlpRefIdeal.Read.val_main_v39 (F := Ideal) a b c d e f g h)
            a.1 a.2.1 a.2.2.1 a.2.2.2.1 a.2.2.2.2.1 a.2.2.2.2.2.1 a.2.2.2.2.2.2.1 a.2.2.2.2.2.2.2).trans
          ((mlp_out _ _ _ _ _ _ _ _).trans (Cert.MlpIdeal.Hand.arr8 m c).symm))),
     (h c).2⟩)
    (Cert.MlpRefIdeal.Value.run m' ρ')⟩

end Cert.Proof

end
-- ==== Proof.ProjValue.lean ====
/-
  The input projection: what the kernel's body leaves in each of its twelve result blocks, element by element, as a
  function of its input blocks.
-/
module

public import Idealize.ShloMosaic.Lib.Pipeline.ValueKit
public import Idealize.ShloMosaic.Lib.Pipeline.ValueKit.Held
public import Idealize.ShloMosaic.Lib.Pointwise
public import Idealize.ShloMosaic.Lib.Tactic
public import proofs.«01_k».proof.Proof.Gen.ProjIdeal.Value

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

/-- A row of tokens' features, divided by the root of their mean square and scaled by the learned weights. -/
def nrm (f w : Fin 1024 → EReal) (n : Fin 1024) : EReal :=
  f n * Ideal.rsqrt (Ideal.div (∑ k, f k * f k) (Ideal.ofBits FTy.f32 1149239296#32) + Ideal.ofBits FTy.f32 897988541#32) * w n

/-- A projected coordinate: the normalised row against one column of weights. -/
def proj (f w c : Fin 1024 → EReal) : EReal := ∑ k, nrm f w k * c k

variable (x0 : Vec Ideal S256x1024 .f32) (x1 : Vec Ideal S1x1024 .f32) (x2 : Vec Ideal S1024x3584 .bf16) (x3 : Vec Ideal S1024x1024 .bf16) (x4 : Vec Ideal S1024x128 .bf16) (x5 : Vec Ideal S16x1024 .bf16) (x6 : Vec Ideal S1x128 .f32) (x7 : Vec Ideal S16x1 .f32)

/-- What the body leaves of the keys, transposed. -/
theorem win8 (a : Fin 1) (b : Fin 512) (c : Fin 256) :
    out0_8 x0 x1 x2 x3 x4 x5 x6 x7 (ix3 a b c)
      = proj (fun k => x0 (ix2 c k)) (fun k => x1 (ix2 0 k)) (fun k => x3 (ix2 ⟨b.val, by omega⟩ k)) := by
  unfold_out out0_8
  canon_tiles j hh
  idx_vars j
  obtain rfl : a = 0 := Subsingleton.elim _ _
  obtain rfl : b = j1 := Fin.ext (by omega)
  obtain rfl : c = j2 := Fin.ext (by omega)
  open_payloads
  try pointwise
  unfold proj
  simp only [mul_comm (x3 _)]
  rfl

/-- What the body leaves of the values, transposed. -/
theorem win9 (a : Fin 1) (b : Fin 512) (c : Fin 256) :
    out0_9 x0 x1 x2 x3 x4 x5 x6 x7 (ix3 a b c)
      = proj (fun k => x0 (ix2 c k)) (fun k => x1 (ix2 0 k)) (fun k => x3 (ix2 ⟨512 + b.val, by omega⟩ k)) := by
  unfold_out out0_9
  canon_tiles j hh
  idx_vars j
  obtain rfl : a = 0 := Subsingleton.elim _ _
  obtain rfl : b = j1 := Fin.ext (by omega)
  obtain rfl : c = j2 := Fin.ext (by omega)
  open_payloads
  try pointwise
  unfold proj
  simp only [mul_comm (x3 _)]
  rfl

/-- What the body leaves of the attention's queries, scaled. -/
theorem win10 (a : Fin 256) (b : Fin 512) :
    out0_10 x0 x1 x2 x3 x4 x5 x6 x7 (ix2 a b)
      = proj (fun k => x0 (ix2 a k)) (fun k => x1 (ix2 0 k)) (fun k => x2 (ix2 k ⟨b.val, by omega⟩)) * Ideal.ofBits FTy.f32 0x3E000000#32 := by
  unfold_out out0_10
  canon_tiles j hh
  idx_vars j
  obtain rfl : a = j0 := Fin.ext (by omega)
  obtain rfl : b = j1 := Fin.ext (by omega)
  open_payloads
  try pointwise
  rfl

/-- What the body leaves of the attention's keys. -/
theorem win11 (a : Fin 256) (b : Fin 512) :
    out0_11 x0 x1 x2 x3 x4 x5 x6 x7 (ix2 a b)
      = proj (fun k => x0 (ix2 a k)) (fun k => x1 (ix2 0 k)) (fun k => x2 (ix2 k ⟨512 + b.val, by omega⟩)) := by
  unfold_out out0_11
  canon_tiles j hh
  idx_vars j
  obtain rfl : a = j0 := Fin.ext (by omega)
  obtain rfl : b = j1 := Fin.ext (by omega)
  open_payloads
  try pointwise
  rfl

/-- What the body leaves of the attention's values, transposed. -/
theorem win12 (a : Fin 1) (b : Fin 512) (c : Fin 256) :
    out0_12 x0 x1 x2 x3 x4 x5 x6 x7 (ix3 a b c)
      = proj (fun k => x0 (ix2 c k)) (fun k => x1 (ix2 0 k)) (fun k => x3 (ix2 ⟨512 + b.val, by omega⟩ k)) := by
  unfold_out out0_12
  canon_tiles j hh
  idx_vars j
  obtain rfl : a = 0 := Subsingleton.elim _ _
  obtain rfl : b = j1 := Fin.ext (by omega)
  obtain rfl : c = j2 := Fin.ext (by omega)
  open_payloads
  try pointwise
  unfold proj
  simp only [mul_comm (x3 _)]
  rfl

/-- What the body leaves of the mean of a block's keys. -/
theorem win13 (a : Fin 1) (b : Fin 1) (c : Fin 512) :
    out0_13 x0 x1 x2 x3 x4 x5 x6 x7 (ix3 a b c)
      = Ideal.div (∑ p : Fin 256, proj (fun k => x0 (ix2 p k)) (fun k => x1 (ix2 0 k)) (fun k => x2 (ix2 k ⟨512 + c.val, by omega⟩))) (Ideal.ofBits FTy.f32 1132462080#32) := by
  unfold_out out0_13
  canon_tiles j hh
  idx_vars j
  obtain rfl : a = 0 := Subsingleton.elim _ _
  obtain rfl : b = 0 := Subsingleton.elim _ _
  obtain rfl : c = j2 := Fin.ext (by omega)
  open_payloads
  try pointwise
  rfl

/-- What the body leaves of the recurrence's queries. -/
theorem win14 (a : Fin 256) (b : Fin 512) :
    out0_14 x0 x1 x2 x3 x4 x5 x6 x7 (ix2 a b)
      = proj (fun k => x0 (ix2 a k)) (fun k => x1 (ix2 0 k)) (fun k => x2 (ix2 k ⟨1536 + b.val, by omega⟩)) := by
  unfold_out out0_14
  canon_tiles j hh
  idx_vars j
  obtain rfl : a = j0 := Fin.ext (by omega)
  obtain rfl : b = j1 := Fin.ext (by omega)
  open_payloads
  try pointwise
  rfl

/-- What the body leaves of the recurrence's keys. -/
theorem win15 (a : Fin 256) (b : Fin 512) :
    out0_15 x0 x1 x2 x3 x4 x5 x6 x7 (ix2 a b)
      = proj (fun k => x0 (ix2 a k)) (fun k => x1 (ix2 0 k)) (fun k => x2 (ix2 k ⟨2048 + b.val, by omega⟩)) := by
  unfold_out out0_15
  canon_tiles j hh
  idx_vars j
  obtain rfl : a = j0 := Fin.ext (by omega)
  obtain rfl : b = j1 := Fin.ext (by omega)
  open_payloads
  try pointwise
  rfl

/-- What the body leaves of the recurrence's values. -/
theorem win16 (a : Fin 256) (b : Fin 512) :
    out0_16 x0 x1 x2 x3 x4 x5 x6 x7 (ix2 a b)
      = proj (fun k => x0 (ix2 a k)) (fun k => x1 (ix2 0 k)) (fun k => x2 (ix2 k ⟨2560 + b.val, by omega⟩)) := by
  unfold_out out0_16
  canon_tiles j hh
  idx_vars j
  obtain rfl : a = j0 := Fin.ext (by omega)
  obtain rfl : b = j1 := Fin.ext (by omega)
  open_payloads
  try pointwise
  rfl

/-- What the body leaves of the recurrence's output gates. -/
theorem win17 (a : Fin 256) (b : Fin 512) :
    out0_17 x0 x1 x2 x3 x4 x5 x6 x7 (ix2 a b)
      = proj (fun k => x0 (ix2 a k)) (fun k => x1 (ix2 0 k)) (fun k => x2 (ix2 k ⟨3072 + b.val, by omega⟩)) := by
  unfold_out out0_17
  canon_tiles j hh
  idx_vars j
  obtain rfl : a = j0 := Fin.ext (by omega)
  obtain rfl : b = j1 := Fin.ext (by omega)
  open_payloads
  try pointwise
  rfl

/-- What the body leaves of the gates. -/
theorem win18 (a : Fin 256) (b : Fin 128) :
    out0_18 x0 x1 x2 x3 x4 x5 x6 x7 (ix2 a b)
      = proj (fun k => x0 (ix2 a k)) (fun k => x1 (ix2 0 k)) (fun k => x4 (ix2 k b)) + x6 (ix2 0 b) := by
  unfold_out out0_18
  canon_tiles j hh
  idx_vars j
  obtain rfl : a = j0 := Fin.ext (by omega)
  obtain rfl : b = j1 := Fin.ext (by omega)
  open_payloads
  try pointwise
  rfl

/-- What the body leaves of the gates, transposed. -/
theorem win19 (a : Fin 16) (b : Fin 256) :
    out0_19 x0 x1 x2 x3 x4 x5 x6 x7 (ix2 a b)
      = proj (fun k => x0 (ix2 b k)) (fun k => x1 (ix2 0 k)) (fun k => x5 (ix2 a k)) + x7 (ix2 a 0) := by
  unfold_out out0_19
  canon_tiles j hh
  idx_vars j
  obtain rfl : a = j0 := Fin.ext (by omega)
  obtain rfl : b = j1 := Fin.ext (by omega)
  open_payloads
  try pointwise
  unfold proj
  simp only [mul_comm (x5 _)]
  rfl

end Cert.ProjIdeal.Hand

end
-- ==== Proof.ProjArrays.lean ====
/-
  The input projection: the twelve result arrays after the run, element by element, as functions of the argument arrays.
-/
module

public import proofs.«01_k».proof.Proof.ProjValue

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

/-! ## The results as functions of the arguments -/

section
variable (x0 : (⟨S4x4096x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- A coordinate of a token's projection: its normalised features against a column of the weights. -/
def zAt (b : Fin 4) (s : Fin 4096) (j : Fin 3592) : EReal :=
  proj (fun k => x0 (ix3 b s k)) (fun k => x1 (ix2 0 k)) (fun k => x2 (ix3 0 k j))

/-- The same, the tokens of all the sequences numbered one after another. -/
def zTok (r : Fin 16384) (j : Fin 3592) : EReal := zAt x0 x1 x2 ⟨r.val / 4096, by omega⟩ ⟨r.val % 4096, by omega⟩ j

/-- The coordinates from `o` on, of a sequence's token. -/
def zSeq (o : ℕ) (h : o ≤ 3072) (b : Fin 4) (s : Fin 4096) (j : Fin 512) : EReal := zAt x0 x1 x2 b s ⟨o + j.val, by omega⟩

/-- The coordinates from `o` on, of a token numbered through all the sequences. -/
def zRow (o : ℕ) (h : o ≤ 3072) (r : Fin 16384) (j : Fin 512) : EReal := zTok x0 x1 x2 r ⟨o + j.val, by omega⟩

/-- A token's gate, the lanes past the eight gates at zero. -/
def gate (r : Fin 16384) (j : ℕ) : EReal :=
  if h : j < 8 then zTok x0 x1 x2 r ⟨3584 + j, by omega⟩ + x3 (ix2 0 ⟨j, h⟩) else 0
end

/-! ## What the kernel is handed -/

/-- The integer zero, as a number. -/
theorem zero_word : FloatOps.sitofp (F := Ideal) .f32 (0#32) = (0 : EReal) := by
  show (((0#32 : BitVec 32).toInt : ℝ) : EReal) = 0
  simp

/-- The tokens, one after another. -/
def hostX (a : (⟨S4x4096x1024, .f32⟩ : BufTy).Contents (Elt Ideal)) : (⟨S16384x1024, .f32⟩ : BufTy).Contents (Elt Ideal) :=
  shapeCast S16384x1024 a shapeCasts_S4x4096x1024_S16384x1024

/-- The tokens laid out as rows, read at one place. -/
theorem hostX_at (a : (⟨S4x4096x1024, .f32⟩ : BufTy).Contents (Elt Ideal)) (r : Fin 16384) (q : Fin 1024) : hostX a (ix2 r q) = a (ix3 ⟨r.val / 4096, by omega⟩ ⟨r.val % 4096, by omega⟩ q) := by
  unfold hostX
  pointwise

/-- The learned weights of the normalisation. -/
def hostLn (a : (⟨S1x1024, .f32⟩ : BufTy).Contents (Elt Ideal)) : (⟨S1x1024, .f32⟩ : BufTy).Contents (Elt Ideal) :=
  shapeCast S1x1024 (shapeCast S1024 a shapeCasts_S1x1024_S1024) shapeCasts_S1024_S1x1024

/-- The norm weight as a row, read at one place. -/
theorem hostLn_at (a : (⟨S1x1024, .f32⟩ : BufTy).Contents (Elt Ideal)) (q : Fin 1024) : hostLn a (ix2 0 q) = a (ix2 0 q) := by
  unfold hostLn
  pointwise

/-- The columns of the projection. -/
def hostW (a : (⟨S1x1024x3592, .f32⟩ : BufTy).Contents (Elt Ideal)) : (⟨S1024x3584, .bf16⟩ : BufTy).Contents (Elt Ideal) :=
  truncf (F := Ideal) .bf16 (shapeCast S1024x3584 (extractStridedSlice S1x1024x3584 ![0, 0, 0] a slices_S1x1024x3592_S1x1024x3584_0_0_0)
    shapeCasts_S1x1024x3584_S1024x3584) bitsLt_bf16_f32

/-- The main columns of the projection, read at one place. -/
theorem hostW_at (a : (⟨S1x1024x3592, .f32⟩ : BufTy).Contents (Elt Ideal)) (k : Fin 1024) (j : Fin 3584) : hostW a (ix2 k j) = a (ix3 0 k ⟨j.val, by omega⟩) := by
  unfold hostW
  pointwise

/-- The columns of the keys and values, transposed. -/
def hostWkv (a : (⟨S1x1024x3592, .f32⟩ : BufTy).Contents (Elt Ideal)) : (⟨S1024x1024, .bf16⟩ : BufTy).Contents (Elt Ideal) :=
  truncf (F := Ideal) .bf16 (transpose S1024x1024 [1, 0] (shapeCast S1024x1024 (extractStridedSlice S1x1024x1024 ![0, 0, 512] a
    slices_S1x1024x3592_S1x1024x1024_0_0_512) shapeCasts_S1x1024x1024_S1024x1024) transposes_S1024x1024_S1024x1024_1_0) bitsLt_bf16_f32

/-- The transposed key and value columns, read at one place. -/
theorem hostWkv_at (a : (⟨S1x1024x3592, .f32⟩ : BufTy).Contents (Elt Ideal)) (j k : Fin 1024) : hostWkv a (ix2 j k) = a (ix3 0 k ⟨512 + j.val, by omega⟩) := by
  unfold hostWkv
  pointwise

/-- The columns of the gates, with zeros past them. -/
def hostWg (a : (⟨S1x1024x3592, .f32⟩ : BufTy).Contents (Elt Ideal)) : (⟨S1024x128, .bf16⟩ : BufTy).Contents (Elt Ideal) :=
  truncf (F := Ideal) .bf16 (pad S1024x128 ![0, 0] ![0, 120] ![0, 0] (shapeCast S1024x8 (extractStridedSlice S1x1024x8 ![0, 0, 3584] a
    slices_S1x1024x3592_S1x1024x8_0_0_3584) shapeCasts_S1x1024x8_S1024x8) (sitofp (F := Ideal) .f32 (constantI S_ 32 0#32))
    pads_S1024x8_S1024x128_000_01200 h_S_) bitsLt_bf16_f32

/-- The gate columns padded with zeros, read at one place. -/
theorem hostWg_at (a : (⟨S1x1024x3592, .f32⟩ : BufTy).Contents (Elt Ideal)) (k : Fin 1024) (j : Fin 128) : hostWg a (ix2 k j) = if h : j.val < 8 then a (ix3 0 k ⟨3584 + j.val, by omega⟩) else (0 : EReal) := by
  unfold hostWg
  by_cases h : j.val < 8
  · rw [dif_pos h]
    pointwise
    rw [dif_pos h]
  · rw [dif_neg h]
    pointwise
    rw [dif_neg h]
    exact zero_word

/-- The columns of the gates, transposed, with zeros past them. -/
def hostWgt (a : (⟨S1x1024x3592, .f32⟩ : BufTy).Contents (Elt Ideal)) : (⟨S16x1024, .bf16⟩ : BufTy).Contents (Elt Ideal) :=
  truncf (F := Ideal) .bf16 (pad S16x1024 ![0, 0] ![8, 0] ![0, 0] (transpose S8x1024 [1, 0] (shapeCast S1024x8 (extractStridedSlice S1x1024x8 ![0, 0, 3584] a
    slices_S1x1024x3592_S1x1024x8_0_0_3584) shapeCasts_S1x1024x8_S1024x8) transposes_S1024x8_S8x1024_1_0) (sitofp (F := Ideal) .f32 (constantI S_ 32 0#32))
    pads_S8x1024_S16x1024_080_000 h_S_) bitsLt_bf16_f32

/-- The transposed gate columns padded with zeros, read at one place. -/
theorem hostWgt_at (a : (⟨S1x1024x3592, .f32⟩ : BufTy).Contents (Elt Ideal)) (j : Fin 16) (k : Fin 1024) : hostWgt a (ix2 j k) = if h : j.val < 8 then a (ix3 0 k ⟨3584 + j.val, by omega⟩) else (0 : EReal) := by
  unfold hostWgt
  by_cases h : j.val < 8
  · rw [dif_pos h]
    pointwise
    rw [dif_pos h]
  · rw [dif_neg h]
    pointwise
    rw [dif_neg h]
    exact zero_word

/-- The bias of the gates, with zeros past it. -/
def hostBg (a : (⟨S1x8, .f32⟩ : BufTy).Contents (Elt Ideal)) : (⟨S1x128, .f32⟩ : BufTy).Contents (Elt Ideal) :=
  shapeCast S1x128 (pad S128 ![0] ![120] ![0] (shapeCast S8 a shapeCasts_S1x8_S8) (sitofp (F := Ideal) .f32 (constantI S_ 32 0#32))
    pads_S8_S128_01200 h_S_) shapeCasts_S128_S1x128

/-- The gate biases padded with zeros as a row, read at one place. -/
theorem hostBg_at (a : (⟨S1x8, .f32⟩ : BufTy).Contents (Elt Ideal)) (j : Fin 128) : hostBg a (ix2 0 j) = if h : j.val < 8 then a (ix2 0 ⟨j.val, h⟩) else (0 : EReal) := by
  unfold hostBg
  by_cases h : j.val < 8
  · rw [dif_pos h]
    pointwise
    rw [dif_pos h]
  · rw [dif_neg h]
    pointwise
    rw [dif_neg h]
    exact zero_word

/-- The bias of the gates as a column, with zeros past it. -/
def hostBgt (a : (⟨S1x8, .f32⟩ : BufTy).Contents (Elt Ideal)) : (⟨S16x1, .f32⟩ : BufTy).Contents (Elt Ideal) :=
  shapeCast S16x1 (pad S16 ![0] ![8] ![0] (shapeCast S8 a shapeCasts_S1x8_S8) (sitofp (F := Ideal) .f32 (constantI S_ 32 0#32))
    pads_S8_S16_080 h_S_) shapeCasts_S16_S16x1

/-- The gate biases padded with zeros as a column, read at one place. -/
theorem hostBgt_at (a : (⟨S1x8, .f32⟩ : BufTy).Contents (Elt Ideal)) (j : Fin 16) : hostBgt a (ix2 j 0) = if h : j.val < 8 then a (ix2 0 ⟨j.val, h⟩) else (0 : EReal) := by
  unfold hostBgt
  by_cases h : j.val < 8
  · rw [dif_pos h]
    pointwise
    rw [dif_pos h]
  · rw [dif_neg h]
    pointwise
    rw [dif_neg h]
    exact zero_word

/-! ## The blocks -/

variable (m : (ℓ : Loc nD τ sig) → Buf (Elt Ideal) ℓ) (c : Dev nD)

/-- Where every window's block stands at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val / 16, 0, t.val % 16]
    ∧ win0_9.index t = ![t.val / 16, 0, t.val % 16]
    ∧ win0_10.index t = ![t.val, 0]
    ∧ win0_11.index t = ![t.val, 0]
    ∧ win0_12.index t = ![t.val, 0, 0]
    ∧ win0_13.index t = ![t.val, 0, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![0, t.val] :=
  (by decide +kernel : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val / 16, 0, t.val % 16]
    ∧ win0_9.index t = ![t.val / 16, 0, t.val % 16]
    ∧ win0_10.index t = ![t.val, 0]
    ∧ win0_11.index t = ![t.val, 0]
    ∧ win0_12.index t = ![t.val, 0, 0]
    ∧ win0_13.index t = ![t.val, 0, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![0, t.val])

/-- The grid has 64 points. -/
theorem lt64 (t : Fin cfg0.N) : t.val < 64 := lt_of_lt_of_eq t.isLt (show cfg0.N = 64 from N_0)

/-- The token of a row of the tile a grid point works on. -/
def tok (t : Fin cfg0.N) (p : Fin 256) : Fin 16384 := ⟨256 * t.val + p.val, by have := lt64 t; omega⟩

/-- The kernel is handed the tokens, one after another. -/
theorem v20_eq : V m c main_v20 = hostX (m ((c.tc : Thread nD τ).loc main_arg0)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the tokens, one after another. -/
theorem x_blk (t : Fin cfg0.N) (p : Fin 256) (q : Fin 1024) :
    iblk m c 0 t (ix2 p q) = m ((c.tc : Thread nD τ).loc main_arg0)
      (ix3 ⟨(tok t p).val / 4096, by have := (tok t p).isLt; omega⟩ ⟨(tok t p).val % 4096, by omega⟩ q) := by
  have e : iblk m c 0 t (ix2 p q) = V m c main_v20 (ix2 (tok t p) q) := by
    unfold tok
    blk_point [iblk, idx t]
  rw [e, v20_eq, hostX_at]

/-- The kernel is handed the learned weights of the normalisation. -/
theorem v22_eq : V m c main_v22 = hostLn (m ((c.tc : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the learned weights of the normalisation. -/
theorem ln_blk (t : Fin cfg0.N) (q : Fin 1024) :
    iblk m c 1 t (ix2 0 q) = m ((c.tc : Thread nD τ).loc main_arg1) (ix2 0 q) := by
  have e : iblk m c 1 t (ix2 0 q) = V m c main_v22 (ix2 0 q) := by
    blk_point [iblk, idx t]
  rw [e, v22_eq, hostLn_at]

/-- The kernel is handed the columns of the projection. -/
theorem v2_eq : V m c main_v2 = hostW (m ((c.tc : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the columns of the projection. -/
theorem w_blk (t : Fin cfg0.N) (k : Fin 1024) (j : Fin 3584) :
    iblk m c 2 t (ix2 k j) = m ((c.tc : Thread nD τ).loc main_arg2) (ix3 0 k ⟨j.val, by omega⟩) := by
  have e : iblk m c 2 t (ix2 k j) = V m c main_v2 (ix2 k j) := by
    blk_point [iblk, idx t]
  rw [e, v2_eq, hostW_at]

/-- The kernel is handed the columns of the keys and values, transposed. -/
theorem v6_eq : V m c main_v6 = hostWkv (m ((c.tc : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the columns of the keys and values, transposed. -/
theorem wkv_blk (t : Fin cfg0.N) (j k : Fin 1024) :
    iblk m c 3 t (ix2 j k) = m ((c.tc : Thread nD τ).loc main_arg2) (ix3 0 k ⟨512 + j.val, by omega⟩) := by
  have e : iblk m c 3 t (ix2 j k) = V m c main_v6 (ix2 j k) := by
    blk_point [iblk, idx t]
  rw [e, v6_eq, hostWkv_at]

/-- The kernel is handed the columns of the gates, with zeros past them. -/
theorem v10_eq : V m c main_v10 = hostWg (m ((c.tc : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the columns of the gates, with zeros past them. -/
theorem wg_blk (t : Fin cfg0.N) (k : Fin 1024) (j : Fin 128) :
    iblk m c 4 t (ix2 k j) = if h : j.val < 8 then m ((c.tc : Thread nD τ).loc main_arg2) (ix3 0 k ⟨3584 + j.val, by omega⟩) else (0 : EReal) := by
  have e : iblk m c 4 t (ix2 k j) = V m c main_v10 (ix2 k j) := by
    blk_point [iblk, idx t]
  rw [e, v10_eq, hostWg_at]

/-- The kernel is handed the columns of the gates, transposed, with zeros past them. -/
theorem v13_eq : V m c main_v13 = hostWgt (m ((c.tc : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the columns of the gates, transposed, with zeros past them. -/
theorem wgt_blk (t : Fin cfg0.N) (j : Fin 16) (k : Fin 1024) :
    iblk m c 5 t (ix2 j k) = if h : j.val < 8 then m ((c.tc : Thread nD τ).loc main_arg2) (ix3 0 k ⟨3584 + j.val, by omega⟩) else (0 : EReal) := by
  have e : iblk m c 5 t (ix2 j k) = V m c main_v13 (ix2 j k) := by
    blk_point [iblk, idx t]
  rw [e, v13_eq, hostWgt_at]

/-- The kernel is handed the bias of the gates, with zeros past it. -/
theorem v16_eq : V m c main_v16 = hostBg (m ((c.tc : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the bias of the gates, with zeros past it. -/
theorem bg_blk (t : Fin cfg0.N) (j : Fin 128) :
    iblk m c 6 t (ix2 0 j) = if h : j.val < 8 then m ((c.tc : Thread nD τ).loc main_arg3) (ix2 0 ⟨j.val, h⟩) else (0 : EReal) := by
  have e : iblk m c 6 t (ix2 0 j) = V m c main_v16 (ix2 0 j) := by
    blk_point [iblk, idx t]
  rw [e, v16_eq, hostBg_at]

/-- The kernel is handed the bias of the gates as a column, with zeros past it. -/
theorem v19_eq : V m c main_v19 = hostBgt (m ((c.tc : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The block of the bias of the gates as a column, with zeros past it. -/
theorem bgt_blk (t : Fin cfg0.N) (j : Fin 16) :
    iblk m c 7 t (ix2 j 0) = if h : j.val < 8 then m ((c.tc : Thread nD τ).loc main_arg3) (ix2 0 ⟨j.val, h⟩) else (0 : EReal) := by
  have e : iblk m c 7 t (ix2 j 0) = V m c main_v19 (ix2 j 0) := by
    blk_point [iblk, idx t]
  rw [e, v19_eq, hostBgt_at]

/-! ## The arrays -/

/-- The projected row at a tile's row is its token's. -/
theorem proj_at (t : Fin cfg0.N) (p : Fin 256) (f : Fin 1024 → EReal) :
    proj (fun k => iblk m c 0 t (ix2 p k)) (fun k => iblk m c 1 t (ix2 0 k)) f
      = proj (fun k => (m ((c.tc : Thread nD τ).loc main_arg0)) (ix3 ⟨(tok t p).val / 4096, by have := (tok t p).isLt; omega⟩ ⟨(tok t p).val % 4096, by omega⟩ k))
          (fun k => (m ((c.tc : Thread nD τ).loc main_arg1)) (ix2 0 k)) f := by
  simp only [x_blk, ln_blk]

/-- A tile's row against a column of the projection. -/
theorem row_at (t : Fin cfg0.N) (p : Fin 256) (o : ℕ) (h : o ≤ 3072) (j : Fin 512) (j' : Fin 3584) (e : j'.val = o + j.val) :
    proj (fun k => iblk m c 0 t (ix2 p k)) (fun k => iblk m c 1 t (ix2 0 k)) (fun k => iblk m c 2 t (ix2 k j')) = zRow (m ((c.tc : Thread nD τ).loc main_arg0)) (m ((c.tc : Thread nD τ).loc main_arg1)) (m ((c.tc : Thread nD τ).loc main_arg2)) o h (tok t p) j := by
  have e' : (⟨j'.val, by omega⟩ : Fin 3592) = ⟨o + j.val, by omega⟩ := Fin.ext e
  rw [proj_at]
  simp only [w_blk, e']
  rfl

/-- A tile's row against a transposed column of the keys and values. -/
theorem colT_at (t : Fin cfg0.N) (p : Fin 256) (o : ℕ) (h : o ≤ 3072) (j : Fin 512) (j' : Fin 1024) (e : 512 + j'.val = o + j.val) :
    proj (fun k => iblk m c 0 t (ix2 p k)) (fun k => iblk m c 1 t (ix2 0 k)) (fun k => iblk m c 3 t (ix2 j' k)) = zRow (m ((c.tc : Thread nD τ).loc main_arg0)) (m ((c.tc : Thread nD τ).loc main_arg1)) (m ((c.tc : Thread nD τ).loc main_arg2)) o h (tok t p) j := by
  have e' : (⟨512 + j'.val, by omega⟩ : Fin 3592) = ⟨o + j.val, by omega⟩ := Fin.ext e
  rw [proj_at]
  simp only [wkv_blk, e']
  rfl

/-- A row against nothing but zeros is zero. -/
theorem proj_zero (f w : Fin 1024 → EReal) : proj f w (fun _ => 0) = 0 := by
  unfold proj
  simp

/-- A tile's row against a column of the gates. -/
theorem gate_at (t : Fin cfg0.N) (p : Fin 256) (j : Fin 128) :
    proj (fun k => iblk m c 0 t (ix2 p k)) (fun k => iblk m c 1 t (ix2 0 k)) (fun k => iblk m c 4 t (ix2 k j)) + iblk m c 6 t (ix2 0 j)
      = gate (m ((c.tc : Thread nD τ).loc main_arg0)) (m ((c.tc : Thread nD τ).loc main_arg1)) (m ((c.tc : Thread nD τ).loc main_arg2)) (m ((c.tc : Thread nD τ).loc main_arg3)) (tok t p) j.val := by
  rw [proj_at, bg_blk]
  simp only [wg_blk]
  unfold gate
  by_cases h : j.val < 8
  · simp only [dif_pos h]
    rfl
  · simp only [dif_neg h]
    exact (congrArg (fun a : EReal => a + 0) (proj_zero _ _)).trans (add_zero 0)

/-- The same against a transposed column of the gates. -/
theorem gateT_at (t : Fin cfg0.N) (p : Fin 256) (j : Fin 16) :
    proj (fun k => iblk m c 0 t (ix2 p k)) (fun k => iblk m c 1 t (ix2 0 k)) (fun k => iblk m c 5 t (ix2 j k)) + iblk m c 7 t (ix2 j 0)
      = gate (m ((c.tc : Thread nD τ).loc main_arg0)) (m ((c.tc : Thread nD τ).loc main_arg1)) (m ((c.tc : Thread nD τ).loc main_arg2)) (m ((c.tc : Thread nD τ).loc main_arg3)) (tok t p) j.val := by
  rw [proj_at, bgt_blk]
  simp only [wgt_blk]
  unfold gate
  by_cases h : j.val < 8
  · simp only [dif_pos h]
    rfl
  · simp only [dif_neg h]
    exact (congrArg (fun a : EReal => a + 0) (proj_zero _ _)).trans (add_zero 0)

/-- The keys, transposed, after the run. -/
theorem arr8 : (dats m 0 c).arrAt 8 cfg0.N = fun i => zSeq (m ((c.tc : Thread nD τ).loc main_arg0)) (m ((c.tc : Thread nD τ).loc main_arg1)) (m ((c.tc : Thread nD τ).loc main_arg2)) 512 (by omega) (i 0) (i 2) (i 1) := by
  refine (dats m 0 c).arrAt_eq_of_covers 8 _ (by decide +kernel) fun t hfl y => ?_
  have ht := lt64 t
  blk_simp
  rw [after0_8]
  idx_vars y
  obtain rfl : y0 = 0 := Subsingleton.elim _ _
  rw [win8, colT_at m c t y2 512 (by omega) y1 _ (by simp; try omega)]
  show zRow (m ((c.tc : Thread nD τ).loc main_arg0)) (m ((c.tc : Thread nD τ).loc main_arg1)) (m ((c.tc : Thread nD τ).loc main_arg2)) 512 _ (tok t y2) y1 = _
  unfold zRow zTok zSeq
  congr 1
  · exact Fin.ext (by blk_simp [idx t]; simp [tok]; omega)
  · exact Fin.ext (by blk_simp [idx t]; simp [tok]; omega)
  · exact Fin.ext (by blk_simp [idx t])

/-- The values, transposed, after the run. -/
theorem arr9 : (dats m 0 c).arrAt 9 cfg0.N = fun i => zSeq (m ((c.tc : Thread nD τ).loc main_arg0)) (m ((c.tc : Thread nD τ).loc main_arg1)) (m ((c.tc : Thread nD τ).loc main_arg2)) 1024 (by omega) (i 0) (i 2) (i 1) := by
  refine (dats m 0 c).arrAt_eq_of_covers 9 _ (by decide +kernel) fun t hfl y => ?_
  have ht := lt64 t
  blk_simp
  rw [after0_9]
  idx_vars y
  obtain rfl : y0 = 0 := Subsingleton.elim _ _
  rw [win9, colT_at m c t y2 1024 (by omega) y1 _ (by simp; try omega)]
  show zRow (m ((c.tc : Thread nD τ).loc main_arg0)) (m ((c.tc : Thread nD τ).loc main_arg1)) (m ((c.tc : Thread nD τ).loc main_arg2)) 1024 _ (tok t y2) y1 = _
  unfold zRow zTok zSeq
  congr 1
  · exact Fin.ext (by blk_simp [idx t]; simp [tok]; omega)
  · exact Fin.ext (by blk_simp [idx t]; simp [tok]; omega)
  · exact Fin.ext (by blk_simp [idx t])

/-- The attention's keys after the run. -/
theorem arr11 : (dats m 0 c).arrAt 11 cfg0.N = fun i => zRow (m ((c.tc : Thread nD τ).loc main_arg0)) (m ((c.tc : Thread nD τ).loc main_arg1)) (m ((c.tc : Thread nD τ).loc main_arg2)) 512 (by omega) (i 0) (i 1) := by
  refine (dats m 0 c).arrAt_eq_of_covers 11 _ (by decide +kernel) fun t hfl y => ?_
  have ht := lt64 t
  blk_simp
  rw [after0_11]
  idx_vars y
  rw [win11, row_at m c t y0 512 (by omega) y1 _ (by simp)]
  show zRow (m ((c.tc : Thread nD τ).loc main_arg0)) (m ((c.tc : Thread nD τ).loc main_arg1)) (m ((c.tc : Thread nD τ).loc main_arg2)) 512 _ (tok t y0) y1 = _
  congr 1
  · exact Fin.ext (by blk_simp [idx t]; simp [tok]; omega)
  · exact Fin.ext (by blk_simp [idx t])

/-- The recurrence's queries after the run. -/
theorem arr14 : (dats m 0 c).arrAt 14 cfg0.N = fun i => zRow (m ((c.tc : Thread nD τ).loc main_arg0)) (m ((c.tc : Thread nD τ).loc main_arg1)) (m ((c.tc : Thread nD τ).loc main_arg2)) 1536 (by omega) (i 0) (i 1) := by
  refine (dats m 0 c).arrAt_eq_of_covers 14 _ (by decide +kernel) fun t hfl y => ?_
  have ht := lt64 t
  blk_simp
  rw [after0_14]
  idx_vars y
  rw [win14, row_at m c t y0 1536 (by omega) y1 _ (by simp)]
  show zRow (m ((c.tc : Thread nD τ).loc main_arg0)) (m ((c.tc : Thread nD τ).loc main_arg1)) (m ((c.tc : Thread nD τ).loc main_arg2)) 1536 _ (tok t y0) y1 = _
  congr 1
  · exact Fin.ext (by blk_simp [idx t]; simp [tok]; omega)
  · exact Fin.ext (by blk_simp [idx t])

/-- The recurrence's keys after the run. -/
theorem arr15 : (dats m 0 c).arrAt 15 cfg0.N = fun i => zRow (m ((c.tc : Thread nD τ).loc main_arg0)) (m ((c.tc : Thread nD τ).loc main_arg1)) (m ((c.tc : Thread nD τ).loc main_arg2)) 2048 (by omega) (i 0) (i 1) := by
  refine (dats m 0 c).arrAt_eq_of_covers 15 _ (by decide +kernel) fun t hfl y => ?_
  have ht := lt64 t
  blk_simp
  rw [after0_15]
  idx_vars y
  rw [win15, row_at m c t y0 2048 (by omega) y1 _ (by simp)]
  show zRow (m ((c.tc : Thread nD τ).loc main_arg0)) (m ((c.tc : Thread nD τ).loc main_arg1)) (m ((c.tc : Thread nD τ).loc main_arg2)) 2048 _ (tok t y0) y1 = _
  congr 1
  · exact Fin.ext (by blk_simp [idx t]; simp [tok]; omega)
  · exact Fin.ext (by blk_simp [idx t])

/-- The recurrence's values after the run. -/
theorem arr16 : (dats m 0 c).arrAt 16 cfg0.N = fun i => zRow (m ((c.tc : Thread nD τ).loc main_arg0)) (m ((c.tc : Thread nD τ).loc main_arg1)) (m ((c.tc : Thread nD τ).loc main_arg2)) 2560 (by omega) (i 0) (i 1) := by
  refine (dats m 0 c).arrAt_eq_of_covers 16 _ (by decide +kernel) fun t hfl y => ?_
  have ht := lt64 t
  blk_simp
  rw [after0_16]
  idx_vars y
  rw [win16, row_at m c t y0 2560 (by omega) y1 _ (by simp)]
  show zRow (m ((c.tc : Thread nD τ).loc main_arg0)) (m ((c.tc : Thread nD τ).loc main_arg1)) (m ((c.tc : Thread nD τ).loc main_arg2)) 2560 _ (tok t y0) y1 = _
  congr 1
  · exact Fin.ext (by blk_simp [idx t]; simp [tok]; omega)
  · exact Fin.ext (by blk_simp [idx t])

/-- The recurrence's output gates after the run. -/
theorem arr17 : (dats m 0 c).arrAt 17 cfg0.N = fun i => zRow (m ((c.tc : Thread nD τ).loc main_arg0)) (m ((c.tc : Thread nD τ).loc main_arg1)) (m ((c.tc : Thread nD τ).loc main_arg2)) 3072 (by omega) (i 0) (i 1) := by
  refine (dats m 0 c).arrAt_eq_of_covers 17 _ (by decide +kernel) fun t hfl y => ?_
  have ht := lt64 t
  blk_simp
  rw [after0_17]
  idx_vars y
  rw [win17, row_at m c t y0 3072 (by omega) y1 _ (by simp)]
  show zRow (m ((c.tc : Thread nD τ).loc main_arg0)) (m ((c.tc : Thread nD τ).loc main_arg1)) (m ((c.tc : Thread nD τ).loc main_arg2)) 3072 _ (tok t y0) y1 = _
  congr 1
  · exact Fin.ext (by blk_simp [idx t]; simp [tok]; omega)
  · exact Fin.ext (by blk_simp [idx t])

/-- The attention's queries, scaled, after the run. -/
theorem arr10 : (dats m 0 c).arrAt 10 cfg0.N = fun i => zRow (m ((c.tc : Thread nD τ).loc main_arg0)) (m ((c.tc : Thread nD τ).loc main_arg1)) (m ((c.tc : Thread nD τ).loc main_arg2)) 0 (by omega) (i 0) (i 1) * Ideal.ofBits FTy.f32 0x3E000000#32 := by
  refine (dats m 0 c).arrAt_eq_of_covers 10 _ (by decide +kernel) fun t hfl y => ?_
  have ht := lt64 t
  blk_simp
  rw [after0_10]
  idx_vars y
  rw [win10, row_at m c t y0 0 (by omega) y1 _ (by simp)]
  show zRow (m ((c.tc : Thread nD τ).loc main_arg0)) (m ((c.tc : Thread nD τ).loc main_arg1)) (m ((c.tc : Thread nD τ).loc main_arg2)) 0 _ (tok t y0) y1 * _ = _
  congr 1
  congr 1
  · exact Fin.ext (by blk_simp [idx t]; simp [tok]; omega)
  · exact Fin.ext (by blk_simp [idx t])

/-- The attention's values, transposed block by block, after the run. -/
theorem arr12 : (dats m 0 c).arrAt 12 cfg0.N = fun i => zRow (m ((c.tc : Thread nD τ).loc main_arg0)) (m ((c.tc : Thread nD τ).loc main_arg1)) (m ((c.tc : Thread nD τ).loc main_arg2)) 1024 (by omega) ⟨256 * (i 0).val + (i 2).val, by have h : (i 0).val < 64 := (i 0).isLt; have h' : (i 2).val < 256 := (i 2).isLt; omega⟩ (i 1) := by
  refine (dats m 0 c).arrAt_eq_of_covers 12 _ (by decide +kernel) fun t hfl y => ?_
  have ht := lt64 t
  blk_simp
  rw [after0_12]
  idx_vars y
  obtain rfl : y0 = 0 := Subsingleton.elim _ _
  rw [win12, colT_at m c t y2 1024 (by omega) y1 _ (by simp; try omega)]
  show zRow (m ((c.tc : Thread nD τ).loc main_arg0)) (m ((c.tc : Thread nD τ).loc main_arg1)) (m ((c.tc : Thread nD τ).loc main_arg2)) 1024 _ (tok t y2) y1 = _
  congr 1
  · exact Fin.ext (by blk_simp [idx t]; simp [tok])
  · exact Fin.ext (by blk_simp [idx t])

/-- The means of the blocks' keys after the run. -/
theorem arr13 : (dats m 0 c).arrAt 13 cfg0.N = fun i => Ideal.div (∑ p : Fin 256, zRow (m ((c.tc : Thread nD τ).loc main_arg0)) (m ((c.tc : Thread nD τ).loc main_arg1)) (m ((c.tc : Thread nD τ).loc main_arg2)) 512 (by omega) ⟨256 * (i 0).val + p.val, by have h : (i 0).val < 64 := (i 0).isLt; have h' := p.isLt; omega⟩ (i 2)) (Ideal.ofBits FTy.f32 1132462080#32) := by
  refine (dats m 0 c).arrAt_eq_of_covers 13 _ (by decide +kernel) fun t hfl y => ?_
  have ht := lt64 t
  blk_simp
  rw [after0_13]
  idx_vars y
  obtain rfl : y0 = 0 := Subsingleton.elim _ _
  obtain rfl : y1 = 0 := Subsingleton.elim _ _
  rw [win13, Finset.sum_congr rfl fun p _ => row_at m c t p 512 (by omega) y2 ⟨512 + y2.val, by have := y2.isLt; omega⟩ rfl]
  show Ideal.div (∑ p : Fin 256, zRow (m ((c.tc : Thread nD τ).loc main_arg0)) (m ((c.tc : Thread nD τ).loc main_arg1)) (m ((c.tc : Thread nD τ).loc main_arg2)) 512 _ (tok t p) y2) _ = _
  congr 1
  refine Finset.sum_congr rfl fun p _ => ?_
  congr 1
  · exact Fin.ext (by blk_simp [idx t]; simp [tok])
  · exact Fin.ext (by blk_simp [idx t])

/-- The gates after the run. -/
theorem arr18 : (dats m 0 c).arrAt 18 cfg0.N = fun i => gate (m ((c.tc : Thread nD τ).loc main_arg0)) (m ((c.tc : Thread nD τ).loc main_arg1)) (m ((c.tc : Thread nD τ).loc main_arg2)) (m ((c.tc : Thread nD τ).loc main_arg3)) (i 0) (i 1).val := by
  refine (dats m 0 c).arrAt_eq_of_covers 18 _ (by decide +kernel) fun t hfl y => ?_
  have ht := lt64 t
  blk_simp
  rw [after0_18]
  idx_vars y
  rw [win18, gate_at]
  show gate (m ((c.tc : Thread nD τ).loc main_arg0)) (m ((c.tc : Thread nD τ).loc main_arg1)) (m ((c.tc : Thread nD τ).loc main_arg2)) (m ((c.tc : Thread nD τ).loc main_arg3)) (tok t y0) y1.val = _
  congr 1
  · exact Fin.ext (by blk_simp [idx t]; simp [tok]; omega)
  · blk_simp [idx t]

/-- The gates, transposed, after the run. -/
theorem arr19 : (dats m 0 c).arrAt 19 cfg0.N = fun i => gate (m ((c.tc : Thread nD τ).loc main_arg0)) (m ((c.tc : Thread nD τ).loc main_arg1)) (m ((c.tc : Thread nD τ).loc main_arg2)) (m ((c.tc : Thread nD τ).loc main_arg3)) (i 1) (i 0).val := by
  refine (dats m 0 c).arrAt_eq_of_covers 19 _ (by decide +kernel) fun t hfl y => ?_
  have ht := lt64 t
  blk_simp
  rw [after0_19]
  idx_vars y
  rw [win19, gateT_at]
  show gate (m ((c.tc : Thread nD τ).loc main_arg0)) (m ((c.tc : Thread nD τ).loc main_arg1)) (m ((c.tc : Thread nD τ).loc main_arg2)) (m ((c.tc : Thread nD τ).loc main_arg3)) (tok t y1) y0.val = _
  congr 1
  · exact Fin.ext (by blk_simp [idx t]; simp [tok]; omega)
  · blk_simp [idx t]

end Cert.ProjIdeal.Hand

end
-- ==== Proof.ProjRef.lean ====
/-
  The reference's input projection, element by element: each of its results is the projection's at the argument arrays.
-/
module

public import proofs.«01_k».proof.Proof.ProjArrays
public import proofs.«01_k».proof.Proof.Gen.ProjRefIdeal.Read

@[expose] public section

set_option maxRecDepth 16384

noncomputable section

namespace Cert.ProjRefIdeal.Hand

open Cert.ProjRefIdeal Cert.ProjRefIdeal.Gen Cert.ProjRefIdeal.Read Idealize.ShloMosaic Idealize.ShloMosaic.TcCoe Idealize.SL.Sem
open Cert.ProjIdeal.Hand (nrm proj zAt zTok zSeq zRow gate zero_word)

variable (x0 : (⟨S4x4096x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- A token's normed coordinate. -/
theorem ref_norm (b : Fin 4) (s : Fin 4096) (k : Fin 1024) :
    val_main_v13 (F := Ideal) x0 x1 (ix3 b s k) = nrm (fun k => x0 (ix3 b s k)) (fun k => x1 (ix2 0 k)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A token's projected coordinate. -/
theorem ref_z (b : Fin 4) (s : Fin 4096) (j : Fin 3592) : val_main_v15 (F := Ideal) x0 x1 x2 (ix3 b s j) = zAt x0 x1 x2 b s j := by
  unfold val_main_v15 val_main_v14
  pointwise
  simp only [ref_norm]
  rfl

/-- A token's gates. -/
theorem ref_gate (b : Fin 4) (s : Fin 4096) (j : Fin 8) :
    val_main_v23 (F := Ideal) x0 x1 x2 x3 (ix3 b s j) = zAt x0 x1 x2 b s ⟨3584 + j.val, by omega⟩ + x3 (ix2 0 j) := by
  unfold val_main_v23 val_main_v22 val_main_v21 val_main_v20 val_main_v19
  pointwise
  simp only [ref_z]

/-- The padded gates of a token. -/
theorem ref_v54 (r : Fin 16384) (j : Fin 128) : val_main_v54 (F := Ideal) x0 x1 x2 x3 (ix2 r j) = gate x0 x1 x2 x3 r j.val := by
  unfold gate
  by_cases h : j.val < 8
  · rw [dif_pos h]
    unfold val_main_v54 val_main_v24 val_main_call0_v0 val_main_c
    pointwise
    rw [dif_pos h]
    simp only [ref_gate]
    rfl
  · rw [dif_neg h]
    unfold val_main_v54 val_main_v24 val_main_call0_v0 val_main_c
    pointwise
    rw [dif_neg h]
    exact zero_word

/-- The padded gates of a token, transposed. -/
theorem ref_v56 (j : Fin 16) (r : Fin 16384) : val_main_v56 (F := Ideal) x0 x1 x2 x3 (ix2 j r) = gate x0 x1 x2 x3 r j.val := by
  unfold gate
  by_cases h : j.val < 8
  · rw [dif_pos h]
    unfold val_main_v56 val_main_v55 val_main_v24 val_main_call1_v0 val_main_c_5
    pointwise
    rw [dif_pos h]
    simp only [ref_gate]
    rfl
  · rw [dif_neg h]
    unfold val_main_v56 val_main_v55 val_main_v24 val_main_call1_v0 val_main_c_5
    pointwise
    rw [dif_neg h]
    exact zero_word

/-- The keys, transposed. -/
theorem ref_v33 (b : Fin 4) (j : Fin 512) (t : Fin 4096) : val_main_v33 (F := Ideal) x0 x1 x2 (ix3 b j t) = zSeq x0 x1 x2 512 (by omega) b t j := by
  unfold val_main_v33 val_main_v17
  pointwise
  simp only [ref_z]
  rfl

/-- The values, transposed. -/
theorem ref_v34 (b : Fin 4) (j : Fin 512) (t : Fin 4096) : val_main_v34 (F := Ideal) x0 x1 x2 (ix3 b j t) = zSeq x0 x1 x2 1024 (by omega) b t j := by
  unfold val_main_v34 val_main_v18
  pointwise
  simp only [ref_z]
  rfl

/-- The attention's queries, scaled. -/
theorem ref_v38 (r : Fin 16384) (j : Fin 512) : val_main_v38 (F := Ideal) x0 x1 x2 (ix2 r j) = zRow x0 x1 x2 0 (by omega) r j * Ideal.ofBits FTy.f32 0x3E000000#32 := by
  unfold val_main_v38 val_main_v37 val_main_v36 val_main_v35 val_main_v16 val_main_cst_4
  pointwise
  simp only [ref_z]
  unfold zRow zTok
  simp only [Nat.zero_add]

/-- The attention's keys. -/
theorem ref_v40 (r : Fin 16384) (j : Fin 512) : val_main_v40 (F := Ideal) x0 x1 x2 (ix2 r j) = zRow x0 x1 x2 512 (by omega) r j := by
  unfold val_main_v40 val_main_v39 val_main_v17
  pointwise
  simp only [ref_z]
  rfl

/-- The recurrence's queries. -/
theorem ref_v44 (r : Fin 16384) (j : Fin 512) : val_main_v44 (F := Ideal) x0 x1 x2 (ix2 r j) = zRow x0 x1 x2 1536 (by omega) r j := by
  unfold val_main_v44 val_main_v43 val_main_v42
  pointwise
  simp only [ref_z]
  rfl

/-- The recurrence's keys. -/
theorem ref_v47 (r : Fin 16384) (j : Fin 512) : val_main_v47 (F := Ideal) x0 x1 x2 (ix2 r j) = zRow x0 x1 x2 2048 (by omega) r j := by
  unfold val_main_v47 val_main_v46 val_main_v45
  pointwise
  simp only [ref_z]
  rfl

/-- The recurrence's values. -/
theorem ref_v50 (r : Fin 16384) (j : Fin 512) : val_main_v50 (F := Ideal) x0 x1 x2 (ix2 r j) = zRow x0 x1 x2 2560 (by omega) r j := by
  unfold val_main_v50 val_main_v49 val_main_v48
  pointwise
  simp only [ref_z]
  rfl

/-- The recurrence's output gates. -/
theorem ref_v53 (r : Fin 16384) (j : Fin 512) : val_main_v53 (F := Ideal) x0 x1 x2 (ix2 r j) = zRow x0 x1 x2 3072 (by omega) r j := by
  unfold val_main_v53 val_main_v52 val_main_v51
  pointwise
  simp only [ref_z]
  rfl

/-- A block's token, by its sequence or by its number through all the sequences. -/
theorem token_at (g : Fin 64) (p : Fin 256) (j : Fin 3592) :
    zAt x0 x1 x2 ⟨g.val / 16, by omega⟩ ⟨g.val % 16 * 256 + p.val, by omega⟩ j = zTok x0 x1 x2 ⟨256 * g.val + p.val, by omega⟩ j := by
  unfold zTok
  congr 1
  · exact Fin.ext (by show g.val / 16 = (256 * g.val + p.val) / 4096; omega)
  · exact Fin.ext (by show g.val % 16 * 256 + p.val = (256 * g.val + p.val) % 4096; omega)

/-- The attention's values, transposed block by block. -/
theorem ref_v41 (g : Fin 64) (j : Fin 512) (p : Fin 256) :
    val_main_v41 (F := Ideal) x0 x1 x2 (ix3 g j p) = zRow x0 x1 x2 1024 (by omega) ⟨256 * g.val + p.val, by omega⟩ j := by
  unfold val_main_v41 val_main_v27 val_main_v26 val_main_v25 val_main_v18
  pointwise
  simp only [ref_z]
  exact token_at x0 x1 x2 g p _

/-- The means of the blocks' keys. -/
theorem ref_v32 (g : Fin 64) (j : Fin 512) :
    val_main_v32 (F := Ideal) x0 x1 x2 (ix3 g 0 j)
      = Ideal.div (∑ p : Fin 256, zRow x0 x1 x2 512 (by omega) ⟨256 * g.val + p.val, by omega⟩ j) (Ideal.ofBits FTy.f32 1132462080#32) := by
  unfold val_main_v32 val_main_v31 val_main_v30 val_main_v29 val_main_v28 val_main_v17 val_main_cst_2 val_main_cst_3
  pointwise
  simp only [ref_z]
  exact congrArg (fun a : EReal => Ideal.div a (Ideal.ofBits FTy.f32 1132462080#32)) (Finset.sum_congr rfl fun p _ => token_at x0 x1 x2 g p _)

end Cert.ProjRefIdeal.Hand

end
-- ==== Proof.ProjFrame.lean ====
/-
  The reference of Proj leaves its arguments unchanged.
-/
module

public import Idealize.ShloMosaic.Lib.Quiescent
public import proofs.«01_k».proof.Defs
public import proofs.«01_k».proof.Proof.Gen.ProjRefIdeal.Run

@[expose] public section

noncomputable section

namespace Cert.Proof

open Idealize.ShloMosaic Idealize.SL.Sem

/-- The reference writes none of its arguments, and declares no semaphore. -/
theorem proj_ref_frame : Cert.quiescent_ProjRefIdeal := fun m ρ _ =>
  (θ_run Cert.ProjRefIdeal.defs _ _).mono (fun r h => ⟨fun c => (h c).2.2.2.2.2.2.2.2.2.2.2.2,
    Idealize.ShloMosaic.sem_eq_zero_of_no_sems (by decide) r.2⟩)
    (Cert.ProjRefIdeal.Value.run (F := Ideal) m ρ)

end Cert.Proof

end
-- ==== Proof.ProjClaim.lean ====
/-
  The input projection: the kernel's twelve results are the reference's.
-/
module

public import proofs.«01_k».proof.Defs
public import proofs.«01_k».proof.Proof.ProjRef
public import proofs.«01_k».proof.Proof.ProjFrame
public import proofs.«01_k».proof.Proof.Gen.ProjRefIdeal.Run

@[expose] public section

set_option maxRecDepth 16384

noncomputable section

namespace Cert.Proof

open Idealize.ShloMosaic Idealize.ShloMosaic.TcCoe Idealize.SL.Sem
open Cert.ProjIdeal.Hand (zSeq zRow gate)

/-- A function of three arguments at equal arguments. -/
theorem congr3 {A B C R : Type _} (f : A → B → C → R) {a a' : A} {b b' : B} {c c' : C} (ha : a = a') (hb : b = b') (hc : c = c') :
    f a b c = f a' b' c' := by
  subst ha hb hc
  rfl

/-- A function of four arguments at equal arguments. -/
theorem congr_four {A B C D R : Type _} (f : A → B → C → D → R) {a a' : A} {b b' : B} {c c' : C} {d d' : D} (ha : a = a') (hb : b = b')
    (hc : c = c') (hd : d = d') : f a b c d = f a' b' c' d' := by
  subst ha hb hc hd
  rfl

section
open Cert.ProjRefIdeal Cert.ProjRefIdeal.Gen Cert.ProjRefIdeal.Read
variable (x0 : (⟨S4x4096x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- The reference's array of keys, transposed. -/
theorem proj_v33 : val_main_v33 (F := Ideal) x0 x1 x2 = fun i => zSeq x0 x1 x2 512 (by omega) (i 0) (i 2) (i 1) := by
  funext j
  idx_vars j
  exact Cert.ProjRefIdeal.Hand.ref_v33 x0 x1 x2 j0 j1 j2

/-- The reference's array of values, transposed. -/
theorem proj_v34 : val_main_v34 (F := Ideal) x0 x1 x2 = fun i => zSeq x0 x1 x2 1024 (by omega) (i 0) (i 2) (i 1) := by
  funext j
  idx_vars j
  exact Cert.ProjRefIdeal.Hand.ref_v34 x0 x1 x2 j0 j1 j2

/-- The reference's array of attention queries. -/
theorem proj_v38 : val_main_v38 (F := Ideal) x0 x1 x2 = fun i => zRow x0 x1 x2 0 (by omega) (i 0) (i 1) * Ideal.ofBits FTy.f32 0x3E000000#32 := by
  funext j
  idx_vars j
  exact Cert.ProjRefIdeal.Hand.ref_v38 x0 x1 x2 j0 j1

/-- The reference's array of attention keys. -/
theorem proj_v40 : val_main_v40 (F := Ideal) x0 x1 x2 = fun i => zRow x0 x1 x2 512 (by omega) (i 0) (i 1) := by
  funext j
  idx_vars j
  exact Cert.ProjRefIdeal.Hand.ref_v40 x0 x1 x2 j0 j1

/-- The reference's array of attention values. -/
theorem proj_v41 : val_main_v41 (F := Ideal) x0 x1 x2 = fun i => zRow x0 x1 x2 1024 (by omega) ⟨256 * (i 0).val + (i 2).val, by have h : (i 0).val < 64 := (i 0).isLt; have h' : (i 2).val < 256 := (i 2).isLt; omega⟩ (i 1) := by
  funext j
  idx_vars j
  exact Cert.ProjRefIdeal.Hand.ref_v41 x0 x1 x2 j0 j1 j2

/-- The reference's array of blocks' mean keys. -/
theorem proj_v32 : val_main_v32 (F := Ideal) x0 x1 x2 = fun i => Ideal.div (∑ p : Fin 256, zRow x0 x1 x2 512 (by omega) ⟨256 * (i 0).val + p.val, by have h : (i 0).val < 64 := (i 0).isLt; have h' := p.isLt; omega⟩ (i 2)) (Ideal.ofBits FTy.f32 1132462080#32) := by
  funext j
  idx_vars j
  obtain rfl : j1 = 0 := Subsingleton.elim _ _
  exact Cert.ProjRefIdeal.Hand.ref_v32 x0 x1 x2 j0 j2

/-- The reference's array of recurrence's queries. -/
theorem proj_v44 : val_main_v44 (F := Ideal) x0 x1 x2 = fun i => zRow x0 x1 x2 1536 (by omega) (i 0) (i 1) := by
  funext j
  idx_vars j
  exact Cert.ProjRefIdeal.Hand.ref_v44 x0 x1 x2 j0 j1

/-- The reference's array of recurrence's keys. -/
theorem proj_v47 : val_main_v47 (F := Ideal) x0 x1 x2 = fun i => zRow x0 x1 x2 2048 (by omega) (i 0) (i 1) := by
  funext j
  idx_vars j
  exact Cert.ProjRefIdeal.Hand.ref_v47 x0 x1 x2 j0 j1

/-- The reference's array of recurrence's values. -/
theorem proj_v50 : val_main_v50 (F := Ideal) x0 x1 x2 = fun i => zRow x0 x1 x2 2560 (by omega) (i 0) (i 1) := by
  funext j
  idx_vars j
  exact Cert.ProjRefIdeal.Hand.ref_v50 x0 x1 x2 j0 j1

/-- The reference's array of recurrence's output gates. -/
theorem proj_v53 : val_main_v53 (F := Ideal) x0 x1 x2 = fun i => zRow x0 x1 x2 3072 (by omega) (i 0) (i 1) := by
  funext j
  idx_vars j
  exact Cert.ProjRefIdeal.Hand.ref_v53 x0 x1 x2 j0 j1

/-- The reference's array of gates. -/
theorem proj_v54 : val_main_v54 (F := Ideal) x0 x1 x2 x3 = fun i => gate x0 x1 x2 x3 (i 0) (i 1).val := by
  funext j
  idx_vars j
  exact Cert.ProjRefIdeal.Hand.ref_v54 x0 x1 x2 x3 j0 j1

/-- The reference's array of gates, transposed. -/
theorem proj_v56 : val_main_v56 (F := Ideal) x0 x1 x2 x3 = fun i => gate x0 x1 x2 x3 (i 1) (i 0).val := by
  funext j
  idx_vars j
  exact Cert.ProjRefIdeal.Hand.ref_v56 x0 x1 x2 x3 j0 j1

end

set_option maxHeartbeats 4000000 in
/-- The kernel and the reference of the input projection end with equal results. -/
theorem proj_algebraic : Cert.algebraic_ProjIdeal_ProjRefIdeal := fun m ρ m' ρ' _ hag =>
  ⟨fun c => (Cert.ProjIdeal.Gen.dats m 0 c).arrAt 8 Cert.ProjIdeal.cfg0.N,
   fun c => (Cert.ProjIdeal.Gen.dats m 0 c).arrAt 9 Cert.ProjIdeal.cfg0.N,
   fun c => (Cert.ProjIdeal.Gen.dats m 0 c).arrAt 10 Cert.ProjIdeal.cfg0.N,
   fun c => (Cert.ProjIdeal.Gen.dats m 0 c).arrAt 11 Cert.ProjIdeal.cfg0.N,
   fun c => (Cert.ProjIdeal.Gen.dats m 0 c).arrAt 12 Cert.ProjIdeal.cfg0.N,
   fun c => (Cert.ProjIdeal.Gen.dats m 0 c).arrAt 13 Cert.ProjIdeal.cfg0.N,
   fun c => (Cert.ProjIdeal.Gen.dats m 0 c).arrAt 14 Cert.ProjIdeal.cfg0.N,
   fun c => (Cert.ProjIdeal.Gen.dats m 0 c).arrAt 15 Cert.ProjIdeal.cfg0.N,
   fun c => (Cert.ProjIdeal.Gen.dats m 0 c).arrAt 16 Cert.ProjIdeal.cfg0.N,
   fun c => (Cert.ProjIdeal.Gen.dats m 0 c).arrAt 17 Cert.ProjIdeal.cfg0.N,
   fun c => (Cert.ProjIdeal.Gen.dats m 0 c).arrAt 18 Cert.ProjIdeal.cfg0.N,
   fun c => (Cert.ProjIdeal.Gen.dats m 0 c).arrAt 19 Cert.ProjIdeal.cfg0.N,
   Cert.ProjIdeal.Value.run_blocks m ρ,
   (θ_run _ _ _).mono (fun r h c =>
    have a := hag c
    ⟨(h c).1.trans ((Cert.ProjRefIdeal.Read.val_main_v33_eq _ _ _).trans
        ((congr3 (fun a b c => Cert.ProjRefIdeal.Read.val_main_v33 (F := Ideal) a b c) a.1 a.2.1 a.2.2.1).trans
          ((proj_v33 _ _ _).trans (Cert.ProjIdeal.Hand.arr8 m c).symm))),
     (h c).2.1.trans ((Cert.ProjRefIdeal.Read.val_main_v34_eq _ _ _).trans
        ((congr3 (fun a b c => Cert.ProjRefIdeal.Read.val_main_v34 (F := Ideal) a b c) a.1 a.2.1 a.2.2.1).trans
          ((proj_v34 _ _ _).trans (Cert.ProjIdeal.Hand.arr9 m c).symm))),
     (h c).2.2.1.trans ((Cert.ProjRefIdeal.Read.val_main_v38_eq _ _ _).trans
        ((congr3 (fun a b c => Cert.ProjRefIdeal.Read.val_main_v38 (F := Ideal) a b c) a.1 a.2.1 a.2.2.1).trans
          ((proj_v38 _ _ _).trans (Cert.ProjIdeal.Hand.arr10 m c).symm))),
     (h c).2.2.2.1.trans ((Cert.ProjRefIdeal.Read.val_main_v40_eq _ _ _).trans
        ((congr3 (fun a b c => Cert.ProjRefIdeal.Read.val_main_v40 (F := Ideal) a b c) a.1 a.2.1 a.2.2.1).trans
          ((proj_v40 _ _ _).trans (Cert.ProjIdeal.Hand.arr11 m c).symm))),
     (h c).2.2.2.2.1.trans ((Cert.ProjRefIdeal.Read.val_main_v41_eq _ _ _).trans
        ((congr3 (fun a b c => Cert.ProjRefIdeal.Read.val_main_v41 (F := Ideal) a b c) a.1 a.2.1 a.2.2.1).trans
          ((proj_v41 _ _ _).trans (Cert.ProjIdeal.Hand.arr12 m c).symm))),
     (h c).2.2.2.2.2.1.trans ((Cert.ProjRefIdeal.Read.val_main_v32_eq _ _ _).trans
        ((congr3 (fun a b c => Cert.ProjRefIdeal.Read.val_main_v32 (F := Ideal) a b c) a.1 a.2.1 a.2.2.1).trans
          ((proj_v32 _ _ _).trans (Cert.ProjIdeal.Hand.arr13 m c).symm))),
     (h c).2.2.2.2.2.2.1.trans ((Cert.ProjRefIdeal.Read.val_main_v44_eq _ _ _).trans
        ((congr3 (fun a b c => Cert.ProjRefIdeal.Read.val_main_v44 (F := Ideal) a b c) a.1 a.2.1 a.2.2.1).trans
          ((proj_v44 _ _ _).trans (Cert.ProjIdeal.Hand.arr14 m c).symm))),
     (h c).2.2.2.2.2.2.2.1.trans ((Cert.ProjRefIdeal.Read.val_main_v47_eq _ _ _).trans
        ((congr3 (fun a b c => Cert.ProjRefIdeal.Read.val_main_v47 (F := Ideal) a b c) a.1 a.2.1 a.2.2.1).trans
          ((proj_v47 _ _ _).trans (Cert.ProjIdeal.Hand.arr15 m c).symm))),
     (h c).2.2.2.2.2.2.2.2.1.trans ((Cert.ProjRefIdeal.Read.val_main_v50_eq _ _ _).trans
        ((congr3 (fun a b c => Cert.ProjRefIdeal.Read.val_main_v50 (F := Ideal) a b c) a.1 a.2.1 a.2.2.1).trans
          ((proj_v50 _ _ _).trans (Cert.ProjIdeal.Hand.arr16 m c).symm))),
     (h c).2.2.2.2.2.2.2.2.2.1.trans ((Cert.ProjRefIdeal.Read.val_main_v53_eq _ _ _).trans
        ((congr3 (fun a b c => Cert.ProjRefIdeal.Read.val_main_v53 (F := Ideal) a b c) a.1 a.2.1 a.2.2.1).trans
          ((proj_v53 _ _ _).trans (Cert.ProjIdeal.Hand.arr17 m c).symm))),
     (h c).2.2.2.2.2.2.2.2.2.2.1.trans ((Cert.ProjRefIdeal.Read.val_main_v54_eq _ _ _ _).trans
        ((congr_four (fun a b c d => Cert.ProjRefIdeal.Read.val_main_v54 (F := Ideal) a b c d) a.1 a.2.1 a.2.2.1 a.2.2.2).trans
          ((proj_v54 _ _ _ _).trans (Cert.ProjIdeal.Hand.arr18 m c).symm))),
     (h c).2.2.2.2.2.2.2.2.2.2.2.1.trans ((Cert.ProjRefIdeal.Read.val_main_v56_eq _ _ _ _).trans
        ((congr_four (fun a b c d => Cert.ProjRefIdeal.Read.val_main_v56 (F := Ideal) a b c d) a.1 a.2.1 a.2.2.1 a.2.2.2).trans
          ((proj_v56 _ _ _ _).trans (Cert.ProjIdeal.Hand.arr19 m c).symm))),
     (h c).2.2.2.2.2.2.2.2.2.2.2.2⟩)
    (Cert.ProjRefIdeal.Value.run m' ρ')⟩

end Cert.Proof

end
-- ==== Proof.MlpsValue.lean ====
/-
  The output projection and the feed-forward part: what one grid point's payloads compute, element by element, and what the
  carried scratch holds after each grid point.
-/
module

public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic
public import proofs.«01_k».proof.Proof.Gen.MlpsIdeal.Value
public import proofs.«01_k».proof.Proof.MlpValue

@[expose] public section

set_option maxRecDepth 16384

noncomputable section

namespace Cert.MlpsIdeal.Hand

open Cert.MlpsIdeal Cert.MlpsIdeal.Gen Idealize.ShloMosaic Idealize.ShloMosaic.TcCoe Idealize.SL.Sem
open Idealize.ShloMosaic.Pipeline (Dat)
open Cert.MlpIdeal.Hand (rms)

/-! ## The payloads -/

/-- The residual sum: the layer's input and the two halves of the output projection. -/
theorem pay4_at (v22 : Vec Ideal S32x1024 .f32) (v24 : Vec Ideal S32x512 .bf16) (v25 : Vec Ideal S512x1024 .bf16) (v29 : Vec Ideal S32x512 .bf16) (v30 : Vec Ideal S512x1024 .bf16) (p : Fin 32) (q : Fin 1024) :
    k0_pay4 v22 v24 v25 v29 v30 (ix2 p q)
      = v22 (ix2 p q) + ∑ x, v24 (ix2 p x) * v25 (ix2 x q) + ∑ x, v29 (ix2 p x) * v30 (ix2 x q) := by
  open_payloads
  pointwise

/-- What the first scratch is given: the residual sum. -/
theorem pay5_at (v22 : Vec Ideal S32x1024 .f32) (v24 : Vec Ideal S32x512 .bf16) (v25 : Vec Ideal S512x1024 .bf16) (v29 : Vec Ideal S32x512 .bf16) (v30 : Vec Ideal S512x1024 .bf16) (p : Fin 32) (q : Fin 1024) :
    k0_pay5 v22 v24 v25 v29 v30 (ix2 p q) = k0_pay4 v22 v24 v25 v29 v30 (ix2 p q) := by
  unfold k0_pay5
  pointwise

/-- What the second scratch is given: the residual sum, normalised. -/
theorem pay6_at (v22 : Vec Ideal S32x1024 .f32) (v24 : Vec Ideal S32x512 .bf16) (v25 : Vec Ideal S512x1024 .bf16) (v29 : Vec Ideal S32x512 .bf16) (v30 : Vec Ideal S512x1024 .bf16) (v37 : Vec Ideal S1x1024 .f32) (p : Fin 32) (q : Fin 1024) :
    k0_pay6 v22 v24 v25 v29 v30 v37 (ix2 p q)
      = rms (fun k => k0_pay4 v22 v24 v25 v29 v30 (ix2 p k)) (fun k => v37 (ix2 0 k)) q := by
  unfold k0_pay6 rms
  pointwise

/-- What the result is given: the two sums added, normalised. -/
theorem pay3_at (v22 : Vec Ideal S32x1024 .f32) (v23 : Vec Ideal S32x1024 .f32) (v25 : Vec Ideal S1x1024 .f32) (p : Fin 32) (q : Fin 1024) :
    k0_pay3 v22 v23 v25 (ix2 p q) = rms (fun k => v22 (ix2 p k) + v23 (ix2 p k)) (fun k => v25 (ix2 0 k)) q := by
  unfold k0_pay3 rms
  pointwise

/-- What the accumulator is given: what it held and this block of hidden units' part. -/
theorem pay2_at (v3 : Vec Ideal S32x1024 .bf16) (v4 : Vec Ideal S1024x512 .bf16) (v11 : Vec Ideal S32x1024 .f32) (v12 : Vec Ideal S512x1024 .bf16) (p : Fin 32) (q : Fin 1024) :
    k0_pay2 v3 v4 v11 v12 (ix2 p q)
      = v11 (ix2 p q) + ∑ x, Cert.MlpIdeal.Hand.sq (∑ k, v3 (ix2 p k) * v4 (ix2 k x)) * v12 (ix2 x q) := by
  unfold k0_pay2 Cert.MlpIdeal.Hand.sq
  pointwise

/-- The accumulator starts at zero. -/
theorem pay1_at (p : Fin 32) (q : Fin 1024) : k0_pay1 (k0_pay7 (F := Ideal)) (ix2 p q) = 0 := by
  unfold k0_pay1 k0_pay7
  pointwise

variable (m : (ℓ : Loc nD τ sig) → Buf (Elt Ideal) ℓ) (c : Dev nD)

/-! ## The carried scratch after each point -/

/-- The residual sum's tile at a grid point, from its blocks. -/
abbrev x1Tile (t : Fin cfg0.N) : Vec Ideal S32x1024 .f32 :=
  k0_pay4 (iblk m c 0 t) (iblk m c 1 t)
      (View.ld (iblk m c 3 t) (Rect.unit ![0, 0] ![512, 1024] inb_S1024x1024_S512x1024_0_0)) (iblk m c 2 t)
      (View.ld (iblk m c 3 t) (Rect.unit ![512, 0] ![512, 1024] inb_S1024x1024_S512x1024_512_0))

/-- The first scratch holds, all through a row tile's points, the residual sum its first point wrote. -/
theorem scr0 (t : Fin cfg0.N) (p : Fin 32) (q : Fin 1024) :
    (outsAt0 m c t.val t.isLt).2.1 (ix2 p q) = x1Tile m c ⟨8 * (t.val / 8), Pipeline.run_start_lt t⟩ (ix2 p q) :=
  Pipeline.eq_of_write_hold_apply (fun n h (i : S32x1024.Idx) => (outsAt0 m c n h).2.1 i) 8 (fun t i => x1Tile m c t i)
    (fun t h j => by
      idx_vars j
      rw [outsAt0_A m c t h (by omega)]
      frame_out
      exact pay5_at _ _ _ _ _ _ _)
    (fun t h j => by
      by_cases h1 : t.val % 8 = 7
      · rw [outsAt0_C m c t h h1]; rfl
      · rw [outsAt0_B m c t h h1]; rfl)
    t (ix2 p q)

/-- The second scratch holds, all through a row tile's points, the normalised rows its first point wrote. -/
theorem scr1 (t : Fin cfg0.N) (p : Fin 32) (q : Fin 1024) :
    (outsAt0 m c t.val t.isLt).2.2.1 (ix2 p q)
      = rms (fun k => x1Tile m c ⟨8 * (t.val / 8), Pipeline.run_start_lt t⟩ (ix2 p k))
          (fun k => iblk m c 4 ⟨8 * (t.val / 8), Pipeline.run_start_lt t⟩ (ix2 0 k)) q :=
  Pipeline.eq_of_write_hold_apply (fun n h (i : S32x1024.Idx) => (outsAt0 m c n h).2.2.1 i) 8
    (fun t i => rms (fun k => x1Tile m c t (ix2 (i 0) k)) (fun k => iblk m c 4 t (ix2 0 k)) (i 1))
    (fun t h j => by
      idx_vars j
      rw [outsAt0_A m c t h (by omega)]
      frame_out
      exact pay6_at _ _ _ _ _ _ _ _)
    (fun t h j => by
      by_cases h1 : t.val % 8 = 7
      · rw [outsAt0_C m c t h h1]; rfl
      · rw [outsAt0_B m c t h h1]; rfl)
    t (ix2 p q)

/-- The part of one block of hidden units, at a grid point. -/
def part (t : Fin cfg0.N) (i : S32x1024.Idx) : EReal :=
  ∑ x : Fin 512, Cert.MlpIdeal.Hand.sq (∑ k : Fin 1024, (outsAt0 m c t.val t.isLt).2.2.1 (ix2 (i 0) k) * iblk m c 5 t (ix2 k x)) * iblk m c 6 t (ix2 x (i 1))

/-- At a point that is not a row tile's first the second scratch is what the point before left. -/
theorem scr1_hold (t : Fin cfg0.N) (h : ¬t.val % 8 = 0) :
    (outsAt0 m c (t.val - 1) (Nat.lt_of_le_of_lt (Nat.sub_le _ _) t.isLt)).2.2.1 = (outsAt0 m c t.val t.isLt).2.2.1 := by
  by_cases h1 : t.val % 8 = 7
  · rw [outsAt0_C m c t h h1]; rfl
  · rw [outsAt0_B m c t h h1]; rfl

/-- At a point that is not a row tile's first the first scratch is what the point before left. -/
theorem scr0_hold (t : Fin cfg0.N) (h : ¬t.val % 8 = 0) :
    (outsAt0 m c (t.val - 1) (Nat.lt_of_le_of_lt (Nat.sub_le _ _) t.isLt)).2.1 = (outsAt0 m c t.val t.isLt).2.1 := by
  by_cases h1 : t.val % 8 = 7
  · rw [outsAt0_C m c t h h1]; rfl
  · rw [outsAt0_B m c t h h1]; rfl

/-- The accumulator at a row tile's last point is the sum of all the blocks of hidden units. -/
theorem scr2 (t : Fin cfg0.N) (ht : t.val % 8 = 7) (p : Fin 32) (q : Fin 1024) :
    (outsAt0 m c t.val t.isLt).2.2.2 (ix2 p q)
      = 0 + ∑ s : Fin 8, part m c ⟨8 * (t.val / 8) + s.val, Pipeline.run_point_lt_of_flush t ht s⟩ (ix2 p q) :=
  Pipeline.eq_sum_fin_of_reset_step_apply_of_flush (fun n h (i : S32x1024.Idx) => (outsAt0 m c n h).2.2.2 i) 8 (fun _ => (0 : EReal))
    (fun t i => part m c t i)
    (fun t h j => by
      have e : (outsAt0 m c t.val t.isLt).2.2.1 = k0_pay6 (iblk m c 0 t) (iblk m c 1 t)
          (View.ld (iblk m c 3 t) (Rect.unit ![0, 0] ![512, 1024] inb_S1024x1024_S512x1024_0_0)) (iblk m c 2 t)
          (View.ld (iblk m c 3 t) (Rect.unit ![512, 0] ![512, 1024] inb_S1024x1024_S512x1024_512_0)) (iblk m c 4 t) := by
        rw [outsAt0_A m c t h (by omega)]
        frame_out
        rfl
      dsimp only [part]
      rw [e]
      idx_vars j
      rw [outsAt0_A m c t h (by omega)]
      frame_out
      rw [pay2_at, pay1_at]
      rfl)
    (fun t h j => by
      dsimp only [part]
      rw [← scr1_hold m c t h]
      idx_vars j
      by_cases h1 : t.val % 8 = 7
      · rw [outsAt0_C m c t h h1]
        frame_out
        simp only [read_unread_whole]
        rw [pay2_at]
      · rw [outsAt0_B m c t h h1]
        frame_out
        simp only [read_unread_whole]
        rw [pay2_at])
    t ht (ix2 p q)

/-- What a row tile's last point leaves in the result's block. -/
theorem out8 (t : Fin cfg0.N) (ht : t.val % 8 = 7) (p : Fin 32) (q : Fin 1024) :
    (outsAt0 m c t.val t.isLt).1 (ix2 p q)
      = rms (fun k => (outsAt0 m c t.val t.isLt).2.1 (ix2 p k) + (outsAt0 m c t.val t.isLt).2.2.2 (ix2 p k))
          (fun k => iblk m c 7 t (ix2 0 k)) q := by
  have h : ¬t.val % 8 = 0 := by omega
  rw [← scr0_hold m c t h]
  have e : (outsAt0 m c t.val t.isLt).2.2.2 = k0_pay2 (outsAt0 m c (t.val - 1) (Nat.lt_of_le_of_lt (Nat.sub_le _ _) t.isLt)).2.2.1 (iblk m c 5 t)
      (outsAt0 m c (t.val - 1) (Nat.lt_of_le_of_lt (Nat.sub_le _ _) t.isLt)).2.2.2 (iblk m c 6 t) := by
    rw [outsAt0_C m c t h ht]
    frame_out
    simp only [read_unread_whole]
  rw [e, outsAt0_C m c t h ht]
  frame_out
  simp only [read_unread_whole]
  exact pay3_at _ _ _ _ _

end Cert.MlpsIdeal.Hand

end
-- ==== Proof.MlpsArrays.lean ====
/-
  The output projection and the feed-forward part: the result array after the run, element by element, as a function of the
  argument arrays.
-/
module

public import proofs.«01_k».proof.Proof.MlpsValue

@[expose] public section

set_option maxRecDepth 16384

noncomputable section

namespace Cert.MlpsIdeal.Hand

open Cert.MlpsIdeal Cert.MlpsIdeal.Gen Idealize.ShloMosaic Idealize.ShloMosaic.TcCoe Idealize.SL.Sem
open Idealize.ShloMosaic.Pipeline (Dat)
open Cert.MlpIdeal.Hand (rms)

/-! ## The result as a function of the arguments -/

section
variable (x0 : (⟨S32x1x1024, .f32⟩ : BufTy).Contents (Elt Ideal)) (x1 x2 : (⟨S32x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- A token's residual sum: the layer's input, plus the attention's and the recurrence's outputs through the output projection. -/
def resid (r : Fin 32) (n : Fin 1024) : EReal :=
  x0 (ix3 r 0 n)
    + ∑ k : Fin 512, x1 (ix2 r k) * x3 (ix3 0 ⟨k.val, by omega⟩ n)
    + ∑ k : Fin 512, x2 (ix2 r k) * x3 (ix3 0 ⟨512 + k.val, by omega⟩ n)

/-- A token's hidden unit. -/
def hidden (r : Fin 32) (f : Fin 4096) : EReal :=
  Cert.MlpIdeal.Hand.sq (∑ k : Fin 1024, rms (resid x0 x1 x2 x3 r) (fun k => x4 (ix2 0 k)) k * x5 (ix3 0 k f))

/-- A token's output. -/
def outRow (r : Fin 32) (n : Fin 1024) : EReal :=
  rms (fun n => resid x0 x1 x2 x3 r n + ∑ f : Fin 4096, hidden x0 x1 x2 x3 x4 x5 r f * x6 (ix3 0 f n)) (fun k => x7 (ix1 k)) n
end

/-! ## The blocks -/

variable (m : (ℓ : Loc nD τ sig) → Buf (Elt Ideal) ℓ) (c : Dev nD)

/-- Where every window's block stands at a grid point. -/
theorem idx : ∀ t : Fin cfg0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, t.val % 8] ∧ win0_6.index t = ![t.val % 8, 0]
    ∧ win0_7.index t = ![0, 0] ∧ win0_8.index t = ![t.val / 8, 0] :=
  (by decide +kernel : ∀ t : Fin grid0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, t.val % 8] ∧ win0_6.index t = ![t.val % 8, 0]
    ∧ win0_7.index t = ![0, 0] ∧ win0_8.index t = ![t.val / 8, 0])

/-- The grid has 8 points. -/
theorem lt8 (t : Fin cfg0.N) : t.val < 8 := lt_of_lt_of_eq t.isLt (show cfg0.N = 8 from N_0)

/-- The token of a row of the tile a grid point works on. -/
def tok (t : Fin cfg0.N) (p : Fin 32) : Fin 32 := ⟨32 * (t.val / 8) + p.val, by have := lt8 t; omega⟩

/-- The hidden unit of a column of the block a grid point works on. -/
def unitOf (t : Fin cfg0.N) (x : Fin 512) : Fin 4096 := ⟨512 * (t.val % 8) + x.val, by omega⟩

/-- The block of the residual stream a point reads: its own rows of the argument. -/
theorem x_blk (t : Fin cfg0.N) (p : Fin 32) (q : Fin 1024) :
    iblk m c 0 t (ix2 p q) = m ((c.tc : Thread nD τ).loc main_arg0)
      (ix3 (tok t p) 0 q) := by
  unfold tok
  blk_point [iblk, V, idx t]

/-- The block of the attention output a point reads: its own rows. -/
theorem a_blk (t : Fin cfg0.N) (p : Fin 32) (k : Fin 512) :
    iblk m c 1 t (ix2 p k) = m ((c.tc : Thread nD τ).loc main_arg1) (ix2 (tok t p) k) := by
  unfold tok
  blk_point [iblk, V, idx t]

/-- The block of the recurrence output a point reads: its own rows. -/
theorem h_blk (t : Fin cfg0.N) (p : Fin 32) (k : Fin 512) :
    iblk m c 2 t (ix2 p k) = m ((c.tc : Thread nD τ).loc main_arg2) (ix2 (tok t p) k) := by
  unfold tok
  blk_point [iblk, V, idx t]

/-- Every point reads the whole of the output projection. -/
theorem wo_blk (t : Fin cfg0.N) (p q : Fin 1024) :
    iblk m c 3 t (ix2 p q) = m ((c.tc : Thread nD τ).loc main_arg3) (ix3 0 p q) := by
  blk_point [iblk, V, idx t]

/-- Every point reads the whole of the second norm weight. -/
theorem l2_blk (t : Fin cfg0.N) (q : Fin 1024) :
    iblk m c 4 t (ix2 0 q) = m ((c.tc : Thread nD τ).loc main_arg4) (ix2 0 q) := by
  blk_point [iblk, V, idx t]

/-- A point reads its own 512 columns of the up projection. -/
theorem wu_blk (t : Fin cfg0.N) (k : Fin 1024) (x : Fin 512) :
    iblk m c 5 t (ix2 k x) = m ((c.tc : Thread nD τ).loc main_arg5) (ix3 0 k (unitOf t x)) := by
  unfold unitOf
  blk_point [iblk, V, idx t]

/-- A point reads its own 512 rows of the down projection. -/
theorem wd_blk (t : Fin cfg0.N) (x : Fin 512) (q : Fin 1024) :
    iblk m c 6 t (ix2 x q) = m ((c.tc : Thread nD τ).loc main_arg6) (ix3 0 (unitOf t x) q) := by
  unfold unitOf
  blk_point [iblk, V, idx t]

/-- Every point reads the whole of the final norm weight. -/
theorem lf_blk (t : Fin cfg0.N) (q : Fin 1024) :
    iblk m c 7 t (ix2 0 q) = m ((c.tc : Thread nD τ).loc main_arg7) (ix1 q) := by
  blk_point [iblk, V, idx t]

/-- The residual sum's tile holds the residual sums of its tokens. -/
theorem x1Tile_at (t : Fin cfg0.N) (p : Fin 32) (q : Fin 1024) :
    x1Tile m c t (ix2 p q) = resid (m ((c.tc : Thread nD τ).loc main_arg0)) (m ((c.tc : Thread nD τ).loc main_arg1))
      (m ((c.tc : Thread nD τ).loc main_arg2)) (m ((c.tc : Thread nD τ).loc main_arg3)) (tok t p) q := by
  unfold resid
  refine (pay4_at _ _ _ _ _ p q).trans ?_
  refine congrArg₂ (fun a b : EReal => a + b) (congrArg₂ (fun a b : EReal => a + b) (x_blk m c t p q) (Finset.sum_congr rfl fun k _ => ?_)) (Finset.sum_congr rfl fun k _ => ?_)
  · refine congrArg₂ (fun a b : EReal => a * b) (a_blk m c t p k) (Eq.trans ?_ (wo_blk m c t ⟨k.val, by omega⟩ q))
    refine View.ld_unit_apply_of _ _ _ _ _ _ fun a => ?_
    fin_cases a <;> simp
  · refine congrArg₂ (fun a b : EReal => a * b) (h_blk m c t p k) (Eq.trans ?_ (wo_blk m c t ⟨512 + k.val, by omega⟩ q))
    refine View.ld_unit_apply_of _ _ _ _ _ _ fun a => ?_
    fin_cases a <;> simp

/-! ## The result -/

/-- The rows of a tile's first point are the rows of all its points. -/
theorem tok_start (t : Fin cfg0.N) (p : Fin 32) : tok ⟨8 * (t.val / 8), Pipeline.run_start_lt t⟩ p = tok t p :=
  Fin.ext (by simp [tok])

/-- The eight points that share a row block read the same token, and the row block is theirs. -/
theorem tok_point (t : Fin cfg0.N) (ht : t.val % 8 = 7) (s : Fin 8) (p : Fin 32) :
    tok ⟨8 * (t.val / 8) + s.val, Pipeline.run_point_lt_of_flush t ht s⟩ p = tok t p :=
  Fin.ext (by have := s.isLt; simp [tok]; omega)

/-- The second scratch holds the normalised residual sums of its tokens. -/
theorem scr1_at (t : Fin cfg0.N) (p : Fin 32) (q : Fin 1024) :
    (outsAt0 m c t.val t.isLt).2.2.1 (ix2 p q)
      = rms (resid (m ((c.tc : Thread nD τ).loc main_arg0)) (m ((c.tc : Thread nD τ).loc main_arg1))
          (m ((c.tc : Thread nD τ).loc main_arg2)) (m ((c.tc : Thread nD τ).loc main_arg3)) (tok t p))
          (fun k => m ((c.tc : Thread nD τ).loc main_arg4) (ix2 0 k)) q := by
  rw [scr1]
  simp only [x1Tile_at, tok_start, l2_blk]

/-- A block of hidden units adds, to a token's output, its units' parts. -/
theorem part_at (t : Fin cfg0.N) (p : Fin 32) (q : Fin 1024) :
    part m c t (ix2 p q) = ∑ x : Fin 512,
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) (unitOf t x) * m ((c.tc : Thread nD τ).loc main_arg6) (ix3 0 (unitOf t x) q) := by
  show (∑ x : Fin 512, Cert.MlpIdeal.Hand.sq (∑ k : Fin 1024, (outsAt0 m c t.val t.isLt).2.2.1 (ix2 p k) * iblk m c 5 t (ix2 k x)) * iblk m c 6 t (ix2 x q)) = _
  refine Finset.sum_congr rfl fun x _ => ?_
  rw [wd_blk]
  unfold hidden
  congr 2
  refine Finset.sum_congr rfl fun k _ => ?_
  rw [wu_blk, scr1_at]

/-- The blocks of hidden units, one after another, are all the hidden units. -/
theorem parts_at (t : Fin cfg0.N) (ht : t.val % 8 = 7) (p : Fin 32) (q : Fin 1024) :
    (outsAt0 m c t.val t.isLt).2.2.2 (ix2 p q) = ∑ f : Fin 4096,
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) f * m ((c.tc : Thread nD τ).loc main_arg6) (ix3 0 f q) := by
  rw [scr2 m c t ht, zero_add]
  have := Fin.sum_mul_add_fin (L := 4096) 8 512 (fun f =>
      hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (tok t p) f * m ((c.tc : Thread nD τ).loc main_arg6) (ix3 0 f q)) (by norm_num)
  rw [← this]
  refine Finset.sum_congr rfl fun s _ => ?_
  rw [part_at]
  refine Finset.sum_congr rfl fun x _ => ?_
  rw [tok_point t ht s p]
  have e : unitOf ⟨8 * (t.val / 8) + s.val, Pipeline.run_point_lt_of_flush t ht s⟩ x = ⟨s.val * 512 + x.val, by have := s.isLt; have := x.isLt; omega⟩ :=
    Fin.ext (by have := s.isLt; simp [unitOf]; omega)
  rw [e]

/-- The result array after the run: every token's output. -/
theorem arr8 : (dats m 0 c).arrAt 8 cfg0.N = fun i =>
    outRow (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (i 0) (i 1) := by
  refine (dats m 0 c).arrAt_eq_of_covers 8 _ (by decide +kernel) fun t hfl y => ?_
  have ht : t.val % 8 = 7 := (flush0_8 t).mp hfl
  blk_simp
  rw [after0_8]
  idx_vars y
  rw [out8 m c t ht]
  simp only [scr0, x1Tile_at, tok_start, parts_at m c t ht, lf_blk]
  show outRow _ _ _ _ _ _ _ _ (tok t y0) y1 = _
  congr 1
  · exact Fin.ext (by blk_simp [idx t]; simp [tok]; omega)
  · exact Fin.ext (by blk_simp [idx t])

end Cert.MlpsIdeal.Hand

end
-- ==== Proof.MlpsRef.lean ====
/-
  The reference's output projection and feed-forward part, element by element: its result is `outRow` at the argument
  arrays.
-/
module

public import proofs.«01_k».proof.Proof.MlpsArrays
public import proofs.«01_k».proof.Proof.Gen.MlpsRefIdeal.Read

@[expose] public section

set_option maxRecDepth 16384

noncomputable section

namespace Cert.MlpsRefIdeal.Hand

open Cert.MlpsRefIdeal Cert.MlpsRefIdeal.Gen Cert.MlpsRefIdeal.Read Idealize.ShloMosaic Idealize.ShloMosaic.TcCoe Idealize.SL.Sem
open Cert.MlpIdeal.Hand (rms)
open Cert.MlpsIdeal.Hand (resid hidden outRow)

variable (x0 : (⟨S32x1x1024, .f32⟩ : BufTy).Contents (Elt Ideal)) (x1 x2 : (⟨S32x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- The first half of the joined outputs is the attention's. -/
theorem ref_mix_left (r : Fin 32) (k : Fin 512) : val_main_v1 (F := Ideal) x1 x2 (ix2 r ⟨k.val, by omega⟩) = x1 (ix2 r k) := by
  have := k.isLt
  unfold val_main_v1 val_main_v0
  pointwise

/-- The second half is the recurrence's. -/
theorem ref_mix_right (r : Fin 32) (k : Fin 512) : val_main_v1 (F := Ideal) x1 x2 (ix2 r ⟨512 + k.val, by omega⟩) = x2 (ix2 r k) := by
  have := k.isLt
  unfold val_main_v1 val_main_v0
  pointwise

/-- The reference's residual sum. -/
theorem ref_resid (r : Fin 32) (n : Fin 1024) : val_main_v5 (F := Ideal) x0 x1 x2 x3 (ix2 r n) = resid x0 x1 x2 x3 r n := by
  unfold val_main_v5 val_main_v4 val_main_v3 val_main_v2
  pointwise
  rw [Fin.sum_univ_two_halves 512 512 (by norm_num)]
  simp only [ref_mix_left, ref_mix_right]
  unfold resid
  rw [add_assoc]

/-- The reference's normalised residual sum. -/
theorem ref_hn (r : Fin 32) (n : Fin 1024) :
    val_main_v19 (F := Ideal) x0 x1 x2 x3 x4 (ix2 r n) = rms (resid x0 x1 x2 x3 r) (fun k => x4 (ix2 0 k)) n := by
  unfold val_main_v19 val_main_v18 val_main_v17 val_main_v16 val_main_v15 val_main_v14 val_main_v13 val_main_v12 val_main_v11 val_main_v10
    val_main_v9 val_main_v8 val_main_v7 val_main_v6 val_main_cst_1 val_main_cst_0 val_main_cst
  pointwise
  simp only [ref_resid]
  rfl

/-- The reference's hidden units. -/
theorem ref_hidden (r : Fin 32) (f : Fin 4096) :
    val_main_v23 (F := Ideal) x0 x1 x2 x3 x4 x5 (ix2 r f) = hidden x0 x1 x2 x3 x4 x5 r f := by
  unfold val_main_v23 val_main_v22 val_main_v21 val_main_v20 val_main_call0_v0 val_main_call0_cst
  pointwise
  simp only [ref_hn]
  rfl

/-- The reference's sum before the last normalisation. -/
theorem ref_sum (r : Fin 32) (n : Fin 1024) :
    val_main_v26 (F := Ideal) x0 x1 x2 x3 x4 x5 x6 (ix2 r n)
      = resid x0 x1 x2 x3 r n + ∑ f : Fin 4096, hidden x0 x1 x2 x3 x4 x5 r f * x6 (ix3 0 f n) := by
  unfold val_main_v26 val_main_v25 val_main_v24
  pointwise
  simp only [ref_resid, ref_hidden]

/-- The reference's result. -/
theorem ref_out (r : Fin 32) (n : Fin 1024) :
    val_main_v39 (F := Ideal) x0 x1 x2 x3 x4 x5 x6 x7 (ix2 r n) = outRow x0 x1 x2 x3 x4 x5 x6 x7 r n := by
  unfold val_main_v39 val_main_v38 val_main_v37 val_main_v36 val_main_v35 val_main_v34 val_main_v33 val_main_v32 val_main_v31 val_main_v30
    val_main_v29 val_main_v28 val_main_v27 val_main_cst_4 val_main_cst_3 val_main_cst_2
  pointwise
  simp only [ref_sum]
  rfl

end Cert.MlpsRefIdeal.Hand

end
-- ==== Proof.MlpsFrame.lean ====
/-
  The reference of Mlps leaves its arguments unchanged.
-/
module

public import Idealize.ShloMosaic.Lib.Quiescent
public import proofs.«01_k».proof.Defs
public import proofs.«01_k».proof.Proof.Gen.MlpsRefIdeal.Run

@[expose] public section

noncomputable section

namespace Cert.Proof

open Idealize.ShloMosaic Idealize.SL.Sem

/-- The reference writes none of its arguments, and declares no semaphore. -/
theorem mlps_ref_frame : Cert.quiescent_MlpsRefIdeal := fun m ρ _ =>
  (θ_run Cert.MlpsRefIdeal.defs _ _).mono (fun r h => ⟨fun c => (h c).2,
    Idealize.ShloMosaic.sem_eq_zero_of_no_sems (by decide) r.2⟩)
    (Cert.MlpsRefIdeal.Value.run (F := Ideal) m ρ)

end Cert.Proof

end
-- ==== Proof.MlpsClaim.lean ====
/-
  The output projection and the feed-forward part: the kernel's result is the reference's.
-/
module

public import proofs.«01_k».proof.Defs
public import proofs.«01_k».proof.Proof.MlpsRef
public import proofs.«01_k».proof.Proof.MlpClaim
public import proofs.«01_k».proof.Proof.MlpsFrame
public import proofs.«01_k».proof.Proof.Gen.MlpsRefIdeal.Run

@[expose] public section

set_option maxRecDepth 16384

noncomputable section

namespace Cert.Proof

open Idealize.ShloMosaic Idealize.ShloMosaic.TcCoe Idealize.SL.Sem
open Cert.MlpsIdeal.Hand (outRow)

section
open Cert.MlpsRefIdeal Cert.MlpsRefIdeal.Gen Cert.MlpsRefIdeal.Read
variable (x0 : (⟨S32x1x1024, .f32⟩ : BufTy).Contents (Elt Ideal)) (x1 x2 : (⟨S32x512, .bf16⟩ : BufTy).Contents (Elt Ideal))
    (x3 : (⟨S1x1024x1024, .f32⟩ : BufTy).Contents (Elt Ideal)) (x4 : (⟨S1x1024, .f32⟩ : BufTy).Contents (Elt Ideal))
    (x5 : (⟨S1x1024x4096, .f32⟩ : BufTy).Contents (Elt Ideal)) (x6 : (⟨S1x4096x1024, .f32⟩ : BufTy).Contents (Elt Ideal))
    (x7 : (⟨S1024, .f32⟩ : BufTy).Contents (Elt Ideal))

/-- The reference's array of outputs. -/
theorem mlps_out : val_main_v39 (F := Ideal) x0 x1 x2 x3 x4 x5 x6 x7 = fun i => outRow x0 x1 x2 x3 x4 x5 x6 x7 (i 0) (i 1) := by
  funext j
  idx_vars j
  exact Cert.MlpsRefIdeal.Hand.ref_out x0 x1 x2 x3 x4 x5 x6 x7 j0 j1
end

/-- The kernel and the reference of the output projection and the feed-forward part end with equal results. -/
theorem mlps_algebraic : Cert.algebraic_MlpsIdeal_MlpsRefIdeal := fun m ρ m' ρ' _ hag =>
  ⟨fun c => (Cert.MlpsIdeal.Gen.dats m 0 c).arrAt 8 Cert.MlpsIdeal.cfg0.N,
   Cert.MlpsIdeal.Value.run_blocks m ρ,
   (θ_run _ _ _).mono (fun r h c =>
    have a := hag c
    ⟨(h c).1.trans ((Cert.MlpsRefIdeal.Read.val_main_v39_eq m' c).trans
        ((congr8 (fun a b c d e f g h => Cert.MlpsRefIdeal.Read.val_main_v39 (F := Ideal) a b c d e f g h)
            a.1 a.2.1 a.2.2.1 a.2.2.2.1 a.2.2.2.2.1 a.2.2.2.2.2.1 a.2.2.2.2.2.2.1 a.2.2.2.2.2.2.2).trans
          ((mlps_out _ _ _ _ _ _ _ _).trans (Cert.MlpsIdeal.Hand.arr8 m c).symm))),
     (h c).2⟩)
    (Cert.MlpsRefIdeal.Value.run m' ρ')⟩

end Cert.Proof

end
-- ==== Proof.RecMath.lean ====
/-
  The scalar equations of one chunk of the recurrence (the matrix memory of one head over `N` consecutive tokens), as
  functions of extended reals: the gates' cumulative sums, the masked decay matrix, the running stabiliser, the weights,
  the read-out and the state the chunk leaves.
-/
module

public import proofs.«01_k».proof.Proof.StepMath

@[expose] public section

noncomputable section

namespace RecMath

open Idealize.ShloMosaic StepMath

variable {N : ℕ}

/-- The scale of the queries. -/
abbrev kap : EReal := Ideal.ofBits .f32 0x3DB504F3#32

/-- The cumulative sum of the logarithms of the forget gates, up to and with a token. -/
def cB (f : Fin N → EReal) (t : Fin N) : EReal := ∑ s : Fin N, if s ≤ t then lsig (f s) else 0

/-- The decay matrix: from a token to a later one, with the input gate; minus infinity above the diagonal. -/
def cD (bc br ri : Fin N → EReal) (t s : Fin N) : EReal := if s ≤ t then bc t - br s + ri s else ⊥

/-- The stabiliser at a token. -/
def cM (bc br ri : Fin N → EReal) (mp : EReal) (t : Fin N) : EReal :=
  max (bc t + mp) (Finset.univ.fold max ⊥ fun s => cD bc br ri t s)

/-- A token's weight at a later one. -/
def cW (bc br ri : Fin N → EReal) (mp : EReal) (t s : Fin N) : EReal :=
  Ideal.exp (cD bc br ri t s - cM bc br ri mp t)

/-- The old state's weight at a token. -/
def cDec (bc br ri : Fin N → EReal) (mp : EReal) (t : Fin N) : EReal :=
  Ideal.exp (bc t + mp - cM bc br ri mp t)

/-- The weighted product of a query and a key. -/
def cQK (bc br ri : Fin N → EReal) (mp : EReal) (q k : Fin N → Fin 128 → EReal) (t s : Fin N) : EReal :=
  (∑ d, q t d * k s d) * kap * cW bc br ri mp t s

/-- The read-out's numerator. -/
def cNum (bc br ri : Fin N → EReal) (mp : EReal) (q k v : Fin N → Fin 128 → EReal) (C : Fin 128 → Fin 128 → EReal)
    (t : Fin N) (e : Fin 128) : EReal :=
  (∑ s, cQK bc br ri mp q k t s * v s e) + cDec bc br ri mp t * ((∑ d, q t d * C d e) * kap)

/-- The read-out's denominator, before its bound. -/
def cDen (bc br ri : Fin N → EReal) (mp : EReal) (q k : Fin N → Fin 128 → EReal) (n : Fin 128 → EReal) (t : Fin N) : EReal :=
  (∑ s, cQK bc br ri mp q k t s) + cDec bc br ri mp t * ((∑ d, q t d * n d) * kap)

/-- The read-out from its numerator, its denominator and the stabiliser. -/
def quo (num den m : EReal) : EReal := Ideal.div num (max (max den (-den)) (Ideal.exp (-m)))

/-- The head's output at a lane, from the read-out over the lanes: normalised, weighted and gated. -/
def fin (raw : Fin 128 → EReal) (w o : EReal) (e : Fin 128) : EReal :=
  raw e * Ideal.rsqrt (Ideal.div (∑ d, raw d * raw d) (Ideal.ofBits .f32 0x43000000#32)
    + Ideal.ofBits .f32 0x358637BD#32) * w * Ideal.logistic o

/-- A token's weight in the state the chunk leaves. -/
def cEnd (bc br ri ci : Fin N → EReal) (mp : EReal) (l s : Fin N) : EReal :=
  Ideal.exp (bc l - bc s + ci s - cM bc br ri mp l)

/-- The memory the chunk leaves. -/
def cC (bc br ri ci : Fin N → EReal) (mp : EReal) (k v : Fin N → Fin 128 → EReal) (C : Fin 128 → Fin 128 → EReal)
    (l : Fin N) (d e : Fin 128) : EReal :=
  cDec bc br ri mp l * C d e + ∑ s, k s d * cEnd bc br ri ci mp l s * v s e

/-- The normaliser the chunk leaves. -/
def cn (bc br ri ci : Fin N → EReal) (mp : EReal) (k : Fin N → Fin 128 → EReal) (n : Fin 128 → EReal)
    (l : Fin N) (d : Fin 128) : EReal :=
  cDec bc br ri mp l * n d + ∑ s, k s d * cEnd bc br ri ci mp l s

/-- The printed mask of a row and a column index, both small, is the order of the indices. -/
theorem sel_le {α : Type} {n : ℕ} (hn : n ≤ 4096) (s t : Fin n) (x y : α) :
    Scalar.select (IntOp.cmpi .sle (BitVec.ofNat 32 s.val) (BitVec.ofNat 32 t.val)) x y = if s ≤ t then x else y := by
  have hs := s.isLt
  have ht := t.isLt
  have e : ∀ k : ℕ, k < 4096 → (BitVec.ofNat 32 k).toInt = (k : ℤ) := fun k hk => by
    rw [BitVec.toInt_eq_toNat_of_lt (by rw [BitVec.toNat_ofNat]; omega), BitVec.toNat_ofNat, Nat.mod_eq_of_lt (by omega)]
  have h : (BitVec.ofNat 32 s.val).sle (BitVec.ofNat 32 t.val) = decide (s ≤ t) := by
    rw [BitVec.sle, e _ (by omega), e _ (by omega)]
    exact decide_eq_decide.mpr (by rw [Fin.le_def]; exact Int.ofNat_le)
  by_cases hst : s ≤ t
  · rw [if_pos hst]; simp only [Scalar.select, IntOp.cmpi, h, decide_eq_true hst]; rfl
  · rw [if_neg hst]; simp only [Scalar.select, IntOp.cmpi, h, decide_eq_false hst]; rfl

/-- The word of minus infinity. -/
theorem neg_inf : Ideal.ofBits .f32 4286578688#32 = (⊥ : EReal) := by
  simp [Ideal.ofBits, Ideal.ieee]

end RecMath
end
-- ==== Proof.RecHead.lean ====
/-
  One head of the recurrence's body, element by element: the vectors the body computes for a head, from the head's
  slices of the blocks, are the scalar equations of `RecMath`.
-/
module

public import proofs.«01_k».proof.Proof.Gen.RecIdeal.Skeleton
public import proofs.«01_k».proof.Proof.RecMath

@[expose] public section

set_option maxRecDepth 16384

noncomputable section

namespace Cert.RecIdeal.Hand

open Cert.RecIdeal Cert.RecIdeal.Gen Idealize.ShloMosaic Idealize.ShloMosaic.TcCoe Idealize.SL.Sem RecMath StepMath

/-- The cumulative sums of a row of forget gates, as a column. -/
def bColV (r : FVec Ideal S1x256 .f32) : FVec Ideal S256x1 .f32 :=
  shapeCast S256x1 (multiReduction (F := Ideal) .add [1] S256 (select k0_pay5 (broadcastTo S256x256
    (shapeCast S1x256 (subf (minimumf r (broadcast S1x256 (Scalar.ofBits .f32 0x00000000#32)))
      (log1p (exp (subf (broadcast S1x256 (Scalar.ofBits .f32 0x00000000#32)) (absf r))))) shapeCasts_S1x256_S1x256)
    broadcasts_S1x256_S256x256) (broadcast S256x256 (Scalar.ofBits .f32 0x00000000#32)))
    0x00000000#32 reduces_S256x256_S256 (.inl rfl) rfl) shapeCasts_S256_S256x1

/-- The cumulative sums of a column of forget gates, as a row. -/
def bRowV (c : FVec Ideal S256x1 .f32) : FVec Ideal S1x256 .f32 :=
  shapeCast S1x256 (multiReduction (F := Ideal) .add [0] S256 (select (cmpi .sle (iota .tc S256x256 32 [0] iota_S256x256_d0_w32)
    (iota .tc S256x256 32 [1] iota_S256x256_d1_w32)) (broadcastTo S256x256
    (shapeCast S256x1 (subf (minimumf c (broadcast S256x1 (Scalar.ofBits .f32 0x00000000#32)))
      (log1p (exp (subf (broadcast S256x1 (Scalar.ofBits .f32 0x00000000#32)) (absf c))))) shapeCasts_S256x1_S256x1)
    broadcasts_S256x1_S256x256) (broadcast S256x256 (Scalar.ofBits .f32 0x00000000#32)))
    0x00000000#32 reduces_S256x256_S256_2 (.inl rfl) rfl) shapeCasts_S256_S1x256

/-- The cumulative sums as a column, at a token. -/
theorem bColV_at (r : FVec Ideal S1x256 .f32) (t : Fin 256) :
    bColV r (ix2 t 0) = cB (fun s => r (ix2 0 s)) t := by
  unfold bColV k0_pay5
  pointwise
  simp only [sel_le (show 256 ≤ 4096 by norm_num), cB, lsig, Ideal.absf_def, zero_sub]

/-- The cumulative sums as a row, at a token. -/
theorem bRowV_at (c : FVec Ideal S256x1 .f32) (s : Fin 256) :
    bRowV c (ix2 0 s) = cB (fun t => c (ix2 t 0)) s := by
  unfold bRowV
  pointwise
  simp only [sel_le (show 256 ≤ 4096 by norm_num), cB, lsig, Ideal.absf_def, zero_sub]

variable (ri : FVec Ideal S1x256 .f32) (bc : FVec Ideal S256x1 .f32) (br : FVec Ideal S1x256 .f32) (M : Vec Ideal S1x1x1 .f32)
    (q k v o : Vec Ideal S256x128 .bf16) (ci : FVec Ideal S256x1 .f32) (C : Vec Ideal S1x1x128x128 .f32) (n : Vec Ideal S1x1x128 .f32)
    (w : Vec Ideal S1x128 .f32)

/-- The decay matrix. -/
theorem d_at (t s : Fin 256) : k0_pay13 (F := Ideal) k0_pay5 ri bc br (ix2 t s) = cD (fun t : Fin 256 => bc (ix2 t 0)) (fun s : Fin 256 => br (ix2 0 s)) (fun s : Fin 256 => ri (ix2 0 s)) t s := by
  unfold k0_pay13 k0_pay5
  pointwise
  simp only [sel_le (show 256 ≤ 4096 by norm_num), cD, neg_inf]

/-- The stabiliser. -/
theorem m_at (t : Fin 256) : k0_pay14 (F := Ideal) k0_pay5 ri bc br M (ix2 t 0) = cM (fun t : Fin 256 => bc (ix2 t 0)) (fun s : Fin 256 => br (ix2 0 s)) (fun s : Fin 256 => ri (ix2 0 s)) (M (ix3 0 0 0)) t := by
  unfold k0_pay14 k0_pay10
  pointwise
  simp only [d_at, cM, neg_inf]

/-- The old state's weight. -/
theorem dec_at (t : Fin 256) : k0_pay15 (F := Ideal) k0_pay5 ri bc br M (ix2 t 0) = cDec (fun t : Fin 256 => bc (ix2 t 0)) (fun s : Fin 256 => br (ix2 0 s)) (fun s : Fin 256 => ri (ix2 0 s)) (M (ix3 0 0 0)) t := by
  unfold k0_pay15 k0_pay10
  pointwise
  simp only [m_at, cDec]

/-- The weighted products of queries and keys. -/
theorem qk_at (t s : Fin 256) : k0_pay16 (F := Ideal) k0_pay5 ri bc br M q k (ix2 t s) =
    cQK (fun t : Fin 256 => bc (ix2 t 0)) (fun s : Fin 256 => br (ix2 0 s)) (fun s : Fin 256 => ri (ix2 0 s)) (M (ix3 0 0 0)) (fun t d => q (ix2 t d)) (fun s d => k (ix2 s d)) t s := by
  unfold k0_pay16
  pointwise
  simp only [d_at, m_at, cQK, cW]

/-- The queries against the old memory. -/
theorem inter_at (t : Fin 256) (e : Fin 128) : k0_pay17 (F := Ideal) C q (ix2 t e) =
    (∑ d : Fin 128, q (ix2 t d) * C (ix4 0 0 d e)) * kap := by
  unfold k0_pay17 k0_pay11
  pointwise

/-- The products with the values. -/
theorem pv_at (t : Fin 256) (e : Fin 128) : k0_pay18 (F := Ideal) k0_pay5 ri bc br M q k v (ix2 t e) =
    ∑ s, cQK (fun t : Fin 256 => bc (ix2 t 0)) (fun s : Fin 256 => br (ix2 0 s)) (fun s : Fin 256 => ri (ix2 0 s)) (M (ix3 0 0 0)) (fun t d => q (ix2 t d)) (fun s d => k (ix2 s d)) t s * v (ix2 s e) := by
  unfold k0_pay18
  pointwise
  simp only [qk_at]

/-- The old state's weight on every lane. -/
theorem decB_at (t : Fin 256) (e : Fin 128) : k0_pay19 (F := Ideal) k0_pay5 ri bc br M (ix2 t e) = cDec (fun t : Fin 256 => bc (ix2 t 0)) (fun s : Fin 256 => br (ix2 0 s)) (fun s : Fin 256 => ri (ix2 0 s)) (M (ix3 0 0 0)) t := by
  unfold k0_pay19
  pointwise
  simp only [dec_at]

/-- The head's output. -/
def headH : FVec Ideal S256x128 .bf16 :=
  k0_pay20 (k0_pay12 n) (k0_pay14 k0_pay5 ri bc br M) (k0_pay15 k0_pay5 ri bc br M) q (k0_pay16 k0_pay5 ri bc br M q k)
    (k0_pay17 C q) (k0_pay18 k0_pay5 ri bc br M q k v) (k0_pay19 k0_pay5 ri bc br M) w o

/-- The head's output at a token and a lane. -/
theorem headH_at (t : Fin 256) (e : Fin 128) : headH ri bc br M q k v o C n w (ix2 t e) =
    fin (fun e => quo
        (cNum (fun t : Fin 256 => bc (ix2 t 0)) (fun s : Fin 256 => br (ix2 0 s)) (fun s : Fin 256 => ri (ix2 0 s)) (M (ix3 0 0 0)) (fun t d => q (ix2 t d)) (fun s d => k (ix2 s d)) (fun s d => v (ix2 s d)) (fun d e => C (ix4 0 0 d e)) t e)
        (cDen (fun t : Fin 256 => bc (ix2 t 0)) (fun s : Fin 256 => br (ix2 0 s)) (fun s : Fin 256 => ri (ix2 0 s)) (M (ix3 0 0 0)) (fun t d => q (ix2 t d)) (fun s d => k (ix2 s d)) (fun d => n (ix3 0 0 d)) t)
        (cM (fun t : Fin 256 => bc (ix2 t 0)) (fun s : Fin 256 => br (ix2 0 s)) (fun s : Fin 256 => ri (ix2 0 s)) (M (ix3 0 0 0)) t)) (w (ix2 0 e)) (o (ix2 t e)) e := by
  unfold headH k0_pay20 k0_pay12
  pointwise
  simp only [qk_at, pv_at, inter_at, decB_at, dec_at, m_at, Ideal.absf_def, zero_sub, fin, quo, cNum, cDen]

/-- The same of a vector that is this one. -/
theorem headH_of (f : FVec Ideal S256x128 .bf16) (hf : f = headH ri bc br M q k v o C n w) (t : Fin 256) (e : Fin 128) : f (ix2 t e) =
    fin (fun e => quo
        (cNum (fun t : Fin 256 => bc (ix2 t 0)) (fun s : Fin 256 => br (ix2 0 s)) (fun s : Fin 256 => ri (ix2 0 s)) (M (ix3 0 0 0)) (fun t d => q (ix2 t d)) (fun s d => k (ix2 s d)) (fun s d => v (ix2 s d)) (fun d e => C (ix4 0 0 d e)) t e)
        (cDen (fun t : Fin 256 => bc (ix2 t 0)) (fun s : Fin 256 => br (ix2 0 s)) (fun s : Fin 256 => ri (ix2 0 s)) (M (ix3 0 0 0)) (fun t d => q (ix2 t d)) (fun s d => k (ix2 s d)) (fun d => n (ix3 0 0 d)) t)
        (cM (fun t : Fin 256 => bc (ix2 t 0)) (fun s : Fin 256 => br (ix2 0 s)) (fun s : Fin 256 => ri (ix2 0 s)) (M (ix3 0 0 0)) t)) (w (ix2 0 e)) (o (ix2 t e)) e :=
  (congrFun hf _).trans (headH_at ri bc br M q k v o C n w t e)

/-- The head's stabiliser, on every lane. -/
def headM : FVec Ideal S1x1x128 .f32 := k0_pay29 (k0_pay21 (k0_pay14 k0_pay5 ri bc br M))

/-- The stabiliser the chunk leaves. -/
theorem headM_at (d : Fin 128) : headM ri bc br M (ix3 0 0 d) = cM (fun t : Fin 256 => bc (ix2 t 0)) (fun s : Fin 256 => br (ix2 0 s)) (fun s : Fin 256 => ri (ix2 0 s)) (M (ix3 0 0 0)) 255 := by
  unfold headM k0_pay29 k0_pay21
  pointwise
  exact m_at ri bc br M 255

/-- The same of a vector that is this one. -/
theorem headM_of (f : FVec Ideal S1x1x128 .f32) (hf : f = headM ri bc br M) (d : Fin 128) : f (ix3 0 0 d) = cM (fun t : Fin 256 => bc (ix2 t 0)) (fun s : Fin 256 => br (ix2 0 s)) (fun s : Fin 256 => ri (ix2 0 s)) (M (ix3 0 0 0)) 255 :=
  (congrFun hf _).trans (headM_at ri bc br M d)

/-- The weighted keys of the state's update. -/
theorem kw_at (s : Fin 256) (d : Fin 128) :
    k0_pay26 (F := Ideal) k (k0_pay23 ci bc) (k0_pay24 (k0_pay14 k0_pay5 ri bc br M)) (ix2 s d) = k (ix2 s d) * cEnd (fun t : Fin 256 => bc (ix2 t 0)) (fun s : Fin 256 => br (ix2 0 s)) (fun s : Fin 256 => ri (ix2 0 s)) (fun s : Fin 256 => ci (ix2 s 0)) (M (ix3 0 0 0)) 255 s := by
  unfold k0_pay26 k0_pay24 k0_pay23 k0_pay22 k0_pay21
  pointwise
  unfold cEnd
  rw [← m_at ri bc br M 255]

/-- The head's memory. -/
def headC : FVec Ideal S1x1x128x128 .f32 :=
  k0_pay27 (k0_pay10 M) (k0_pay11 C) k v (k0_pay21 (k0_pay14 k0_pay5 ri bc br M)) (k0_pay22 bc) (k0_pay23 ci bc)
    (k0_pay24 (k0_pay14 k0_pay5 ri bc br M))

/-- The memory the chunk leaves. -/
theorem headC_at (d e : Fin 128) : headC ri bc br M k v ci C (ix4 0 0 d e) =
    cC (fun t : Fin 256 => bc (ix2 t 0)) (fun s : Fin 256 => br (ix2 0 s)) (fun s : Fin 256 => ri (ix2 0 s)) (fun s : Fin 256 => ci (ix2 s 0)) (M (ix3 0 0 0)) (fun s d => k (ix2 s d)) (fun s d => v (ix2 s d)) (fun d e => C (ix4 0 0 d e)) 255 d e := by
  unfold headC k0_pay27 k0_pay25 k0_pay22 k0_pay21 k0_pay10 k0_pay11
  pointwise
  simp only [kw_at, cC, cDec]
  rw [← m_at ri bc br M 255]

/-- The same of a vector that is this one. -/
theorem headC_of (f : FVec Ideal S1x1x128x128 .f32) (hf : f = headC ri bc br M k v ci C) (d e : Fin 128) : f (ix4 0 0 d e) =
    cC (fun t : Fin 256 => bc (ix2 t 0)) (fun s : Fin 256 => br (ix2 0 s)) (fun s : Fin 256 => ri (ix2 0 s)) (fun s : Fin 256 => ci (ix2 s 0)) (M (ix3 0 0 0)) (fun s d => k (ix2 s d)) (fun s d => v (ix2 s d)) (fun d e => C (ix4 0 0 d e)) 255 d e :=
  (congrFun hf _).trans (headC_at ri bc br M k v ci C d e)

/-- The head's normaliser. -/
def headN : FVec Ideal S1x1x128 .f32 :=
  k0_pay28 (k0_pay10 M) (k0_pay12 n) k (k0_pay21 (k0_pay14 k0_pay5 ri bc br M)) (k0_pay22 bc) (k0_pay23 ci bc)
    (k0_pay24 (k0_pay14 k0_pay5 ri bc br M))

/-- The normaliser the chunk leaves. -/
theorem headN_at (d : Fin 128) : headN ri bc br M k ci n (ix3 0 0 d) =
    cn (fun t : Fin 256 => bc (ix2 t 0)) (fun s : Fin 256 => br (ix2 0 s)) (fun s : Fin 256 => ri (ix2 0 s)) (fun s : Fin 256 => ci (ix2 s 0)) (M (ix3 0 0 0)) (fun s d => k (ix2 s d)) (fun d => n (ix3 0 0 d)) 255 d := by
  unfold headN k0_pay28 k0_pay25 k0_pay22 k0_pay21 k0_pay10 k0_pay12
  pointwise
  simp only [kw_at, cn, cDec]
  rw [← m_at ri bc br M 255]

/-- The same of a vector that is this one. -/
theorem headN_of (f : FVec Ideal S1x1x128 .f32) (hf : f = headN ri bc br M k ci n) (d : Fin 128) : f (ix3 0 0 d) =
    cn (fun t : Fin 256 => bc (ix2 t 0)) (fun s : Fin 256 => br (ix2 0 s)) (fun s : Fin 256 => ri (ix2 0 s)) (fun s : Fin 256 => ci (ix2 s 0)) (M (ix3 0 0 0)) (fun s d => k (ix2 s d)) (fun d => n (ix3 0 0 d)) 255 d :=
  (congrFun hf _).trans (headN_at ri bc br M k ci n d)

end Cert.RecIdeal.Hand

end
-- ==== Proof.RecValue.lean ====
/-
  What the recurrence's body leaves in its four result blocks at a grid point, element by element: each head's stores
  are the scalar equations of `RecMath` at the loaded blocks and at the state before, which is zero at a sequence's
  first chunk and what the point before left at a later one.
-/
module

public import proofs.«01_k».proof.Proof.Gen.RecIdeal.Value
public import proofs.«01_k».proof.Proof.Gen.RecRefIdeal.Run
public import proofs.«01_k».proof.Proof.Gen.RecRefIdeal.Read
public import Idealize.ShloMosaic.Lib.Pipeline.ReadBack
public import proofs.«01_k».proof.Proof.RecHead

@[expose] public section

set_option maxRecDepth 16384
set_option maxHeartbeats 4000000

noncomputable section

namespace Cert.RecIdeal.Hand

open Cert.RecIdeal Cert.RecIdeal.Gen Idealize.ShloMosaic Idealize.ShloMosaic.TcCoe Idealize.SL.Sem RecMath StepMath
open Idealize.ShloMosaic.Pipeline (Dat)

/-- A head's cumulative gates from the transposed gates' block. -/
def bG (gt : Vec Ideal S16x256 .f32) (h : Fin 4) : Fin 256 → EReal :=
  cB fun s => gt (ix2 ⟨4 + h.val, by have := h.isLt; omega⟩ s)

/-- A head's cumulative gates from the gates' block. -/
def bH (g : Vec Ideal S256x128 .f32) (h : Fin 4) : Fin 256 → EReal :=
  cB fun s => g (ix2 s ⟨4 + h.val, by have := h.isLt; omega⟩)

/-- A head's input gates from the transposed gates' block. -/
def iG (gt : Vec Ideal S16x256 .f32) (h : Fin 4) (s : Fin 256) : EReal :=
  gt (ix2 ⟨h.val, by have := h.isLt; omega⟩ s)

/-- A head's input gates from the gates' block. -/
def iH (g : Vec Ideal S256x128 .f32) (h : Fin 4) (s : Fin 256) : EReal :=
  g (ix2 s ⟨h.val, by have := h.isLt; omega⟩)

/-- A head's lanes of a block. -/
def ln (x : Vec Ideal S256x512 .bf16) (h : Fin 4) (s : Fin 256) (d : Fin 128) : EReal :=
  x (ix2 s ⟨128 * h.val + d.val, by have := h.isLt; have := d.isLt; omega⟩)

/-- The first head's lanes are the block's first lanes. -/
theorem ln0 (x : Vec Ideal S256x512 .bf16) : ln x 0 = fun s d => x (ix2 s ⟨d.val, by have := d.isLt; omega⟩) := by
  funext s d
  exact congrArg (fun k => x (ix2 s k)) (Fin.ext (Nat.zero_add _))

/-- A head's lanes of the weights. -/
def lw (x : Vec Ideal S1x512 .f32) (h : Fin 4) (d : Fin 128) : EReal :=
  x (ix2 0 ⟨128 * h.val + d.val, by have := h.isLt; have := d.isLt; omega⟩)

/-- The first head's lanes are the weights' first lanes. -/
theorem lw0 (x : Vec Ideal S1x512 .f32) : lw x 0 = fun d => x (ix2 0 ⟨d.val, by have := d.isLt; omega⟩) := by
  funext d
  exact congrArg (fun k => x (ix2 0 k)) (Fin.ext (Nat.zero_add _))

/-- Stores that cover an index, over an earlier fill of the block: the fill is not seen there. -/
theorem canon_fill {S : Shape} {e : EltTy} (p0 p1 p2 p3 p4 : View.Piece (Elt Ideal) S e) (y : S.Idx)
    (h : ∃ p ∈ [p0, p1, p2, p3], y ∈ p.1.set) :
    View.canon [p0, p1, p2, p3, p4] y = View.canon [p0, p1, p2, p3] y := by
  have key : ∀ L : List (View.Piece (Elt Ideal) S e), (∃ p ∈ L, y ∈ p.1.set) → View.canon (L ++ [p4]) y = View.canon L y := by
    intro L
    induction L with
    | nil => rintro ⟨p, hp, _⟩; simp at hp
    | cons p L ih =>
      rintro ⟨q, hq, hy⟩
      by_cases hm : y ∈ p.1.set
      · obtain ⟨x, rfl⟩ := p.1.exists_idx_of_mem hm
        rw [List.cons_append]
        exact (View.canon_cons_emb p.1 p.2 (L ++ [p4]) x).trans (View.canon_cons_emb p.1 p.2 L x).symm
      · rw [List.cons_append, View.canon_cons_of_not_mem p _ hm, View.canon_cons_of_not_mem p _ hm]
        refine ih ⟨q, ?_, hy⟩
        rcases List.mem_cons.mp hq with rfl | hq
        · exact absurd hy hm
        · exact hq
  exact key _ h

variable (m : (ℓ : Loc nD τ sig) → Buf (Elt Ideal) ℓ) (c : Dev nD)

/-- The stabiliser's block at a later chunk. -/
theorem mB (t : Fin cfg0.N) (h0 : ¬t.val % 16 = 0) (h : Fin 4) (d : Fin 128) :
    (outsAt0 m c t.val t.isLt).2.2.2 (ix3 0 h d) =
      cM (bG (iblk m c 5 t) h) (bH (iblk m c 4 t) h) (iG (iblk m c 5 t) h) ((outsAt0 m c (t.val - 1) (Nat.lt_of_le_of_lt (Nat.sub_le _ _) t.isLt)).2.2.2 (ix3 0 h 0)) 255 := by
  rw [outsAt0_B m c t h0]
  frame_out
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    refine (headM_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ (by rfl) d).trans ?_
    simp only [bColV_at, bRowV_at]
    pointwise
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    refine (headM_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ (by rfl) d).trans ?_
    simp only [bColV_at, bRowV_at]
    pointwise
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    refine (headM_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ (by rfl) d).trans ?_
    simp only [bColV_at, bRowV_at]
    pointwise
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    refine (headM_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ (by rfl) d).trans ?_
    simp only [bColV_at, bRowV_at]
    pointwise
    rfl

/-- The stabiliser's block at a sequence's first chunk. -/
theorem mA (t : Fin cfg0.N) (h0 : t.val % 16 = 0) (h : Fin 4) (d : Fin 128) :
    (outsAt0 m c t.val t.isLt).2.2.2 (ix3 0 h d) =
      cM (bG (iblk m c 5 t) h) (bH (iblk m c 4 t) h) (iG (iblk m c 5 t) h) 0 255 := by
  rw [outsAt0_A m c t h0]
  frame_out
  simp (disch := decide) only [↓View.readCov_skip, ↓View.readCov_fill]
  rw [canon_fill _ _ _ _ _ _ (View.cover_of_tiledL _ ![1, 1, 128] (by rfl) _)]
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    refine (headM_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ (by rfl) d).trans ?_
    simp only [bColV_at, bRowV_at]
    pointwise [k0_pay2, k0_pay3, k0_pay4]
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    refine (headM_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ (by rfl) d).trans ?_
    simp only [bColV_at, bRowV_at]
    pointwise [k0_pay2, k0_pay3, k0_pay4]
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    refine (headM_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ (by rfl) d).trans ?_
    simp only [bColV_at, bRowV_at]
    pointwise [k0_pay2, k0_pay3, k0_pay4]
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    refine (headM_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ (by rfl) d).trans ?_
    simp only [bColV_at, bRowV_at]
    pointwise [k0_pay2, k0_pay3, k0_pay4]
    rfl

/-- The normaliser's block at a later chunk. -/
theorem nB (t : Fin cfg0.N) (h0 : ¬t.val % 16 = 0) (h : Fin 4) (d : Fin 128) :
    (outsAt0 m c t.val t.isLt).2.2.1 (ix3 0 h d) =
      cn (bG (iblk m c 5 t) h) (bH (iblk m c 4 t) h) (iG (iblk m c 5 t) h) (iH (iblk m c 4 t) h) ((outsAt0 m c (t.val - 1) (Nat.lt_of_le_of_lt (Nat.sub_le _ _) t.isLt)).2.2.2 (ix3 0 h 0)) (ln (iblk m c 1 t) h) (fun d => (outsAt0 m c (t.val - 1) (Nat.lt_of_le_of_lt (Nat.sub_le _ _) t.isLt)).2.2.1 (ix3 0 h d)) 255 d := by
  rw [outsAt0_B m c t h0]
  frame_out
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    refine (headN_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ (extractStridedSlice S256x1 ![0, 3] (iblk m c 4 t) slices_S256x128_o0_3_S256x1) _ _ (by rfl) d).trans ?_
    simp only [bColV_at, bRowV_at]
    pointwise
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    refine (headN_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ (extractStridedSlice S256x1 ![0, 2] (iblk m c 4 t) slices_S256x128_o0_2_S256x1) _ _ (by rfl) d).trans ?_
    simp only [bColV_at, bRowV_at]
    pointwise
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    refine (headN_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ (extractStridedSlice S256x1 ![0, 1] (iblk m c 4 t) slices_S256x128_o0_1_S256x1) _ _ (by rfl) d).trans ?_
    simp only [bColV_at, bRowV_at]
    pointwise
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    refine (headN_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ (extractStridedSlice S256x1 ![0, 0] (iblk m c 4 t) slices_S256x128_o0_0_S256x1) _ _ (by rfl) d).trans ?_
    simp only [bColV_at, bRowV_at]
    pointwise
    simp only [ln0]
    rfl

/-- The normaliser's block at a sequence's first chunk. -/
theorem nA (t : Fin cfg0.N) (h0 : t.val % 16 = 0) (h : Fin 4) (d : Fin 128) :
    (outsAt0 m c t.val t.isLt).2.2.1 (ix3 0 h d) =
      cn (bG (iblk m c 5 t) h) (bH (iblk m c 4 t) h) (iG (iblk m c 5 t) h) (iH (iblk m c 4 t) h) 0 (ln (iblk m c 1 t) h) (fun _ => 0) 255 d := by
  rw [outsAt0_A m c t h0]
  frame_out
  simp (disch := decide) only [↓View.readCov_skip, ↓View.readCov_fill]
  rw [canon_fill _ _ _ _ _ _ (View.cover_of_tiledL _ ![1, 1, 128] (by rfl) _)]
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    refine (headN_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ (extractStridedSlice S256x1 ![0, 3] (iblk m c 4 t) slices_S256x128_o0_3_S256x1) _ _ (by rfl) d).trans ?_
    simp only [bColV_at, bRowV_at]
    pointwise [k0_pay2, k0_pay3, k0_pay4]
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    refine (headN_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ (extractStridedSlice S256x1 ![0, 2] (iblk m c 4 t) slices_S256x128_o0_2_S256x1) _ _ (by rfl) d).trans ?_
    simp only [bColV_at, bRowV_at]
    pointwise [k0_pay2, k0_pay3, k0_pay4]
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    refine (headN_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ (extractStridedSlice S256x1 ![0, 1] (iblk m c 4 t) slices_S256x128_o0_1_S256x1) _ _ (by rfl) d).trans ?_
    simp only [bColV_at, bRowV_at]
    pointwise [k0_pay2, k0_pay3, k0_pay4]
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    refine (headN_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ (extractStridedSlice S256x1 ![0, 0] (iblk m c 4 t) slices_S256x128_o0_0_S256x1) _ _ (by rfl) d).trans ?_
    simp only [bColV_at, bRowV_at]
    pointwise [k0_pay2, k0_pay3, k0_pay4]
    simp only [ln0]
    rfl

/-- The memory's block at a later chunk. -/
theorem CB (t : Fin cfg0.N) (h0 : ¬t.val % 16 = 0) (h : Fin 4) (d e : Fin 128) :
    (outsAt0 m c t.val t.isLt).2.1 (ix4 0 h d e) =
      cC (bG (iblk m c 5 t) h) (bH (iblk m c 4 t) h) (iG (iblk m c 5 t) h) (iH (iblk m c 4 t) h) ((outsAt0 m c (t.val - 1) (Nat.lt_of_le_of_lt (Nat.sub_le _ _) t.isLt)).2.2.2 (ix3 0 h 0)) (ln (iblk m c 1 t) h) (ln (iblk m c 2 t) h) (fun d e => (outsAt0 m c (t.val - 1) (Nat.lt_of_le_of_lt (Nat.sub_le _ _) t.isLt)).2.1 (ix4 0 h d e)) 255 d e := by
  rw [outsAt0_B m c t h0]
  frame_out
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ _ (extractStridedSlice S256x1 ![0, 3] (iblk m c 4 t) slices_S256x128_o0_3_S256x1) _ _ (by rfl) d e).trans ?_
    simp only [bColV_at, bRowV_at]
    pointwise
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ _ (extractStridedSlice S256x1 ![0, 2] (iblk m c 4 t) slices_S256x128_o0_2_S256x1) _ _ (by rfl) d e).trans ?_
    simp only [bColV_at, bRowV_at]
    pointwise
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ _ (extractStridedSlice S256x1 ![0, 1] (iblk m c 4 t) slices_S256x128_o0_1_S256x1) _ _ (by rfl) d e).trans ?_
    simp only [bColV_at, bRowV_at]
    pointwise
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ _ (extractStridedSlice S256x1 ![0, 0] (iblk m c 4 t) slices_S256x128_o0_0_S256x1) _ _ (by rfl) d e).trans ?_
    simp only [bColV_at, bRowV_at]
    pointwise
    simp only [ln0]
    rfl

/-- The memory's block at a sequence's first chunk. -/
theorem CA (t : Fin cfg0.N) (h0 : t.val % 16 = 0) (h : Fin 4) (d e : Fin 128) :
    (outsAt0 m c t.val t.isLt).2.1 (ix4 0 h d e) =
      cC (bG (iblk m c 5 t) h) (bH (iblk m c 4 t) h) (iG (iblk m c 5 t) h) (iH (iblk m c 4 t) h) 0 (ln (iblk m c 1 t) h) (ln (iblk m c 2 t) h) (fun _ _ => 0) 255 d e := by
  rw [outsAt0_A m c t h0]
  frame_out
  simp (disch := decide) only [↓View.readCov_skip, ↓View.readCov_fill]
  rw [canon_fill _ _ _ _ _ _ (View.cover_of_tiledL _ ![1, 1, 128, 128] (by rfl) _)]
  canon_tiles j hh
  all_goals (idx_vars j)
  case piece0 =>
    obtain rfl : h = 3 := Fin.ext (by have e := hh1; change h.val = 3 + j1.val at e; have := j1.isLt; show h.val = 3; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ _ (extractStridedSlice S256x1 ![0, 3] (iblk m c 4 t) slices_S256x128_o0_3_S256x1) _ _ (by rfl) d e).trans ?_
    simp only [bColV_at, bRowV_at]
    pointwise [k0_pay2, k0_pay3, k0_pay4]
    rfl
  case piece1 =>
    obtain rfl : h = 2 := Fin.ext (by have e := hh1; change h.val = 2 + j1.val at e; have := j1.isLt; show h.val = 2; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ _ (extractStridedSlice S256x1 ![0, 2] (iblk m c 4 t) slices_S256x128_o0_2_S256x1) _ _ (by rfl) d e).trans ?_
    simp only [bColV_at, bRowV_at]
    pointwise [k0_pay2, k0_pay3, k0_pay4]
    rfl
  case piece2 =>
    obtain rfl : h = 1 := Fin.ext (by have e := hh1; change h.val = 1 + j1.val at e; have := j1.isLt; show h.val = 1; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ _ (extractStridedSlice S256x1 ![0, 1] (iblk m c 4 t) slices_S256x128_o0_1_S256x1) _ _ (by rfl) d e).trans ?_
    simp only [bColV_at, bRowV_at]
    pointwise [k0_pay2, k0_pay3, k0_pay4]
    rfl
  case piece3 =>
    obtain rfl : h = 0 := Fin.ext (by have e := hh1; change h.val = j1.val at e; have := j1.isLt; show h.val = 0; omega)
    obtain rfl : d = j2 := Fin.ext hh2
    obtain rfl : j0 = 0 := Subsingleton.elim _ _
    obtain rfl : j1 = 0 := Subsingleton.elim _ _
    obtain rfl : e = j3 := Fin.ext hh3
    refine (headC_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ _ (extractStridedSlice S256x1 ![0, 0] (iblk m c 4 t) slices_S256x128_o0_0_S256x1) _ _ (by rfl) d e).trans ?_
    simp only [bColV_at, bRowV_at]
    pointwise [k0_pay2, k0_pay3, k0_pay4]
    simp only [ln0]
    rfl

/-- The output's block at a later chunk. -/
theorem hB (t : Fin cfg0.N) (h0 : ¬t.val % 16 = 0) (s : Fin 256) (h : Fin 4) (d : Fin 128) :
    (outsAt0 m c t.val t.isLt).1 (ix2 s ⟨128 * h.val + d.val, by have := h.isLt; have := d.isLt; omega⟩) =
      fin (fun e => quo (cNum (bG (iblk m c 5 t) h) (bH (iblk m c 4 t) h) (iG (iblk m c 5 t) h) ((outsAt0 m c (t.val - 1) (Nat.lt_of_le_of_lt (Nat.sub_le _ _) t.isLt)).2.2.2 (ix3 0 h 0)) (ln (iblk m c 0 t) h) (ln (iblk m c 1 t) h) (ln (iblk m c 2 t) h) (fun d e => (outsAt0 m c (t.val - 1) (Nat.lt_of_le_of_lt (Nat.sub_le _ _) t.isLt)).2.1 (ix4 0 h d e)) s e)
        (cDen (bG (iblk m c 5 t) h) (bH (iblk m c 4 t) h) (iG (iblk m c 5 t) h) ((outsAt0 m c (t.val - 1) (Nat.lt_of_le_of_lt (Nat.sub_le _ _) t.isLt)).2.2.2 (ix3 0 h 0)) (ln (iblk m c 0 t) h) (ln (iblk m c 1 t) h) (fun d => (outsAt0 m c (t.val - 1) (Nat.lt_of_le_of_lt (Nat.sub_le _ _) t.isLt)).2.2.1 (ix3 0 h d)) s)
        (cM (bG (iblk m c 5 t) h) (bH (iblk m c 4 t) h) (iG (iblk m c 5 t) h) ((outsAt0 m c (t.val - 1) (Nat.lt_of_le_of_lt (Nat.sub_le _ _) t.isLt)).2.2.2 (ix3 0 h 0)) s)) (lw (iblk m c 6 t) h d) (ln (iblk m c 3 t) h s d) d := by
  rw [outsAt0_B m c t h0]
  frame_out
  canon_tiles j hh
  all_goals (idx_vars j)
  case piece0 =>
    obtain ⟨eh, ed⟩ : h.val = 3 ∧ d.val = j1.val := by
      have e : 128 * h.val + d.val = 384 + j1.val := hh1
      have := h.isLt; have := d.isLt; have := j1.isLt; omega
    obtain rfl : h = 3 := Fin.ext eh
    obtain rfl : d = j1 := Fin.ext ed
    obtain rfl : s = j0 := Fin.ext hh0
    refine (headH_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ _ _ _ _ _ _ _ (by rfl) s d).trans ?_
    simp only [bColV_at, bRowV_at]
    pointwise
    rfl
  case piece1 =>
    obtain ⟨eh, ed⟩ : h.val = 2 ∧ d.val = j1.val := by
      have e : 128 * h.val + d.val = 256 + j1.val := hh1
      have := h.isLt; have := d.isLt; have := j1.isLt; omega
    obtain rfl : h = 2 := Fin.ext eh
    obtain rfl : d = j1 := Fin.ext ed
    obtain rfl : s = j0 := Fin.ext hh0
    refine (headH_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ _ _ _ _ _ _ _ (by rfl) s d).trans ?_
    simp only [bColV_at, bRowV_at]
    pointwise
    rfl
  case piece2 =>
    obtain ⟨eh, ed⟩ : h.val = 1 ∧ d.val = j1.val := by
      have e : 128 * h.val + d.val = 128 + j1.val := hh1
      have := h.isLt; have := d.isLt; have := j1.isLt; omega
    obtain rfl : h = 1 := Fin.ext eh
    obtain rfl : d = j1 := Fin.ext ed
    obtain rfl : s = j0 := Fin.ext hh0
    refine (headH_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ _ _ _ _ _ _ _ (by rfl) s d).trans ?_
    simp only [bColV_at, bRowV_at]
    pointwise
    rfl
  case piece3 =>
    obtain ⟨eh, ed⟩ : h.val = 0 ∧ d.val = j1.val := by
      have e : 128 * h.val + d.val = 0 + j1.val := hh1.trans (Nat.zero_add _).symm
      have := h.isLt; have := d.isLt; have := j1.isLt; omega
    obtain rfl : h = 0 := Fin.ext eh
    obtain rfl : d = j1 := Fin.ext ed
    obtain rfl : s = j0 := Fin.ext hh0
    refine (headH_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ _ _ _ _ _ _ _ (by rfl) s d).trans ?_
    simp only [bColV_at, bRowV_at]
    pointwise
    simp only [ln0, lw0]
    rfl

/-- The output's block at a sequence's first chunk. -/
theorem hA (t : Fin cfg0.N) (h0 : t.val % 16 = 0) (s : Fin 256) (h : Fin 4) (d : Fin 128) :
    (outsAt0 m c t.val t.isLt).1 (ix2 s ⟨128 * h.val + d.val, by have := h.isLt; have := d.isLt; omega⟩) =
      fin (fun e => quo (cNum (bG (iblk m c 5 t) h) (bH (iblk m c 4 t) h) (iG (iblk m c 5 t) h) 0 (ln (iblk m c 0 t) h) (ln (iblk m c 1 t) h) (ln (iblk m c 2 t) h) (fun _ _ => 0) s e)
        (cDen (bG (iblk m c 5 t) h) (bH (iblk m c 4 t) h) (iG (iblk m c 5 t) h) 0 (ln (iblk m c 0 t) h) (ln (iblk m c 1 t) h) (fun _ => 0) s)
        (cM (bG (iblk m c 5 t) h) (bH (iblk m c 4 t) h) (iG (iblk m c 5 t) h) 0 s)) (lw (iblk m c 6 t) h d) (ln (iblk m c 3 t) h s d) d := by
  rw [outsAt0_A m c t h0]
  frame_out
  simp (disch := decide) only [↓View.readCov_skip, ↓View.readCov_fill]
  canon_tiles j hh
  all_goals (idx_vars j)
  case piece0 =>
    obtain ⟨eh, ed⟩ : h.val = 3 ∧ d.val = j1.val := by
      have e : 128 * h.val + d.val = 384 + j1.val := hh1
      have := h.isLt; have := d.isLt; have := j1.isLt; omega
    obtain rfl : h = 3 := Fin.ext eh
    obtain rfl : d = j1 := Fin.ext ed
    obtain rfl : s = j0 := Fin.ext hh0
    refine (headH_of (extractStridedSlice S1x256 ![3, 0] (iblk m c 5 t) slices_S16x256_o3_0_S1x256) (bColV (extractStridedSlice S1x256 ![7, 0] (iblk m c 5 t) slices_S16x256_o7_0_S1x256)) (bRowV (extractStridedSlice S256x1 ![0, 7] (iblk m c 4 t) slices_S256x128_o0_7_S256x1)) _ _ _ _ _ _ _ _ _ (by rfl) s d).trans ?_
    simp only [bColV_at, bRowV_at]
    pointwise [k0_pay2, k0_pay3, k0_pay4]
    rfl
  case piece1 =>
    obtain ⟨eh, ed⟩ : h.val = 2 ∧ d.val = j1.val := by
      have e : 128 * h.val + d.val = 256 + j1.val := hh1
      have := h.isLt; have := d.isLt; have := j1.isLt; omega
    obtain rfl : h = 2 := Fin.ext eh
    obtain rfl : d = j1 := Fin.ext ed
    obtain rfl : s = j0 := Fin.ext hh0
    refine (headH_of (extractStridedSlice S1x256 ![2, 0] (iblk m c 5 t) slices_S16x256_o2_0_S1x256) (bColV (extractStridedSlice S1x256 ![6, 0] (iblk m c 5 t) slices_S16x256_o6_0_S1x256)) (bRowV (extractStridedSlice S256x1 ![0, 6] (iblk m c 4 t) slices_S256x128_o0_6_S256x1)) _ _ _ _ _ _ _ _ _ (by rfl) s d).trans ?_
    simp only [bColV_at, bRowV_at]
    pointwise [k0_pay2, k0_pay3, k0_pay4]
    rfl
  case piece2 =>
    obtain ⟨eh, ed⟩ : h.val = 1 ∧ d.val = j1.val := by
      have e : 128 * h.val + d.val = 128 + j1.val := hh1
      have := h.isLt; have := d.isLt; have := j1.isLt; omega
    obtain rfl : h = 1 := Fin.ext eh
    obtain rfl : d = j1 := Fin.ext ed
    obtain rfl : s = j0 := Fin.ext hh0
    refine (headH_of (extractStridedSlice S1x256 ![1, 0] (iblk m c 5 t) slices_S16x256_o1_0_S1x256) (bColV (extractStridedSlice S1x256 ![5, 0] (iblk m c 5 t) slices_S16x256_o5_0_S1x256)) (bRowV (extractStridedSlice S256x1 ![0, 5] (iblk m c 4 t) slices_S256x128_o0_5_S256x1)) _ _ _ _ _ _ _ _ _ (by rfl) s d).trans ?_
    simp only [bColV_at, bRowV_at]
    pointwise [k0_pay2, k0_pay3, k0_pay4]
    rfl
  case piece3 =>
    obtain ⟨eh, ed⟩ : h.val = 0 ∧ d.val = j1.val := by
      have e : 128 * h.val + d.val = 0 + j1.val := hh1.trans (Nat.zero_add _).symm
      have := h.isLt; have := d.isLt; have := j1.isLt; omega
    obtain rfl : h = 0 := Fin.ext eh
    obtain rfl : d = j1 := Fin.ext ed
    obtain rfl : s = j0 := Fin.ext hh0
    refine (headH_of (extractStridedSlice S1x256 ![0, 0] (iblk m c 5 t) slices_S16x256_o0_0_S1x256) (bColV (extractStridedSlice S1x256 ![4, 0] (iblk m c 5 t) slices_S16x256_o4_0_S1x256)) (bRowV (extractStridedSlice S256x1 ![0, 4] (iblk m c 4 t) slices_S256x128_o0_4_S256x1)) _ _ _ _ _ _ _ _ _ (by rfl) s d).trans ?_
    simp only [bColV_at, bRowV_at]
    pointwise [k0_pay2, k0_pay3, k0_pay4]
    simp only [ln0, lw0]
    rfl

end Cert.RecIdeal.Hand

end
-- ==== Proof.RecReal.lean ====
/-
  The recurrence over the reals, in closed form. With `F` the sum of the logarithms of the forget gates before a token,
  `av` the input gate against it and `mu` the largest of zero and the `av`s before a token, the stabiliser is `F + mu`,
  a token's weight in the state is `exp (av - mu)`, and the state is the weighted sum over the tokens before. A chunk that
  starts from the closed form ends at the closed form, whatever its length, so that the tiled recurrence and the single
  sum over the sequence are the same.
-/
module

public import proofs.«01_k».proof.Proof.RecMath
public import Mathlib.Algebra.BigOperators.Intervals

@[expose] public section

noncomputable section

namespace RecReal

open Idealize.ShloMosaic StepMath RecMath

variable (lf li : ℕ → ℝ)

/-- The sum of the first `n` logarithms of the forget gates. -/
def F (n : ℕ) : ℝ := ∑ s ∈ Finset.range n, lf s

/-- A token's input gate against the sum of the forget gates up to it. -/
def av (s : ℕ) : ℝ := li s - F lf (s + 1)

/-- The largest of zero and the first `n` of these. -/
def mu : ℕ → ℝ
  | 0 => 0
  | n + 1 => max (mu n) (av lf li n)

/-- It grows. -/
theorem mu_mono {i n : ℕ} (h : i ≤ n) : mu lf li i ≤ mu lf li n := by
  induction n with
  | zero => rw [Nat.le_zero.mp h]
  | succ n ih =>
    rcases Nat.lt_or_ge i (n + 1) with h' | h'
    · exact (ih (by omega)).trans (le_max_left _ _)
    · rw [show i = n + 1 by omega]

/-- It is at least each of its terms. -/
theorem av_le_mu {i n : ℕ} (h : i < n) : av lf li i ≤ mu lf li n :=
  (le_max_right (mu lf li i) _).trans (mu_mono lf li (show i + 1 ≤ n from h))

/-- It is one of its terms, or what it was before. -/
theorem mu_cases (t n : ℕ) : mu lf li (t + n) = mu lf li t ∨ ∃ s, s < n ∧ mu lf li (t + n) = av lf li (t + s) := by
  induction n with
  | zero => exact .inl rfl
  | succ n ih =>
    have e : mu lf li (t + (n + 1)) = max (mu lf li (t + n)) (av lf li (t + n)) := rfl
    rcases max_choice (mu lf li (t + n)) (av lf li (t + n)) with h | h
    · rcases ih with h1 | ⟨s, hs, h1⟩
      · exact .inl (by rw [e, h, h1])
      · exact .inr ⟨s, by omega, by rw [e, h, h1]⟩
    · exact .inr ⟨n, by omega, by rw [e, h]⟩

/-- A sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The exponential of a real number. -/
theorem exp_coe (r : ℝ) : Ideal.exp (r : EReal) = ((Real.exp r : ℝ) : EReal) := rfl

/-- The exponential of minus infinity. -/
theorem exp_bot : Ideal.exp (⊥ : EReal) = 0 := rfl

variable {lf li} {N : ℕ}

/-- A sum over the indices up to one is the sum over a range. -/
theorem sum_le (f : ℕ → ℝ) (t : Fin N) : (∑ s : Fin N, if s ≤ t then f s.val else 0) = ∑ s ∈ Finset.range (t.val + 1), f s := by
  rw [← Fin.sum_univ_eq_sum_range (fun s => f s) (t.val + 1), ← Finset.sum_filter]
  refine (Finset.sum_nbij (fun (s : Fin (t.val + 1)) => (⟨s.val, by have := s.isLt; have := t.isLt; omega⟩ : Fin N)) ?_ ?_ ?_ ?_).symm
  · intro s _
    simp only [Finset.mem_filter, Finset.mem_univ, true_and, Fin.le_def]
    have := s.isLt; omega
  · intro s _ s' _ h
    exact Fin.ext (Fin.mk.inj h)
  · intro s hs
    simp only [Finset.coe_filter, Finset.mem_univ, true_and, Set.mem_setOf_eq, Fin.le_def] at hs
    exact ⟨⟨s.val, by omega⟩, by simp, rfl⟩
  · intro s _; rfl

section Chunk
variable (t0 : ℕ)

/-- The cumulative gates of a chunk that starts after `t0` tokens. -/
theorem cB_eq (f : Fin N → EReal) (hf : ∀ s, lsig (f s) = ((lf (t0 + s.val) : ℝ) : EReal)) (t : Fin N) :
    cB f t = ((F lf (t0 + t.val + 1) - F lf t0 : ℝ) : EReal) := by
  unfold cB
  rw [show (F lf (t0 + t.val + 1) - F lf t0) = ∑ s ∈ Finset.range (t.val + 1), lf (t0 + s) by
    unfold F; rw [show t0 + t.val + 1 = t0 + (t.val + 1) from rfl, Finset.sum_range_add]; ring]
  rw [← sum_le (fun s => lf (t0 + s)) t, ← coe_sum]
  refine Finset.sum_congr rfl fun s _ => ?_
  by_cases h : s ≤ t
  · rw [if_pos h, if_pos h, hf]
  · rw [if_neg h, if_neg h, EReal.coe_zero]

variable (bc br ri ci : Fin N → EReal) (mp : EReal)
    (hbc : ∀ t, bc t = ((F lf (t0 + t.val + 1) - F lf t0 : ℝ) : EReal))
    (hbr : ∀ t, br t = ((F lf (t0 + t.val + 1) - F lf t0 : ℝ) : EReal))
    (hri : ∀ s, ri s = ((li (t0 + s.val) : ℝ) : EReal))
    (hci : ∀ s, ci s = ((li (t0 + s.val) : ℝ) : EReal))
    (hmp : mp = ((F lf t0 + mu lf li t0 : ℝ) : EReal))
include hbc hbr hri

/-- The decay matrix. -/
theorem cD_eq (t s : Fin N) : cD bc br ri t s =
    if s ≤ t then ((F lf (t0 + t.val + 1) + av lf li (t0 + s.val) : ℝ) : EReal) else ⊥ := by
  unfold cD
  by_cases h : s ≤ t
  · rw [if_pos h, if_pos h, hbc, hbr, hri, ← EReal.coe_sub, ← EReal.coe_add]
    congr 1
    unfold av
    ring
  · rw [if_neg h, if_neg h]

include hmp

/-- The stabiliser. -/
theorem cM_eq (t : Fin N) : cM bc br ri mp t = ((F lf (t0 + t.val + 1) + mu lf li (t0 + t.val + 1) : ℝ) : EReal) := by
  unfold cM
  have e0 : bc t + mp = ((F lf (t0 + t.val + 1) + mu lf li t0 : ℝ) : EReal) := by
    rw [hbc, hmp, ← EReal.coe_add]; congr 1; ring
  rw [e0]
  apply le_antisymm
  · refine max_le (EReal.coe_le_coe_iff.mpr (by have := mu_mono lf li (show t0 ≤ t0 + t.val + 1 by omega); linarith)) ?_
    refine (Finset.fold_max_le _).mpr ⟨bot_le, fun s _ => ?_⟩
    rw [cD_eq t0 bc br ri hbc hbr hri]
    by_cases h : s ≤ t
    · rw [if_pos h]
      have hs : s.val ≤ t.val := h
      exact EReal.coe_le_coe_iff.mpr (by have := av_le_mu lf li (show t0 + s.val < t0 + t.val + 1 by omega); linarith)
    · rw [if_neg h]; exact bot_le
  · rcases mu_cases lf li t0 (t.val + 1) with h | ⟨s, hs, h⟩
    · rw [show t0 + t.val + 1 = t0 + (t.val + 1) from rfl, h]; exact le_max_left _ _
    · refine le_max_of_le_right ?_
      refine (Finset.le_fold_max _).mpr (.inr ⟨⟨s, by have := t.isLt; omega⟩, Finset.mem_univ _, ?_⟩)
      rw [cD_eq t0 bc br ri hbc hbr hri, if_pos (Fin.le_def.mpr (show s ≤ t.val by omega)), show t0 + t.val + 1 = t0 + (t.val + 1) from rfl, h]

/-- A token's weight at a later one. -/
theorem cW_eq (t s : Fin N) : cW bc br ri mp t s =
    ((if s ≤ t then Real.exp (av lf li (t0 + s.val) - mu lf li (t0 + t.val + 1)) else 0 : ℝ) : EReal) := by
  unfold cW
  rw [cM_eq t0 bc br ri mp hbc hbr hri hmp, cD_eq t0 bc br ri hbc hbr hri]
  by_cases h : s ≤ t
  · rw [if_pos h, if_pos h, ← EReal.coe_sub, exp_coe]
    congr 2; ring
  · rw [if_neg h, if_neg h, EReal.bot_sub, exp_bot, EReal.coe_zero]

/-- The old state's weight. -/
theorem cDec_eq (t : Fin N) : cDec bc br ri mp t = ((Real.exp (mu lf li t0 - mu lf li (t0 + t.val + 1)) : ℝ) : EReal) := by
  unfold cDec
  rw [cM_eq t0 bc br ri mp hbc hbr hri hmp, hbc, hmp, ← EReal.coe_add, ← EReal.coe_sub, exp_coe]
  congr 2; ring

include hci

/-- A token's weight in the state that the chunk leaves. -/
theorem cEnd_eq (l s : Fin N) : cEnd bc br ri ci mp l s =
    ((Real.exp (av lf li (t0 + s.val) - mu lf li (t0 + l.val + 1)) : ℝ) : EReal) := by
  unfold cEnd
  rw [cM_eq t0 bc br ri mp hbc hbr hri hmp, hbc, hbc, hci, ← EReal.coe_sub, ← EReal.coe_add, ← EReal.coe_sub, exp_coe]
  congr 2; unfold av; ring

end Chunk

/-- The state after `n` tokens: the weighted sum of a value over them. -/
def St (lf li : ℕ → ℝ) (u : ℕ → ℝ) (n : ℕ) : ℝ := ∑ s ∈ Finset.range n, Real.exp (av lf li s - mu lf li n) * u s

/-- The state after a chunk, from the state before it. -/
theorem St_add (u : ℕ → ℝ) (t0 n : ℕ) : St lf li u (t0 + n) =
    Real.exp (mu lf li t0 - mu lf li (t0 + n)) * St lf li u t0
      + ∑ s ∈ Finset.range n, Real.exp (av lf li (t0 + s) - mu lf li (t0 + n)) * u (t0 + s) := by
  unfold St
  rw [Finset.sum_range_add, Finset.mul_sum]
  congr 1
  refine Finset.sum_congr rfl fun s _ => ?_
  rw [← mul_assoc, ← Real.exp_add]
  congr 2; ring

/-- A linear form of a state is the state of the linear form. -/
theorem St_lin (Q : Fin 128 → ℝ) (κ : ℝ) (K : ℕ → Fin 128 → ℝ) (u : ℕ → ℝ) (n : ℕ) :
    (∑ d, Q d * St lf li (fun s => K s d * u s) n) * κ = St lf li (fun s => (∑ d, Q d * K s d) * κ * u s) n := by
  unfold St
  simp only [Finset.mul_sum, Finset.sum_mul]
  rw [Finset.sum_comm]
  refine Finset.sum_congr rfl fun s _ => Finset.sum_congr rfl fun d _ => ?_
  ring

section Step
variable (t0 : ℕ) (bc br ri ci : Fin N → EReal) (mp : EReal) (q k v : Fin N → Fin 128 → EReal)
    (C : Fin 128 → Fin 128 → EReal) (n : Fin 128 → EReal) (Q K V : ℕ → Fin 128 → ℝ) (κ : ℝ)
    (hbc : ∀ t, bc t = ((F lf (t0 + t.val + 1) - F lf t0 : ℝ) : EReal))
    (hbr : ∀ t, br t = ((F lf (t0 + t.val + 1) - F lf t0 : ℝ) : EReal))
    (hri : ∀ s, ri s = ((li (t0 + s.val) : ℝ) : EReal))
    (hci : ∀ s, ci s = ((li (t0 + s.val) : ℝ) : EReal))
    (hmp : mp = ((F lf t0 + mu lf li t0 : ℝ) : EReal))
    (hq : ∀ s d, q s d = ((Q (t0 + s.val) d : ℝ) : EReal))
    (hk : ∀ s d, k s d = ((K (t0 + s.val) d : ℝ) : EReal))
    (hv : ∀ s d, v s d = ((V (t0 + s.val) d : ℝ) : EReal))
    (hC : ∀ d e, C d e = ((St lf li (fun s => K s d * V s e) t0 : ℝ) : EReal))
    (hn : ∀ d, n d = ((St lf li (fun s => K s d) t0 : ℝ) : EReal))
    (hκ : kap = (κ : EReal))
include hbc hbr hri hmp

/-- The normaliser after a chunk. -/
theorem cn_eq (hci : ∀ s, ci s = ((li (t0 + s.val) : ℝ) : EReal)) (hk : ∀ s d, k s d = ((K (t0 + s.val) d : ℝ) : EReal))
    (hn : ∀ d, n d = ((St lf li (fun s => K s d) t0 : ℝ) : EReal)) (l : Fin N) (hl : l.val + 1 = N) (d : Fin 128) :
    cn bc br ri ci mp k n l d = ((St lf li (fun s => K s d) (t0 + N) : ℝ) : EReal) := by
  unfold cn
  rw [cDec_eq t0 bc br ri mp hbc hbr hri hmp, hn]
  simp only [cEnd_eq t0 bc br ri ci mp hbc hbr hri hci hmp, hk, ← EReal.coe_mul]
  rw [coe_sum, ← EReal.coe_add, St_add, ← Fin.sum_univ_eq_sum_range (fun s => Real.exp (av lf li (t0 + s) - mu lf li (t0 + N)) * K (t0 + s) d) N]
  simp only [Nat.add_assoc, hl]
  congr 2
  exact Finset.sum_congr rfl fun s _ => mul_comm _ _

/-- The memory after a chunk. -/
theorem cC_eq (hci : ∀ s, ci s = ((li (t0 + s.val) : ℝ) : EReal)) (hk : ∀ s d, k s d = ((K (t0 + s.val) d : ℝ) : EReal))
    (hv : ∀ s d, v s d = ((V (t0 + s.val) d : ℝ) : EReal))
    (hC : ∀ d e, C d e = ((St lf li (fun s => K s d * V s e) t0 : ℝ) : EReal)) (l : Fin N) (hl : l.val + 1 = N) (d e : Fin 128) :
    cC bc br ri ci mp k v C l d e = ((St lf li (fun s => K s d * V s e) (t0 + N) : ℝ) : EReal) := by
  unfold cC
  rw [cDec_eq t0 bc br ri mp hbc hbr hri hmp, hC]
  simp only [cEnd_eq t0 bc br ri ci mp hbc hbr hri hci hmp, hk, hv, ← EReal.coe_mul]
  rw [coe_sum, ← EReal.coe_add, St_add,
    ← Fin.sum_univ_eq_sum_range (fun s => Real.exp (av lf li (t0 + s) - mu lf li (t0 + N)) * (K (t0 + s) d * V (t0 + s) e)) N]
  simp only [Nat.add_assoc, hl]
  congr 2
  exact Finset.sum_congr rfl fun s _ => by ring

/-- The weighted product of a query and a key. -/
theorem cQK_eq (hq : ∀ s d, q s d = ((Q (t0 + s.val) d : ℝ) : EReal)) (hk : ∀ s d, k s d = ((K (t0 + s.val) d : ℝ) : EReal))
    (hκ : kap = (κ : EReal)) (t s : Fin N) : cQK bc br ri mp q k t s =
    ((if s ≤ t then Real.exp (av lf li (t0 + s.val) - mu lf li (t0 + t.val + 1)) * ((∑ d, Q (t0 + t.val) d * K (t0 + s.val) d) * κ) else 0 : ℝ) : EReal) := by
  unfold cQK
  rw [cW_eq t0 bc br ri mp hbc hbr hri hmp, hκ]
  simp only [hq, hk, ← EReal.coe_mul]
  rw [coe_sum, ← EReal.coe_mul, ← EReal.coe_mul]
  congr 1
  by_cases h : s ≤ t
  · rw [if_pos h, if_pos h, mul_comm]
  · rw [if_neg h, if_neg h, mul_zero]

/-- The read-out's denominator. -/
theorem cDen_eq (hq : ∀ s d, q s d = ((Q (t0 + s.val) d : ℝ) : EReal)) (hk : ∀ s d, k s d = ((K (t0 + s.val) d : ℝ) : EReal))
    (hn : ∀ d, n d = ((St lf li (fun s => K s d) t0 : ℝ) : EReal)) (hκ : kap = (κ : EReal)) (t : Fin N) :
    cDen bc br ri mp q k n t = ((St lf li (fun s => (∑ d, Q (t0 + t.val) d * K s d) * κ) (t0 + t.val + 1) : ℝ) : EReal) := by
  unfold cDen
  rw [cDec_eq t0 bc br ri mp hbc hbr hri hmp, hκ]
  simp only [cQK_eq t0 bc br ri mp q k Q K κ hbc hbr hri hmp hq hk hκ, hn, hq, ← EReal.coe_mul]
  rw [coe_sum, coe_sum, ← EReal.coe_mul, ← EReal.coe_mul, ← EReal.coe_add]
  have e := St_lin (lf := lf) (li := li) (Q (t0 + t.val)) κ K (fun _ => 1) t0
  simp only [mul_one] at e
  rw [e, sum_le (fun s => Real.exp (av lf li (t0 + s) - mu lf li (t0 + t.val + 1)) * ((∑ d, Q (t0 + t.val) d * K (t0 + s) d) * κ)) t,
    Nat.add_assoc, St_add, add_comm]

/-- The read-out's numerator. -/
theorem cNum_eq (hq : ∀ s d, q s d = ((Q (t0 + s.val) d : ℝ) : EReal)) (hk : ∀ s d, k s d = ((K (t0 + s.val) d : ℝ) : EReal))
    (hv : ∀ s d, v s d = ((V (t0 + s.val) d : ℝ) : EReal))
    (hC : ∀ d e, C d e = ((St lf li (fun s => K s d * V s e) t0 : ℝ) : EReal)) (hκ : kap = (κ : EReal)) (t : Fin N) (e : Fin 128) :
    cNum bc br ri mp q k v C t e =
      ((St lf li (fun s => (∑ d, Q (t0 + t.val) d * K s d) * κ * V s e) (t0 + t.val + 1) : ℝ) : EReal) := by
  unfold cNum
  rw [cDec_eq t0 bc br ri mp hbc hbr hri hmp, hκ]
  simp only [cQK_eq t0 bc br ri mp q k Q K κ hbc hbr hri hmp hq hk hκ, hC, hq, hv, ← EReal.coe_mul]
  rw [coe_sum, coe_sum, ← EReal.coe_mul, ← EReal.coe_mul, ← EReal.coe_add,
    St_lin (lf := lf) (li := li) (Q (t0 + t.val)) κ K (fun s => V s e) t0]
  have e1 : (∑ s : Fin N, (if s ≤ t then Real.exp (av lf li (t0 + s.val) - mu lf li (t0 + t.val + 1)) * ((∑ d, Q (t0 + t.val) d * K (t0 + s.val) d) * κ) else 0) * V (t0 + s.val) e)
      = ∑ s : Fin N, if s ≤ t then Real.exp (av lf li (t0 + s.val) - mu lf li (t0 + t.val + 1)) * ((∑ d, Q (t0 + t.val) d * K (t0 + s.val) d) * κ * V (t0 + s.val) e) else 0 := by
    refine Finset.sum_congr rfl fun s _ => ?_
    by_cases h : s ≤ t
    · rw [if_pos h, if_pos h]; ring
    · rw [if_neg h, if_neg h, zero_mul]
  rw [e1, sum_le (fun s => Real.exp (av lf li (t0 + s) - mu lf li (t0 + t.val + 1)) * ((∑ d, Q (t0 + t.val) d * K (t0 + s) d) * κ * V (t0 + s) e)) t,
    Nat.add_assoc, St_add, add_comm]

end Step

end RecReal
end
-- ==== Proof.RecSpec.lean ====
/-
  What the recurrence's four results are: the closed form over the reals, at the numbers of the argument arrays, which the
  precondition makes finite.
-/
module

public import proofs.«01_k».proof.Proof.RecReal
public import proofs.«01_k».proof.Pre_gates_alike_and_finite
public import proofs.«01_k».proof.Proof.RecHead

@[expose] public section

set_option maxRecDepth 16384

noncomputable section

namespace RecSpec

open Idealize.ShloMosaic StepMath RecMath RecReal
open Cert.Pre_gates_alike_and_finite (S16384x512 S16384x128 S16x16384 S1x512)

/-- The row of a sequence's token. -/
def tok (b : Fin 4) (t : ℕ) : Fin 16384 := ⟨(4096 * b.val + t) % 16384, Nat.mod_lt _ (by norm_num)⟩

/-- A head's lane. -/
def lane (h : Fin 4) (d : Fin 128) : Fin 512 := ⟨128 * h.val + d.val, by have := h.isLt; have := d.isLt; omega⟩

/-- The column of a head's input gate. -/
def ic (h : Fin 4) : Fin 128 := ⟨h.val, by have := h.isLt; omega⟩

/-- The column of a head's forget gate. -/
def fc (h : Fin 4) : Fin 128 := ⟨4 + h.val, by have := h.isLt; omega⟩

variable (x0 x1 x2 x3 : FVec Ideal S16384x512 .bf16) (x4 : FVec Ideal S16384x128 .f32) (x5 : FVec Ideal S16x16384 .f32)
  (x6 : FVec Ideal S1x512 .f32)

/-- The logarithms of a head's forget gates, token by token. -/
def lf (b h : Fin 4) (t : ℕ) : ℝ := (lsig (x4 (ix2 (tok b t) (fc h)))).toReal

/-- A head's input gates. -/
def li (b h : Fin 4) (t : ℕ) : ℝ := (x4 (ix2 (tok b t) (ic h))).toReal

/-- A head's lanes of the queries, the keys or the values. -/
def seq (x : FVec Ideal S16384x512 .bf16) (b h : Fin 4) (t : ℕ) (d : Fin 128) : ℝ := (x (ix2 (tok b t) (lane h d))).toReal

/-- The scale of the queries, as a real number. -/
def κ : ℝ := kap.toReal

/-- The stabiliser after `n` tokens. -/
def Gm (b h : Fin 4) (n : ℕ) : EReal := ((F (lf x4 b h) n + mu (lf x4 b h) (li x4 b h) n : ℝ) : EReal)

/-- The memory after `n` tokens. -/
def GC (b h : Fin 4) (n : ℕ) (d e : Fin 128) : EReal :=
  ((St (lf x4 b h) (li x4 b h) (fun s => seq x1 b h s d * seq x2 b h s e) n : ℝ) : EReal)

/-- The normaliser after `n` tokens. -/
def Gn (b h : Fin 4) (n : ℕ) (d : Fin 128) : EReal :=
  ((St (lf x4 b h) (li x4 b h) (fun s => seq x1 b h s d) n : ℝ) : EReal)

/-- The read-out's numerator at a token. -/
def Gnum (b h : Fin 4) (t : ℕ) (e : Fin 128) : EReal :=
  ((St (lf x4 b h) (li x4 b h) (fun s => (∑ d, seq x0 b h t d * seq x1 b h s d) * κ * seq x2 b h s e) (t + 1) : ℝ) : EReal)

/-- The read-out's denominator at a token. -/
def Gden (b h : Fin 4) (t : ℕ) : EReal :=
  ((St (lf x4 b h) (li x4 b h) (fun s => (∑ d, seq x0 b h t d * seq x1 b h s d) * κ) (t + 1) : ℝ) : EReal)

/-- The output at a token and a lane. -/
def Gh (b h : Fin 4) (t : ℕ) (d : Fin 128) : EReal :=
  fin (fun e => quo (Gnum x0 x1 x2 x4 b h t e) (Gden x0 x1 x4 b h t) (Gm x4 b h (t + 1)))
    (x6 (ix2 0 (lane h d))) (x3 (ix2 (tok b t) (lane h d))) d

/-- What the precondition says: every query, key, value and gate is a real number, and the two copies of the gates are alike. -/
structure Fine : Prop where
  q : ∀ r l, x0 (ix2 r l) = (((x0 (ix2 r l)).toReal : ℝ) : EReal)
  k : ∀ r l, x1 (ix2 r l) = (((x1 (ix2 r l)).toReal : ℝ) : EReal)
  v : ∀ r l, x2 (ix2 r l) = (((x2 (ix2 r l)).toReal : ℝ) : EReal)
  gi : ∀ r h, x4 (ix2 r (ic h)) = (((x4 (ix2 r (ic h))).toReal : ℝ) : EReal)
  gf : ∀ r h, x4 (ix2 r (fc h)) = (((x4 (ix2 r (fc h))).toReal : ℝ) : EReal)
  ti : ∀ r (h : Fin 4), x5 (ix2 ⟨h.val, by have := h.isLt; omega⟩ r) = x4 (ix2 r (ic h))
  tf : ∀ r (h : Fin 4), x5 (ix2 ⟨4 + h.val, by have := h.isLt; omega⟩ r) = x4 (ix2 r (fc h))

/-- The scale is a real number. -/
theorem kap_eq : kap = (κ : EReal) := by
  unfold κ
  have h : kap = ((11863283 * ((2 : ℝ) ^ 27)⁻¹ : ℝ) : EReal) := by simp [kap, Ideal.ofBits, Ideal.ieee]
  rw [h, EReal.toReal_coe]

/-- The logarithm of the sigmoid of a real number is a real number. -/
theorem lsig_real (r : ℝ) : lsig (r : EReal) = (((lsig (r : EReal)).toReal : ℝ) : EReal) := by
  have e : lsig (r : EReal) = ((min r 0 - Real.log (1 + Real.exp (-max r (-r))) : ℝ) : EReal) := by
    unfold lsig Ideal.log1p
    rw [show (0 : EReal) = ((0 : ℝ) : EReal) from rfl, ← EReal.coe_neg, ← EReal.coe_strictMono.monotone.map_max,
      ← EReal.coe_strictMono.monotone.map_min, ← EReal.coe_neg, exp_coe,
      show (1 : EReal) = ((1 : ℝ) : EReal) from rfl, ← EReal.coe_add]
    have hp : ¬ (1 + Real.exp (-max r (-r)) ≤ 0) := not_le.mpr (by positivity)
    have hl : Ideal.log ((1 + Real.exp (-max r (-r)) : ℝ) : EReal) = ((Real.log (1 + Real.exp (-max r (-r))) : ℝ) : EReal) := by
      show (if 1 + Real.exp (-max r (-r)) ≤ 0 then (⊥ : EReal) else _) = _
      rw [if_neg hp]
    rw [hl, ← EReal.coe_sub]
  rw [e, EReal.toReal_coe]

/-- A number whose size is below infinity is a real number. -/
theorem fine_of_abs (x : EReal) (h : BitVec.ofBool (decide (FloatOps.absf (F := Ideal) (φ := .f32) x < Ideal.ofBits .f32 2139095040#32)) = 1#1) :
    x = ((x.toReal : ℝ) : EReal) := by
  have e : Ideal.ofBits .f32 2139095040#32 = (⊤ : EReal) := by simp [Ideal.ofBits, Ideal.ieee]
  rw [e, Ideal.absf_def] at h
  have h' : max x (-x) < (⊤ : EReal) := by
    by_contra hc
    rw [decide_eq_false hc] at h
    exact absurd h (by decide)
  refine (EReal.coe_toReal ?_ ?_).symm
  · rintro rfl; simp at h'
  · rintro rfl; simp at h'

/-- Two bits whose conjunction is set are set. -/
theorem both : ∀ a b : BitVec 1, IntOp.andi a b = 1#1 → a = 1#1 ∧ b = 1#1 := by decide

variable [Cert.Pre_gates_alike_and_finite.Facts]

/-- The precondition's bit at a token and a lane. -/
theorem pre_q (r : Fin 16384) (l : Fin 512) :
    Cert.Pre_gates_alike_and_finite.fn (F := Ideal) x0 x1 x2 x3 x4 x5 x6 (ix2 r ⟨l.val, by have := l.isLt; omega⟩) =
      IntOp.andi (IntOp.andi (BitVec.ofBool (decide (FloatOps.absf (F := Ideal) (φ := .f32) (x0 (ix2 r l)) < Ideal.ofBits .f32 2139095040#32)))
        (BitVec.ofBool (decide (FloatOps.absf (F := Ideal) (φ := .f32) (x1 (ix2 r l)) < Ideal.ofBits .f32 2139095040#32))))
        (BitVec.ofBool (decide (FloatOps.absf (F := Ideal) (φ := .f32) (x2 (ix2 r l)) < Ideal.ofBits .f32 2139095040#32))) := by
  unfold Cert.Pre_gates_alike_and_finite.fn Cert.Pre_gates_alike_and_finite.fn_part1
  pointwise

/-- The precondition's bit at a token and a gate. -/
theorem pre_g (r : Fin 16384) (k : Fin 8) :
    Cert.Pre_gates_alike_and_finite.fn (F := Ideal) x0 x1 x2 x3 x4 x5 x6 (ix2 r ⟨512 + k.val, by have := k.isLt; omega⟩) =
      IntOp.andi (BitVec.ofBool (decide (FloatOps.absf (F := Ideal) (φ := .f32) (x4 (ix2 r ⟨k.val, by have := k.isLt; omega⟩)) < Ideal.ofBits .f32 2139095040#32)))
        (BitVec.ofBool (decide (x5 (ix2 ⟨k.val, by have := k.isLt; omega⟩ r) = x4 (ix2 r ⟨k.val, by have := k.isLt; omega⟩)))) := by
  unfold Cert.Pre_gates_alike_and_finite.fn Cert.Pre_gates_alike_and_finite.fn_part1
  pointwise

/-- The precondition, in words. -/
theorem fine (h : Cert.Pre_gates_alike_and_finite.fn (F := Ideal) x0 x1 x2 x3 x4 x5 x6 = fun _ => 1#1) : Fine x0 x1 x2 x4 x5 := by
  have hq := fun r l => both _ _ ((pre_q x0 x1 x2 x3 x4 x5 x6 r l).symm.trans (congrFun h _))
  have hg := fun r k => both _ _ ((pre_g x0 x1 x2 x3 x4 x5 x6 r k).symm.trans (congrFun h _))
  have ht : ∀ r (k : Fin 8), x5 (ix2 ⟨k.val, by have := k.isLt; omega⟩ r) = x4 (ix2 r ⟨k.val, by have := k.isLt; omega⟩) := fun r k => by
    by_contra hc
    have e := (hg r k).2
    rw [decide_eq_false hc] at e
    exact absurd e (by decide)
  exact ⟨fun r l => fine_of_abs _ (both _ _ (hq r l).1).1, fun r l => fine_of_abs _ (both _ _ (hq r l).1).2, fun r l => fine_of_abs _ (hq r l).2,
    fun r h => fine_of_abs _ (hg r ⟨h.val, by have := h.isLt; omega⟩).1, fun r h => fine_of_abs _ (hg r ⟨4 + h.val, by have := h.isLt; omega⟩).1,
    fun r h => ht r ⟨h.val, by have := h.isLt; omega⟩, fun r h => ht r ⟨4 + h.val, by have := h.isLt; omega⟩⟩

end RecSpec
end
-- ==== Proof.RecArrays.lean ====
/-
  The recurrence's four result arrays after the run, under the precondition: by induction over a sequence's chunks the
  state a grid point leaves is the closed form after the tokens so far.
-/
module

public import proofs.«01_k».proof.Proof.RecValue
public import proofs.«01_k».proof.Proof.RecSpec

@[expose] public section

set_option maxRecDepth 16384
set_option maxHeartbeats 4000000

noncomputable section

namespace Cert.RecIdeal.Hand

open Cert.RecIdeal Cert.RecIdeal.Gen Idealize.ShloMosaic Idealize.ShloMosaic.TcCoe Idealize.SL.Sem StepMath RecMath RecReal
open RecSpec (tok lane ic fc lf li seq κ Gm GC Gn Gnum Gden Gh Fine kap_eq lsig_real)
open Idealize.ShloMosaic.Pipeline (Dat)

variable (m : (ℓ : Loc nD τ sig) → Buf (Elt Ideal) ℓ) (c : Dev nD)

/-- Where every window's block stands at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, t.val] ∧ win0_6.index t = ![0, 0] ∧ win0_7.index t = ![t.val, 0]
    ∧ win0_8.index t = ![t.val / 16, 0, 0, 0] ∧ win0_9.index t = ![t.val / 16, 0, 0] ∧ win0_10.index t = ![t.val / 16, 0, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, t.val] ∧ win0_6.index t = ![0, 0] ∧ win0_7.index t = ![t.val, 0]
    ∧ win0_8.index t = ![t.val / 16, 0, 0, 0] ∧ win0_9.index t = ![t.val / 16, 0, 0] ∧ win0_10.index t = ![t.val / 16, 0, 0])

/-- The grid has 64 points. -/
theorem lt64 (t : Fin cfg0.N) : t.val < 64 := lt_of_lt_of_eq t.isLt (show cfg0.N = 64 from N_0)

/-- The sequence a grid point works on. -/
def sq (t : Fin cfg0.N) : Fin 4 := ⟨t.val / 16, by have := lt64 t; omega⟩

/-- The tokens of its sequence before a grid point's chunk. -/
def off (t : Fin cfg0.N) : ℕ := 256 * (t.val % 16)

/-- A chunk's row in the array. -/
theorem tok_eq (t : Fin cfg0.N) (s : Fin 256) : tok (sq t) (off t + s.val) = ⟨256 * t.val + s.val, by have := lt64 t; omega⟩ := by
  have := lt64 t
  refine Fin.ext ?_
  show (4096 * (t.val / 16) + (256 * (t.val % 16) + s.val)) % 16384 = 256 * t.val + s.val
  omega

/-- The block of the queries. -/
theorem q_blk (t : Fin cfg0.N) (h : Fin 4) (s : Fin 256) (d : Fin 128) :
    ln (iblk m c 0 t) h s d = m ((c.tc : Thread nD τ).loc main_arg0) (ix2 (tok (sq t) (off t + s.val)) (lane h d)) := by
  rw [tok_eq]
  unfold ln lane
  blk_point [iblk, V, idx t]

/-- The block of the keys. -/
theorem k_blk (t : Fin cfg0.N) (h : Fin 4) (s : Fin 256) (d : Fin 128) :
    ln (iblk m c 1 t) h s d = m ((c.tc : Thread nD τ).loc main_arg1) (ix2 (tok (sq t) (off t + s.val)) (lane h d)) := by
  rw [tok_eq]
  unfold ln lane
  blk_point [iblk, V, idx t]

/-- The block of the values. -/
theorem v_blk (t : Fin cfg0.N) (h : Fin 4) (s : Fin 256) (d : Fin 128) :
    ln (iblk m c 2 t) h s d = m ((c.tc : Thread nD τ).loc main_arg2) (ix2 (tok (sq t) (off t + s.val)) (lane h d)) := by
  rw [tok_eq]
  unfold ln lane
  blk_point [iblk, V, idx t]

/-- The block of the output gates. -/
theorem o_blk (t : Fin cfg0.N) (h : Fin 4) (s : Fin 256) (d : Fin 128) :
    ln (iblk m c 3 t) h s d = m ((c.tc : Thread nD τ).loc main_arg3) (ix2 (tok (sq t) (off t + s.val)) (lane h d)) := by
  rw [tok_eq]
  unfold ln lane
  blk_point [iblk, V, idx t]

/-- The block of the gates. -/
theorem g_blk (t : Fin cfg0.N) (s : Fin 256) (j : Fin 128) :
    iblk m c 4 t (ix2 s j) = m ((c.tc : Thread nD τ).loc main_arg4) (ix2 (tok (sq t) (off t + s.val)) j) := by
  rw [tok_eq]
  blk_point [iblk, V, idx t]

/-- The block of the transposed gates. -/
theorem gt_blk (t : Fin cfg0.N) (s : Fin 256) (j : Fin 16) :
    iblk m c 5 t (ix2 j s) = m ((c.tc : Thread nD τ).loc main_arg5) (ix2 j (tok (sq t) (off t + s.val))) := by
  rw [tok_eq]
  blk_point [iblk, V, idx t]

/-- The block of the weights. -/
theorem w_blk (t : Fin cfg0.N) (h : Fin 4) (d : Fin 128) :
    lw (iblk m c 6 t) h d = m ((c.tc : Thread nD τ).loc main_arg6) (ix2 0 (lane h d)) := by
  unfold lw lane
  have e : ∀ l : Fin 512, iblk m c 6 t (ix2 0 l) = V m c main_v1 (ix2 0 l) := fun l => by
    blk_point [iblk, idx t]
  rw [e]
  simp only [V, hostOps0]
  entry_read
  pointwise

/-- The arrays are as the precondition says. -/
def Ok : Prop := Fine (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

variable (hF : Ok m c)
include hF

/-- A forget gate's logarithm is the real sequence's. -/
theorem lf_real (b h : Fin 4) (n : ℕ) : lsig ((m ((c.tc : Thread nD τ).loc main_arg4)) (ix2 (tok b n) (fc h))) = ((lf (m ((c.tc : Thread nD τ).loc main_arg4)) b h n : ℝ) : EReal) := by
  have e := lsig_real ((m ((c.tc : Thread nD τ).loc main_arg4)) (ix2 (tok b n) (fc h))).toReal
  rwa [← hF.gf (tok b n) h] at e

/-- The cumulative gates from the transposed block. -/
theorem bG_real (t : Fin cfg0.N) (h : Fin 4) (s : Fin 256) : bG (iblk m c 5 t) h s =
    ((F (lf (m ((c.tc : Thread nD τ).loc main_arg4)) (sq t) h) (off t + s.val + 1) - F (lf (m ((c.tc : Thread nD τ).loc main_arg4)) (sq t) h) (off t) : ℝ) : EReal) := by
  refine cB_eq (off t) _ (fun u => ?_) s
  rw [gt_blk, hF.tf]
  exact lf_real m c hF _ _ _

/-- The cumulative gates from the gates' block. -/
theorem bH_real (t : Fin cfg0.N) (h : Fin 4) (s : Fin 256) : bH (iblk m c 4 t) h s =
    ((F (lf (m ((c.tc : Thread nD τ).loc main_arg4)) (sq t) h) (off t + s.val + 1) - F (lf (m ((c.tc : Thread nD τ).loc main_arg4)) (sq t) h) (off t) : ℝ) : EReal) := by
  refine cB_eq (off t) _ (fun u => ?_) s
  rw [g_blk]
  exact lf_real m c hF _ _ _

/-- The input gates from the transposed block. -/
theorem iG_real (t : Fin cfg0.N) (h : Fin 4) (s : Fin 256) : iG (iblk m c 5 t) h s = ((li (m ((c.tc : Thread nD τ).loc main_arg4)) (sq t) h (off t + s.val) : ℝ) : EReal) := by
  unfold iG
  rw [gt_blk, hF.ti]
  exact hF.gi _ _

/-- The input gates from the gates' block. -/
theorem iH_real (t : Fin cfg0.N) (h : Fin 4) (s : Fin 256) : iH (iblk m c 4 t) h s = ((li (m ((c.tc : Thread nD τ).loc main_arg4)) (sq t) h (off t + s.val) : ℝ) : EReal) := by
  unfold iH
  rw [g_blk]
  exact hF.gi _ _

/-- The queries' block. -/
theorem q_real (t : Fin cfg0.N) (h : Fin 4) (s : Fin 256) (d : Fin 128) : ln (iblk m c 0 t) h s d = ((seq (m ((c.tc : Thread nD τ).loc main_arg0)) (sq t) h (off t + s.val) d : ℝ) : EReal) := by
  rw [q_blk]
  exact hF.q _ _

/-- The keys' block. -/
theorem k_real (t : Fin cfg0.N) (h : Fin 4) (s : Fin 256) (d : Fin 128) : ln (iblk m c 1 t) h s d = ((seq (m ((c.tc : Thread nD τ).loc main_arg1)) (sq t) h (off t + s.val) d : ℝ) : EReal) := by
  rw [k_blk]
  exact hF.k _ _

/-- The values' block. -/
theorem v_real (t : Fin cfg0.N) (h : Fin 4) (s : Fin 256) (d : Fin 128) : ln (iblk m c 2 t) h s d = ((seq (m ((c.tc : Thread nD τ).loc main_arg2)) (sq t) h (off t + s.val) d : ℝ) : EReal) := by
  rw [v_blk]
  exact hF.v _ _

omit hF in
/-- Before the first token there is nothing. -/
theorem start (t : Fin cfg0.N) (h0 : t.val % 16 = 0) (h : Fin 4) :
    (0 : EReal) = ((F (lf (m ((c.tc : Thread nD τ).loc main_arg4)) (sq t) h) (off t) + mu (lf (m ((c.tc : Thread nD τ).loc main_arg4)) (sq t) h) (li (m ((c.tc : Thread nD τ).loc main_arg4)) (sq t) h) (off t) : ℝ) : EReal)
    ∧ ∀ u, (0 : EReal) = ((St (lf (m ((c.tc : Thread nD τ).loc main_arg4)) (sq t) h) (li (m ((c.tc : Thread nD τ).loc main_arg4)) (sq t) h) u (off t) : ℝ) : EReal) := by
  have e : off t = 0 := by unfold off; omega
  rw [e]
  exact ⟨by simp [F, mu], fun u => by simp [St]⟩

/-- What a grid point leaves is the closed form after its chunk's last token. -/
theorem state (n : ℕ) : ∀ (hn : n < cfg0.N) (h : Fin 4),
    (∀ d, (outsAt0 m c n hn).2.2.2 (ix3 0 h d) = Gm (m ((c.tc : Thread nD τ).loc main_arg4)) (sq ⟨n, hn⟩) h (off ⟨n, hn⟩ + 256))
    ∧ (∀ d, (outsAt0 m c n hn).2.2.1 (ix3 0 h d) = Gn (m ((c.tc : Thread nD τ).loc main_arg1)) (m ((c.tc : Thread nD τ).loc main_arg4)) (sq ⟨n, hn⟩) h (off ⟨n, hn⟩ + 256) d)
    ∧ (∀ d e, (outsAt0 m c n hn).2.1 (ix4 0 h d e) = GC (m ((c.tc : Thread nD τ).loc main_arg1)) (m ((c.tc : Thread nD τ).loc main_arg2)) (m ((c.tc : Thread nD τ).loc main_arg4)) (sq ⟨n, hn⟩) h (off ⟨n, hn⟩ + 256) d e) := by
  induction n using Nat.strong_induction_on with
  | _ n ih =>
    intro hn h
    by_cases h0 : n % 16 = 0
    · have s0 := start m c ⟨n, hn⟩ h0 h
      refine ⟨fun d => ?_, fun d => ?_, fun d e => ?_⟩
      · refine (mA m c ⟨n, hn⟩ h0 h d).trans ?_
        exact cM_eq (off ⟨n, hn⟩) _ _ _ _ (bG_real m c hF _ h) (bH_real m c hF _ h) (iG_real m c hF _ h) s0.1 255
      · refine (nA m c ⟨n, hn⟩ h0 h d).trans ?_
        exact cn_eq (off ⟨n, hn⟩) _ _ _ _ _ _ _ _ (bG_real m c hF _ h) (bH_real m c hF _ h) (iG_real m c hF _ h) s0.1
          (iH_real m c hF _ h) (k_real m c hF _ h) (fun d => s0.2 _) 255 rfl d
      · refine (CA m c ⟨n, hn⟩ h0 h d e).trans ?_
        exact cC_eq (off ⟨n, hn⟩) _ _ _ _ _ _ _ _ _ _ (bG_real m c hF _ h) (bH_real m c hF _ h) (iG_real m c hF _ h) s0.1
          (iH_real m c hF _ h) (k_real m c hF _ h) (v_real m c hF _ h) (fun d e => s0.2 _) 255 rfl d e
    · obtain ⟨pm, pn, pC⟩ := ih (n - 1) (by omega) (Nat.lt_of_le_of_lt (Nat.sub_le _ _) hn) h
      have eo : off ⟨n - 1, Nat.lt_of_le_of_lt (Nat.sub_le _ _) hn⟩ + 256 = off ⟨n, hn⟩ := by
        show 256 * ((n - 1) % 16) + 256 = 256 * (n % 16)
        omega
      have es : sq ⟨n - 1, Nat.lt_of_le_of_lt (Nat.sub_le _ _) hn⟩ = sq ⟨n, hn⟩ := Fin.ext (by
        show (n - 1) / 16 = n / 16
        omega)
      rw [eo, es] at pm pn pC
      refine ⟨fun d => ?_, fun d => ?_, fun d e => ?_⟩
      · refine (mB m c ⟨n, hn⟩ h0 h d).trans ?_
        exact cM_eq (off ⟨n, hn⟩) _ _ _ _ (bG_real m c hF _ h) (bH_real m c hF _ h) (iG_real m c hF _ h) (pm 0) 255
      · refine (nB m c ⟨n, hn⟩ h0 h d).trans ?_
        exact cn_eq (off ⟨n, hn⟩) _ _ _ _ _ _ _ _ (bG_real m c hF _ h) (bH_real m c hF _ h) (iG_real m c hF _ h) (pm 0)
          (iH_real m c hF _ h) (k_real m c hF _ h) pn 255 rfl d
      · refine (CB m c ⟨n, hn⟩ h0 h d e).trans ?_
        exact cC_eq (off ⟨n, hn⟩) _ _ _ _ _ _ _ _ _ _ (bG_real m c hF _ h) (bH_real m c hF _ h) (iG_real m c hF _ h) (pm 0)
          (iH_real m c hF _ h) (k_real m c hF _ h) (v_real m c hF _ h) pC 255 rfl d e

/-- The output a grid point leaves. -/
theorem out (t : Fin cfg0.N) (s : Fin 256) (h : Fin 4) (d : Fin 128) :
    (outsAt0 m c t.val t.isLt).1 (ix2 s (lane h d)) = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (sq t) h (off t + s.val) d := by
  unfold Gh
  rw [← w_blk m c t h d, ← o_blk m c t h s d]
  by_cases h0 : t.val % 16 = 0
  · have s0 := start m c t h0 h
    refine (hA m c t h0 s h d).trans ?_
    rw [cM_eq (off t) _ _ _ _ (bG_real m c hF t h) (bH_real m c hF t h) (iG_real m c hF t h) s0.1 s,
      cDen_eq (off t) _ _ _ _ _ _ _ _ _ _ (bG_real m c hF t h) (bH_real m c hF t h) (iG_real m c hF t h) s0.1 (q_real m c hF t h) (k_real m c hF t h)
        (fun d => s0.2 _) kap_eq s]
    refine congrArg (fun f => fin f _ _ d) (funext fun e => ?_)
    exact congrArg (fun x => quo x _ _) (cNum_eq (off t) _ _ _ _ _ _ _ _ _ _ _ _ (bG_real m c hF t h) (bH_real m c hF t h) (iG_real m c hF t h) s0.1 (q_real m c hF t h)
      (k_real m c hF t h) (v_real m c hF t h) (fun d e => s0.2 _) kap_eq s e)
  · obtain ⟨pm, pn, pC⟩ := state m c hF (t.val - 1) (Nat.lt_of_le_of_lt (Nat.sub_le _ _) t.isLt) h
    have eo : off ⟨t.val - 1, Nat.lt_of_le_of_lt (Nat.sub_le _ _) t.isLt⟩ + 256 = off t := by
      show 256 * ((t.val - 1) % 16) + 256 = 256 * (t.val % 16)
      omega
    have es : sq ⟨t.val - 1, Nat.lt_of_le_of_lt (Nat.sub_le _ _) t.isLt⟩ = sq t := Fin.ext (by
      show (t.val - 1) / 16 = t.val / 16
      omega)
    rw [eo, es] at pm pn pC
    refine (hB m c t h0 s h d).trans ?_
    rw [cM_eq (off t) _ _ _ _ (bG_real m c hF t h) (bH_real m c hF t h) (iG_real m c hF t h) (pm 0) s,
      cDen_eq (off t) _ _ _ _ _ _ _ _ _ _ (bG_real m c hF t h) (bH_real m c hF t h) (iG_real m c hF t h) (pm 0) (q_real m c hF t h) (k_real m c hF t h)
        pn kap_eq s]
    refine congrArg (fun f => fin f _ _ d) (funext fun e => ?_)
    exact congrArg (fun x => quo x _ _) (cNum_eq (off t) _ _ _ _ _ _ _ _ _ _ _ _ (bG_real m c hF t h) (bH_real m c hF t h) (iG_real m c hF t h) (pm 0) (q_real m c hF t h)
      (k_real m c hF t h) (v_real m c hF t h) pC kap_eq s e)

omit hF in
/-- The state is written back at a sequence's last chunk. -/
theorem last : ∀ t : Fin cfg0.N, ((cfg0.win 8).flush t = true ∨ (cfg0.win 9).flush t = true ∨ (cfg0.win 10).flush t = true) → t.val % 16 = 15 :=
  (by decide +kernel : ∀ t : Fin cfg0.N, ((cfg0.win 8).flush t = true ∨ (cfg0.win 9).flush t = true ∨ (cfg0.win 10).flush t = true) → t.val % 16 = 15)

/-- The stabilisers after the run. -/
theorem arr10 : (dats m 0 c).arrAt 10 cfg0.N = fun i => Gm (m ((c.tc : Thread nD τ).loc main_arg4)) (i 0) (i 1) 4096 := by
  refine (dats m 0 c).arrAt_eq_of_covers 10 _ (by decide +kernel) fun t hfl y => ?_
  have hl : off t + 256 = 4096 := by have := last t (.inr (.inr hfl)); unfold off; omega
  have hs := (state m c hF t.val t.isLt)
  rw [hl] at hs
  blk_simp
  rw [after0_10]
  idx_vars y
  obtain rfl : y0 = 0 := Subsingleton.elim _ _
  refine ((hs y1).1 y2).trans ?_
  show Gm (m ((c.tc : Thread nD τ).loc main_arg4)) (sq t) y1 4096 = _
  congr 1
  · exact Fin.ext (by blk_simp [idx t]; simp [sq])
  · exact Fin.ext (by blk_simp [idx t])

/-- The normalisers after the run. -/
theorem arr9 : (dats m 0 c).arrAt 9 cfg0.N = fun i => Gn (m ((c.tc : Thread nD τ).loc main_arg1)) (m ((c.tc : Thread nD τ).loc main_arg4)) (i 0) (i 1) 4096 (i 2) := by
  refine (dats m 0 c).arrAt_eq_of_covers 9 _ (by decide +kernel) fun t hfl y => ?_
  have hl : off t + 256 = 4096 := by have := last t (.inr (.inl hfl)); unfold off; omega
  have hs := (state m c hF t.val t.isLt)
  rw [hl] at hs
  blk_simp
  rw [after0_9]
  idx_vars y
  obtain rfl : y0 = 0 := Subsingleton.elim _ _
  refine ((hs y1).2.1 y2).trans ?_
  show Gn (m ((c.tc : Thread nD τ).loc main_arg1)) (m ((c.tc : Thread nD τ).loc main_arg4)) (sq t) y1 4096 y2 = _
  congr 1
  · exact Fin.ext (by blk_simp [idx t]; simp [sq])
  · exact Fin.ext (by blk_simp [idx t])
  · exact Fin.ext (by blk_simp [idx t])

/-- The memories after the run. -/
theorem arr8 : (dats m 0 c).arrAt 8 cfg0.N = fun i => GC (m ((c.tc : Thread nD τ).loc main_arg1)) (m ((c.tc : Thread nD τ).loc main_arg2)) (m ((c.tc : Thread nD τ).loc main_arg4)) (i 0) (i 1) 4096 (i 2) (i 3) := by
  refine (dats m 0 c).arrAt_eq_of_covers 8 _ (by decide +kernel) fun t hfl y => ?_
  have hl : off t + 256 = 4096 := by have := last t (.inl hfl); unfold off; omega
  have hs := (state m c hF t.val t.isLt)
  rw [hl] at hs
  blk_simp
  rw [after0_8]
  idx_vars y
  obtain rfl : y0 = 0 := Subsingleton.elim _ _
  refine ((hs y1).2.2 y2 y3).trans ?_
  show GC (m ((c.tc : Thread nD τ).loc main_arg1)) (m ((c.tc : Thread nD τ).loc main_arg2)) (m ((c.tc : Thread nD τ).loc main_arg4)) (sq t) y1 4096 y2 y3 = _
  congr 1
  · exact Fin.ext (by blk_simp [idx t]; simp [sq])
  · exact Fin.ext (by blk_simp [idx t])
  · exact Fin.ext (by blk_simp [idx t])
  · exact Fin.ext (by blk_simp [idx t])

/-- The outputs after the run. -/
theorem arr7 : (dats m 0 c).arrAt 7 cfg0.N = fun i => Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) ⟨(i 0).val / 4096, by have h : (i 0).val < 16384 := (i 0).isLt; omega⟩
      ⟨(i 1).val / 128, by have h : (i 1).val < 512 := (i 1).isLt; omega⟩ ((i 0).val % 4096) ⟨(i 1).val % 128, by omega⟩ := by
  refine (dats m 0 c).arrAt_eq_of_covers 7 _ (by decide +kernel) fun t hfl y => ?_
  blk_simp
  rw [after0_7]
  idx_vars y
  obtain ⟨h, d, rfl⟩ : ∃ (h : Fin 4) (d : Fin 128), y1 = lane h d :=
    ⟨⟨y1.val / 128, by have := y1.isLt; omega⟩, ⟨y1.val % 128, by omega⟩, Fin.ext (by simp [lane]; omega)⟩
  refine (out m c hF t y0 h d).trans ?_
  have := lt64 t
  have := y0.isLt
  congr 1
  · exact Fin.ext (by blk_simp [idx t]; simp [sq]; omega)
  · exact Fin.ext (by blk_simp [idx t]; have := h.isLt; have := d.isLt; simp [lane]; omega)
  · blk_simp [idx t]; simp [off]; omega
  · exact Fin.ext (by blk_simp [idx t]; have := h.isLt; have := d.isLt; simp [lane]; omega)

end Cert.RecIdeal.Hand
end
-- ==== Proof.RecRef.lean ====
/-
  The recurrence's reference, element by element: one sum over the sequence, which is the closed form with nothing before it.
-/
module

public import proofs.«01_k».proof.Proof.RecSpec
public import proofs.«01_k».proof.Proof.Gen.RecRefIdeal.Read

@[expose] public section

set_option maxRecDepth 16384

noncomputable section

namespace Cert.RecRefIdeal.Hand

open Cert.RecRefIdeal Cert.RecRefIdeal.Gen Cert.RecRefIdeal.Read Idealize.ShloMosaic Idealize.ShloMosaic.TcCoe Idealize.SL.Sem StepMath RecMath RecReal
open RecSpec (tok lane ic fc lf li seq κ Gm GC Gn Gnum Gden Gh Fine kap_eq lsig_real)

variable (x0 x1 x2 x3 : (⟨S16384x512, .bf16⟩ : BufTy).Contents (Elt Ideal)) (x4 : (⟨S16384x128, .f32⟩ : BufTy).Contents (Elt Ideal))
    (x6 : (⟨S1x512, .f32⟩ : BufTy).Contents (Elt Ideal))

/-- A head's forget gates. -/
def fg (b h : Fin 4) (s : Fin 4096) : EReal := x4 (ix2 (tok b s.val) (fc h))

/-- A head's input gates. -/
def ig (b h : Fin 4) (s : Fin 4096) : EReal := x4 (ix2 (tok b s.val) (ic h))

/-- The row of a sequence's token, without a remainder. -/
theorem tok_val (b : Fin 4) (s : Fin 4096) : tok b s.val = ⟨4096 * b.val + s.val, by omega⟩ :=
  Fin.ext (Nat.mod_eq_of_lt (by omega))

/-- The scaled query of the reference at a request, a token, a head and a lane. -/
theorem ref_q (b h : Fin 4) (s : Fin 4096) (d : Fin 128) :
    val_main_v3 (F := Ideal) x0 (ix4 b s h d) = x0 (ix2 (tok b s.val) (lane h d)) * kap := by
  rw [tok_val]
  pointwise [val_main_v3, val_main_v2, val_main_v1, val_main_v0, val_main_cst]
  unfold lane
  congr 1
  blk_point

/-- The key of the reference. -/
theorem ref_k (b h : Fin 4) (s : Fin 4096) (d : Fin 128) :
    val_main_v5 (F := Ideal) x1 (ix4 b s h d) = x1 (ix2 (tok b s.val) (lane h d)) := by
  rw [tok_val]
  pointwise [val_main_v5, val_main_v4]
  unfold lane
  blk_point

/-- The value of the reference. -/
theorem ref_v (b h : Fin 4) (s : Fin 4096) (d : Fin 128) :
    val_main_v7 (F := Ideal) x2 (ix4 b s h d) = x2 (ix2 (tok b s.val) (lane h d)) := by
  rw [tok_val]
  pointwise [val_main_v7, val_main_v6]
  unfold lane
  blk_point

/-- The input gate of the reference. -/
theorem ref_i (b h : Fin 4) (s : Fin 4096) : val_main_v10 (F := Ideal) x4 (ix3 b h s) = ig x4 b h s := by
  unfold ig
  rw [tok_val]
  unfold ic
  pointwise [val_main_v10, val_main_v9, val_main_v8]
  exact congrArg (fun k => x4 (ix2 k _)) (Fin.ext (by show b.val * 4096 + s.val = 4096 * b.val + s.val; omega))

/-- The forget gate of the reference. -/
theorem ref_f (b h : Fin 4) (s : Fin 4096) : val_main_v11 (F := Ideal) x4 (ix3 b h s) = fg x4 b h s := by
  unfold fg
  rw [tok_val]
  unfold fc
  pointwise [val_main_v11, val_main_v9, val_main_v8]
  exact congrArg (fun k => x4 (ix2 k _)) (Fin.ext (by show b.val * 4096 + s.val = 4096 * b.val + s.val; omega))

/-- The log forget gate of the reference. -/
theorem ref_lf (b h : Fin 4) (s : Fin 4096) : val_main_v12 (F := Ideal) x4 (ix3 b h s) = lsig (fg x4 b h s) := by
  rw [← ref_f]
  unfold val_main_v12
  pointwise [val_main_call0_v1, val_main_call0_call0_v4, val_main_call0_call0_v3, val_main_call0_v0,
    val_main_call0_call0_v2, val_main_call0_call0_cst, val_main_call0_call0_v6, val_main_call0_call0_v5, val_main_call0_call0_v11,
    val_main_call0_call0_v1, val_main_call0_call0_v0, val_main_call0_call0_v10, val_main_call0_call0_v9, val_main_call0_call0_v8, val_main_call0_call0_v7]
  rw [if_neg (fun h => h rfl), Ideal.absf_def]
  exact neg_softplus _

/-- The cumulative log forget gate of the reference, from the first token on. -/
theorem ref_b (b h : Fin 4) (t : Fin 4096) : val_main_v21 (F := Ideal) x4 (ix3 b h t) = cB (fg x4 b h) t := by
  unfold val_main_v21
  pointwise [val_main_cst_1, val_main_v20, val_main_call1_v1, val_main_call1_v2, val_main_call1_v3, val_main_call1_v0, val_main_cst_0, val_main_v19, val_main_v18, val_main_v17, val_main_v16,
    val_main_v15, val_main_v14, val_main_v13]
  unfold cB
  refine Finset.sum_congr rfl fun s _ => ?_
  rw [ref_lf]
  refine (sel_le le_rfl s t _ _).trans ?_
  have e : (id (constant (F := Ideal) S_ .f32 0#32) : FVec Ideal S_ .f32) ix0 = (0 : EReal) := Ideal.ofBits_zero .f32
  rw [e]

/-- The log weight of a token `s` seen from a token `t`. -/
theorem ref_d (b h : Fin 4) (t s : Fin 4096) : val_main_v30 (F := Ideal) x4 (ix4 b h t s) = cD (cB (fg x4 b h)) (cB (fg x4 b h)) (ig x4 b h) t s := by
  unfold val_main_v30
  pointwise [val_main_v29, val_main_v28, val_main_v27, val_main_v26, val_main_v25, val_main_v24, val_main_v23, val_main_v22, val_main_call2_v0, val_main_call2_v1, val_main_call2_v2, val_main_cst_2, val_main_v18, val_main_v17, val_main_v16,
    val_main_v15, val_main_v14, val_main_v13]
  rw [ref_b, ref_b, ref_i]
  unfold cD
  refine (sel_le le_rfl s t _ _).trans ?_
  have e : (id (constant (F := Ideal) S_ .f32 4286578688#32) : FVec Ideal S_ .f32) ix0 = (⊥ : EReal) := neg_inf
  rw [e]

/-- A maximum along the last axis. -/
theorem max_at (v : FVec Ideal S4x4x4096x4096 .f32) (c : FVec Ideal S_ .f32) (hr : S4x4x4096x4096.ReducesTo [3] S4x4x4096) (b h : Fin 4) (t : Fin 4096) :
    Host.reduce FloatOps.maximumf v c hr h_S_ (ix3 b h t) = Finset.univ.fold max (c ix0) fun s : Fin 4096 => v (ix4 b h t s) := by
  pointwise
  exact congrArg (fun k => Finset.univ.fold max (c k) _) (funext fun a => a.elim0)

/-- The stabiliser of the reference: the largest log weight, or the cumulative gate. -/
theorem ref_m (b h : Fin 4) (t : Fin 4096) : val_main_v32 (F := Ideal) x4 (ix3 b h t) = cM (cB (fg x4 b h)) (cB (fg x4 b h)) (ig x4 b h) 0 t := by
  rw [val_main_v32_apply, ref_b]
  unfold cM val_main_v31
  rw [max_at]
  simp only [ref_d]
  rw [add_zero]
  show max _ (Finset.univ.fold max (Ideal.ofBits .f32 0xFF800000#32) _) = _
  rw [neg_inf]

/-- The stabilised weight of a token `s` seen from a token `t`. -/
theorem ref_w (b h : Fin 4) (t s : Fin 4096) : val_main_v36 (F := Ideal) x4 (ix4 b h t s) = cW (cB (fg x4 b h)) (cB (fg x4 b h)) (ig x4 b h) 0 t s := by
  unfold val_main_v36
  pointwise [val_main_v35, val_main_v34, val_main_v33]
  rw [ref_d, ref_m]
  rfl

/-- The weighted product of a query and a key. -/
theorem ref_qk (b h : Fin 4) (t s : Fin 4096) : val_main_v38 (F := Ideal) x0 x1 x4 (ix4 b h t s) =
    (∑ d : Fin 128, x0 (ix2 (tok b t.val) (lane h d)) * kap * x1 (ix2 (tok b s.val) (lane h d))) * cW (cB (fg x4 b h)) (cB (fg x4 b h)) (ig x4 b h) 0 t s := by
  unfold val_main_v38
  pointwise [val_main_v37]
  simp only [ref_q, ref_k, ref_w]

/-- The numerator: the weighted products against the values. -/
theorem ref_num (b h : Fin 4) (t : Fin 4096) (e : Fin 128) : val_main_v39 (F := Ideal) x0 x1 x2 x4 (ix4 b h t e) =
    ∑ s : Fin 4096, val_main_v38 (F := Ideal) x0 x1 x4 (ix4 b h t s) * x2 (ix2 (tok b s.val) (lane h e)) := by
  unfold val_main_v39
  pointwise
  simp only [ref_v]

/-- The denominator: the sum of the weighted products. -/
theorem ref_den (b h : Fin 4) (t : Fin 4096) : val_main_v40 (F := Ideal) x0 x1 x4 (ix3 b h t) =
    ∑ s : Fin 4096, val_main_v38 (F := Ideal) x0 x1 x4 (ix4 b h t s) := by
  unfold val_main_v40
  pointwise [val_main_cst_4]

/-- The quotient, before the norm. -/
theorem ref_raw (b h : Fin 4) (t : Fin 4096) (e : Fin 128) : val_main_v47 (F := Ideal) x0 x1 x2 x4 (ix4 b h t e) =
    quo (val_main_v39 (F := Ideal) x0 x1 x2 x4 (ix4 b h t e)) (val_main_v40 (F := Ideal) x0 x1 x4 (ix3 b h t)) (val_main_v32 (F := Ideal) x4 (ix3 b h t)) := by
  unfold val_main_v47
  pointwise [val_main_v46, val_main_v45, val_main_v44, val_main_v43, val_main_v42, val_main_v41]
  unfold quo
  rw [Ideal.absf_def]

/-- The hidden state: normed, weighted and gated. -/
theorem ref_h (b h : Fin 4) (t : Fin 4096) (d : Fin 128) : val_main_v78 (F := Ideal) x0 x1 x2 x3 x4 x6 (ix2 (tok b t.val) (lane h d)) =
    fin (fun e => val_main_v47 (F := Ideal) x0 x1 x2 x4 (ix4 b h t e)) (x6 (ix2 0 (lane h d))) (x3 (ix2 (tok b t.val) (lane h d))) d := by
  rw [tok_val]
  unfold val_main_v78 lane
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_cst_5, val_main_cst_6, val_main_cst_7, val_main_cst_8, val_main_cst_9]
  rfl

/-- The keys weighted as the last token sees them. -/
theorem ref_kw (b h : Fin 4) (s : Fin 4096) (d : Fin 128) : val_main_v75 (F := Ideal) x1 x4 (ix4 b s h d) =
    x1 (ix2 (tok b s.val) (lane h d)) * cW (cB (fg x4 b h)) (cB (fg x4 b h)) (ig x4 b h) 0 4095 s := by
  unfold val_main_v75
  pointwise [val_main_v74, val_main_v73, val_main_v72, val_main_v71, val_main_v70]
  rw [ref_k]
  exact congrArg _ (ref_w x4 b h 4095 s)

/-- The final matrix memory of the reference. -/
theorem ref_C (b h : Fin 4) (d e : Fin 128) : val_main_v76 (F := Ideal) x1 x2 x4 (ix4 b h d e) =
    ∑ s : Fin 4096, x1 (ix2 (tok b s.val) (lane h d)) * cW (cB (fg x4 b h)) (cB (fg x4 b h)) (ig x4 b h) 0 4095 s * x2 (ix2 (tok b s.val) (lane h e)) := by
  unfold val_main_v76
  pointwise
  simp only [ref_kw, ref_v]

/-- The final normaliser of the reference. -/
theorem ref_n (b h : Fin 4) (d : Fin 128) : val_main_v77 (F := Ideal) x1 x4 (ix3 b h d) =
    ∑ s : Fin 4096, x1 (ix2 (tok b s.val) (lane h d)) * cW (cB (fg x4 b h)) (cB (fg x4 b h)) (ig x4 b h) 0 4095 s := by
  unfold val_main_v77
  pointwise [val_main_cst_10]
  simp only [ref_kw]

/-- The final stabiliser of the reference, the same along the lanes. -/
theorem ref_mEnd (b h : Fin 4) (d : Fin 128) : val_main_v80 (F := Ideal) x4 (ix3 b h d) =
    cM (cB (fg x4 b h)) (cB (fg x4 b h)) (ig x4 b h) 0 4095 := by
  unfold val_main_v80
  pointwise [val_main_v79]
  exact ref_m x4 b h 4095

/-- Sums of weighted terms up to a token are the closed form. -/
theorem wsum {lf li : ℕ → ℝ} (u : ℕ → ℝ) (t : Fin 4096) (g : Fin 4096 → EReal)
    (hg : ∀ s, g s = (((if s ≤ t then Real.exp (av lf li (0 + s.val) - mu lf li (0 + t.val + 1)) else 0) * u s.val : ℝ) : EReal)) :
    ∑ s, g s = ((St lf li u (t.val + 1) : ℝ) : EReal) := by
  simp only [hg, Nat.zero_add]
  rw [coe_sum]
  unfold St
  rw [← sum_le (fun s => Real.exp (av lf li s - mu lf li (t.val + 1)) * u s) t]
  congr 1
  refine Finset.sum_congr rfl fun s _ => ?_
  by_cases h : s ≤ t
  · rw [if_pos h, if_pos h]
  · rw [if_neg h, if_neg h, zero_mul]

variable {x0 x1 x2 x4} {x5 : FVec Ideal Cert.Pre_gates_alike_and_finite.S16x16384 .f32} (hF : Fine x0 x1 x2 x4 x5)
include hF

/-- The cumulative gates, as real numbers. -/
theorem b_real (b h : Fin 4) (t : Fin 4096) : cB (fg x4 b h) t = ((F (lf x4 b h) (0 + t.val + 1) - F (lf x4 b h) 0 : ℝ) : EReal) := by
  refine cB_eq 0 _ (fun s => ?_) t
  rw [Nat.zero_add]
  have e := lsig_real (x4 (ix2 (tok b s.val) (fc h))).toReal
  rwa [← hF.gf (tok b s.val) h] at e

/-- The input gates, as real numbers. -/
theorem i_real (b h : Fin 4) (s : Fin 4096) : ig x4 b h s = ((li x4 b h (0 + s.val) : ℝ) : EReal) := by
  rw [Nat.zero_add]
  exact hF.gi _ _

omit hF in
/-- Nothing is before the first token. -/
theorem start (b h : Fin 4) : (0 : EReal) = ((F (lf x4 b h) 0 + mu (lf x4 b h) (li x4 b h) 0 : ℝ) : EReal) := by
  simp [F, mu]

/-- The stabiliser of the reference. -/
theorem m_closed (b h : Fin 4) (t : Fin 4096) : val_main_v32 (F := Ideal) x4 (ix3 b h t) = Gm x4 b h (t.val + 1) := by
  rw [ref_m, cM_eq 0 _ _ _ _ (b_real hF b h) (b_real hF b h) (i_real hF b h) (start b h) t, Nat.zero_add]
  rfl

/-- The last stabiliser of the reference. -/
theorem mEnd_closed (b h : Fin 4) (d : Fin 128) : val_main_v80 (F := Ideal) x4 (ix3 b h d) = Gm x4 b h 4096 := by
  rw [ref_mEnd, ← ref_m]
  exact m_closed hF b h 4095

/-- The memory of the reference. -/
theorem C_closed (b h : Fin 4) (d e : Fin 128) : val_main_v76 (F := Ideal) x1 x2 x4 (ix4 b h d e) = GC x1 x2 x4 b h 4096 d e := by
  rw [ref_C]
  refine wsum (fun s => seq x1 b h s d * seq x2 b h s e) 4095 _ fun s => ?_
  rw [cW_eq 0 _ _ _ _ (b_real hF b h) (b_real hF b h) (i_real hF b h) (start b h), hF.k, hF.v, ← EReal.coe_mul, ← EReal.coe_mul]
  congr 1
  show seq x1 b h s.val d * _ * seq x2 b h s.val e = _
  ring

/-- The normaliser of the reference. -/
theorem n_closed (b h : Fin 4) (d : Fin 128) : val_main_v77 (F := Ideal) x1 x4 (ix3 b h d) = Gn x1 x4 b h 4096 d := by
  rw [ref_n]
  refine wsum (fun s => seq x1 b h s d) 4095 _ fun s => ?_
  rw [cW_eq 0 _ _ _ _ (b_real hF b h) (b_real hF b h) (i_real hF b h) (start b h), hF.k, ← EReal.coe_mul]
  congr 1
  exact mul_comm _ _

/-- The weighted product of a query and a key in the reference. -/
theorem qk_closed (b h : Fin 4) (t s : Fin 4096) : val_main_v38 (F := Ideal) x0 x1 x4 (ix4 b h t s) =
    (((if s ≤ t then Real.exp (av (lf x4 b h) (li x4 b h) (0 + s.val) - mu (lf x4 b h) (li x4 b h) (0 + t.val + 1)) else 0)
      * ((∑ d, seq x0 b h t.val d * seq x1 b h s.val d) * κ) : ℝ) : EReal) := by
  rw [ref_qk, cW_eq 0 _ _ _ _ (b_real hF b h) (b_real hF b h) (i_real hF b h) (start b h), kap_eq]
  have e : ∀ d : Fin 128, x0 (ix2 (tok b t.val) (lane h d)) * (κ : EReal) * x1 (ix2 (tok b s.val) (lane h d))
      = ((seq x0 b h t.val d * seq x1 b h s.val d * κ : ℝ) : EReal) := fun d => by
    rw [hF.q, hF.k, ← EReal.coe_mul, ← EReal.coe_mul]
    congr 1
    show seq x0 b h t.val d * κ * seq x1 b h s.val d = _
    ring
  simp only [e]
  rw [coe_sum, ← EReal.coe_mul, ← Finset.sum_mul]
  congr 1
  exact mul_comm _ _

/-- The denominator of the reference. -/
theorem den_closed (b h : Fin 4) (t : Fin 4096) : val_main_v40 (F := Ideal) x0 x1 x4 (ix3 b h t) = Gden x0 x1 x4 b h t.val := by
  rw [ref_den]
  exact wsum (fun s => (∑ d, seq x0 b h t.val d * seq x1 b h s d) * κ) t _ fun s => qk_closed hF b h t s

/-- The numerator of the reference. -/
theorem num_closed (b h : Fin 4) (t : Fin 4096) (e : Fin 128) : val_main_v39 (F := Ideal) x0 x1 x2 x4 (ix4 b h t e) = Gnum x0 x1 x2 x4 b h t.val e := by
  rw [ref_num]
  refine wsum (fun s => (∑ d, seq x0 b h t.val d * seq x1 b h s d) * κ * seq x2 b h s e) t _ fun s => ?_
  rw [qk_closed hF, hF.v, ← EReal.coe_mul]
  congr 1
  show _ * seq x2 b h s.val e = _
  ring

/-- The output of the reference. -/
theorem h_closed (b h : Fin 4) (t : Fin 4096) (d : Fin 128) :
    val_main_v78 (F := Ideal) x0 x1 x2 x3 x4 x6 (ix2 (tok b t.val) (lane h d)) = Gh x0 x1 x2 x3 x4 x6 b h t.val d := by
  rw [ref_h]
  refine congrArg (fun f => fin f _ _ d) (funext fun e => ?_)
  rw [ref_raw, num_closed hF, den_closed hF, m_closed hF]

/-- The outputs of the reference, as an array. -/
theorem h_array : val_main_v78 (F := Ideal) x0 x1 x2 x3 x4 x6 = fun i => Gh x0 x1 x2 x3 x4 x6 ⟨(i 0).val / 4096, by have h : (i 0).val < 16384 := (i 0).isLt; omega⟩
      ⟨(i 1).val / 128, by have h : (i 1).val < 512 := (i 1).isLt; omega⟩ ((i 0).val % 4096) ⟨(i 1).val % 128, by omega⟩ := by
  funext j
  idx_vars j
  refine Eq.trans ?_ (h_closed x3 x6 hF ⟨j0.val / 4096, by have := j0.isLt; omega⟩ ⟨j1.val / 128, by have := j1.isLt; omega⟩ ⟨j0.val % 4096, by omega⟩ ⟨j1.val % 128, by omega⟩)
  congr 2
  · refine Fin.ext ?_
    show j0.val = (4096 * (j0.val / 4096) + j0.val % 4096) % 16384
    have := j0.isLt
    omega
  · refine Fin.ext ?_
    show j1.val = 128 * (j1.val / 128) + j1.val % 128
    omega

/-- The memories of the reference, as an array. -/
theorem C_array : val_main_v76 (F := Ideal) x1 x2 x4 = fun i => GC x1 x2 x4 (i 0) (i 1) 4096 (i 2) (i 3) := by
  funext j
  idx_vars j
  exact C_closed hF j0 j1 j2 j3

/-- The normalisers of the reference, as an array. -/
theorem n_array : val_main_v77 (F := Ideal) x1 x4 = fun i => Gn x1 x4 (i 0) (i 1) 4096 (i 2) := by
  funext j
  idx_vars j
  exact n_closed hF j0 j1 j2

/-- The stabilisers of the reference, as an array. -/
theorem m_array : val_main_v80 (F := Ideal) x4 = fun i => Gm x4 (i 0) (i 1) 4096 := by
  funext j
  idx_vars j
  exact mEnd_closed hF j0 j1 j2

end Cert.RecRefIdeal.Hand
end
-- ==== Proof.RecClaim.lean ====
/-
  The recurrence over the prompt against its reference: under the precondition both programs run, from the same arguments, to
  the same four arrays.
-/
module

public import Idealize.ShloMosaic.Lib.Quiescent
public import proofs.«01_k».proof.Defs
public import proofs.«01_k».proof.Proof.RecArrays
public import proofs.«01_k».proof.Proof.RecRef
public import proofs.«01_k».proof.Proof.Gen.RecRefIdeal.Run

@[expose] public section

set_option maxRecDepth 16384

noncomputable section

namespace Cert.Proof

open Idealize.ShloMosaic Idealize.ShloMosaic.TcCoe Idealize.SL.Sem

/-- The precondition's own operations are well formed. -/
instance pre_facts : Cert.Pre_gates_alike_and_finite.Facts where
  slices_S16384x128_S16384x8_0_0 := by decide
  bitsLt_bf16_f32 := by decide
  bcast_S_S16384x512 := by decide
  bcast_S_S16384x8 := by decide
  slices_S16x16384_S8x16384_0_0 := by decide
  transposes_S8x16384_S16384x8_1_0 := by decide
  concatenates_S16384x512_S16384x8_S16384x520_d1 := by decide

/-- The two programs start from the same arguments. -/
def Agree (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD) : Prop :=
  m' ((c.tc : Thread Cert.RecRefIdeal.nD Cert.RecRefIdeal.τ).loc Cert.RecRefIdeal.main_arg0) = m ((c.tc : Thread Cert.RecIdeal.nD Cert.RecIdeal.τ).loc Cert.RecIdeal.main_arg0)
  ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
  ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
  ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
  ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
  ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
  ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)

/-- The hidden states of the reference are those of the kernel, from the same arguments. -/
theorem same_h (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD)
    (hF : Cert.RecIdeal.Hand.Ok m c) (hag : Agree m m' c) :
    Cert.RecRefIdeal.Read.val_main_v78 (F := Ideal) (m' ((c.tc : Thread Cert.RecRefIdeal.nD Cert.RecRefIdeal.τ).loc Cert.RecRefIdeal.main_arg0)) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg3)) (m' ((c.tc : Thread Cert.RecRefIdeal.nD Cert.RecRefIdeal.τ).loc Cert.RecRefIdeal.main_arg4)) (m' ((c.tc : Thread Cert.RecRefIdeal.nD Cert.RecRefIdeal.τ).loc Cert.RecRefIdeal.main_arg6))
      = (Cert.RecIdeal.Gen.dats m 0 c).arrAt 7 Cert.RecIdeal.cfg0.N := by
  rw [hag.1, hag.2.1, hag.2.2.1, hag.2.2.2.1, hag.2.2.2.2.1, hag.2.2.2.2.2.2]
  exact (Cert.RecRefIdeal.Hand.h_array _ _ hF).trans (Cert.RecIdeal.Hand.arr7 m c hF).symm

/-- The final matrix memory of the reference are those of the kernel, from the same arguments. -/
theorem same_C (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD)
    (hF : Cert.RecIdeal.Hand.Ok m c) (hag : Agree m m' c) :
    Cert.RecRefIdeal.Read.val_main_v76 (F := Ideal) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg4))
      = (Cert.RecIdeal.Gen.dats m 0 c).arrAt 8 Cert.RecIdeal.cfg0.N := by
  rw [hag.2.1, hag.2.2.1, hag.2.2.2.2.1]
  exact (Cert.RecRefIdeal.Hand.C_array hF).trans (Cert.RecIdeal.Hand.arr8 m c hF).symm

/-- The final normaliser of the reference are those of the kernel, from the same arguments. -/
theorem same_n (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD)
    (hF : Cert.RecIdeal.Hand.Ok m c) (hag : Agree m m' c) :
    Cert.RecRefIdeal.Read.val_main_v77 (F := Ideal) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg4))
      = (Cert.RecIdeal.Gen.dats m 0 c).arrAt 9 Cert.RecIdeal.cfg0.N := by
  rw [hag.2.1, hag.2.2.2.2.1]
  exact (Cert.RecRefIdeal.Hand.n_array hF).trans (Cert.RecIdeal.Hand.arr9 m c hF).symm

/-- The final stabiliser of the reference are those of the kernel, from the same arguments. -/
theorem same_m (m : (ℓ : Loc Cert.RecIdeal.nD Cert.RecIdeal.τ Cert.RecIdeal.sig) → Buf (Elt Ideal) ℓ)
    (m' : (ℓ : Loc Cert.RecRefIdeal.nD Cert.RecRefIdeal.τ Cert.RecRefIdeal.sig) → Buf (Elt Ideal) ℓ) (c : Dev Cert.RecIdeal.nD)
    (hF : Cert.RecIdeal.Hand.Ok m c) (hag : Agree m m' c) :
    Cert.RecRefIdeal.Read.val_main_v80 (F := Ideal) (m' ((c.tc : Thread Cert.RecRefIdeal.nD Cert.RecRefIdeal.τ).loc Cert.RecRefIdeal.main_arg4))
      = (Cert.RecIdeal.Gen.dats m 0 c).arrAt 10 Cert.RecIdeal.cfg0.N := by
  rw [hag.2.2.2.2.1]
  exact (Cert.RecRefIdeal.Hand.m_array hF).trans (Cert.RecIdeal.Hand.arr10 m c hF).symm

/-- The reference ends with its stages' values as results, its arguments as they were. -/
theorem ref_run (m' : (ℓ : Loc Cert.RecRefIdeal.nD Cert.RecRefIdeal.τ Cert.RecRefIdeal.sig) → Buf (Elt Ideal) ℓ)
    (ρ' : Dev Cert.RecRefIdeal.nD → PrngReg) :
    θ_run (Cert.RecRefIdeal.defs (F := Ideal)) (onTc (τ := Cert.RecRefIdeal.τ) (Cert.RecRefIdeal.main (F := Ideal))) ⟨m', fun _ => 0, ρ'⟩
      (fun r => ∀ c : Dev Cert.RecRefIdeal.nD,
        r.2.mem ((c.tc : Thread Cert.RecRefIdeal.nD Cert.RecRefIdeal.τ).loc Cert.RecRefIdeal.main_v78) = Cert.RecRefIdeal.Read.val_main_v78 (F := Ideal) (m' ((c.tc : Thread Cert.RecRefIdeal.nD Cert.RecRefIdeal.τ).loc Cert.RecRefIdeal.main_arg0)) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg3)) (m' ((c.tc : Thread Cert.RecRefIdeal.nD Cert.RecRefIdeal.τ).loc Cert.RecRefIdeal.main_arg4)) (m' ((c.tc : Thread Cert.RecRefIdeal.nD Cert.RecRefIdeal.τ).loc Cert.RecRefIdeal.main_arg6))
        ∧ r.2.mem ((c.tc : Thread Cert.RecRefIdeal.nD Cert.RecRefIdeal.τ).loc Cert.RecRefIdeal.main_v76) = Cert.RecRefIdeal.Read.val_main_v76 (F := Ideal) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg2)) (m' ((c.tc : Thread Cert.RecRefIdeal.nD Cert.RecRefIdeal.τ).loc Cert.RecRefIdeal.main_arg4))
        ∧ r.2.mem ((c.tc : Thread Cert.RecRefIdeal.nD Cert.RecRefIdeal.τ).loc Cert.RecRefIdeal.main_v77) = Cert.RecRefIdeal.Read.val_main_v77 (F := Ideal) (m' ((c.tc : Thread Cert.RecRefIdeal.nD Cert.RecRefIdeal.τ).loc Cert.RecRefIdeal.main_arg1)) (m' ((c.tc : Thread Cert.RecRefIdeal.nD Cert.RecRefIdeal.τ).loc Cert.RecRefIdeal.main_arg4))
        ∧ r.2.mem ((c.tc : Thread Cert.RecRefIdeal.nD Cert.RecRefIdeal.τ).loc Cert.RecRefIdeal.main_v80) = Cert.RecRefIdeal.Read.val_main_v80 (F := Ideal) (m' ((c.tc : Thread Cert.RecRefIdeal.nD Cert.RecRefIdeal.τ).loc Cert.RecRefIdeal.main_arg4))
        ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
        ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
        ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
        ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
        ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
        ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
        ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)) :=
  (θ_run _ _ _).mono (fun r h c =>
    ⟨(h c).1.trans (Cert.RecRefIdeal.Read.val_main_v78_eq (F := Ideal) (Idealize.ShloMosaic.StableHlo.launchContents m' c)),
     (h c).2.1.trans (Cert.RecRefIdeal.Read.val_main_v76_eq (F := Ideal) (Idealize.ShloMosaic.StableHlo.launchContents m' c)),
     (h c).2.2.1.trans (Cert.RecRefIdeal.Read.val_main_v77_eq (F := Ideal) (Idealize.ShloMosaic.StableHlo.launchContents m' c)),
     (h c).2.2.2.1.trans (Cert.RecRefIdeal.Read.val_main_v80_eq (F := Ideal) (Idealize.ShloMosaic.StableHlo.launchContents m' c)),
     (h c).2.2.2.2⟩)
    (Cert.RecRefIdeal.Value.run m' ρ')

/-- The kernel and the reference of the recurrence end with equal results. -/
theorem rec_algebraic : Cert.algebraic_RecIdeal_RecRefIdeal_pre_gates_alike_and_finite := fun m ρ m' ρ' hpre hag =>
  have hF : ∀ c, Cert.RecIdeal.Hand.Ok m c := fun c => RecSpec.fine _ _ _ _ _ _ _ (hpre c)
  ⟨fun c => (Cert.RecIdeal.Gen.dats m 0 c).arrAt 7 Cert.RecIdeal.cfg0.N,
   fun c => (Cert.RecIdeal.Gen.dats m 0 c).arrAt 8 Cert.RecIdeal.cfg0.N,
   fun c => (Cert.RecIdeal.Gen.dats m 0 c).arrAt 9 Cert.RecIdeal.cfg0.N,
   fun c => (Cert.RecIdeal.Gen.dats m 0 c).arrAt 10 Cert.RecIdeal.cfg0.N,
   Cert.RecIdeal.Value.run_blocks m ρ,
   (θ_run _ _ _).mono (fun r h c =>
    ⟨(h c).1.trans (same_h m m' c (hF c) (hag c)),
     (h c).2.1.trans (same_C m m' c (hF c) (hag c)),
     (h c).2.2.1.trans (same_n m m' c (hF c) (hag c)),
     (h c).2.2.2.1.trans (same_m m m' c (hF c) (hag c)),
     (h c).2.2.2.2⟩)
    (ref_run m' ρ')⟩

/-- The reference of the recurrence leaves its arguments, and has no counters. -/
theorem rec_ref_frame : Cert.quiescent_RecRefIdeal := fun m ρ _ =>
  (θ_run Cert.RecRefIdeal.defs _ _).mono (fun r h => ⟨fun c => (h c).2.2.2.2,
    Idealize.ShloMosaic.sem_eq_zero_of_no_sems (by decide) r.2⟩)
    (Cert.RecRefIdeal.Value.run (F := Ideal) m ρ)

/-- The same, said under the precondition. -/
theorem rec_ref_frame_pre : Cert.quiescent_RecRefIdeal_pre_gates_alike_and_finite := fun m ρ _ => rec_ref_frame m ρ trivial

end Cert.Proof

end
-- ==== Proof.DProjIdealBody.lean ====
/-
  The sample's input projection, on exact numbers: the run of its kernel. The projected columns are stored at every grid point; the
  gates at the first point only, and they wait in their buffer until the last point writes them back.
-/
module

public import proofs.«01_k».proof.Proof.Gen.DProjIdeal.Frame
public import proofs.«01_k».proof.Proof.Gen.DProjIdeal.Skeleton
public import Idealize.ShloMosaic.Lib.Claim

@[expose] public section

set_option maxRecDepth 16384

noncomputable section

namespace Cert.DProjIdeal.Hand

open Cert.DProjIdeal Cert.DProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of the tokens' block. -/
abbrev rX : Rect S32x1024 := Rect.unit (s := S32x1024) ![0, 0] S32x1024.size inb_S32x1024_S32x1024_0_0
/-- The whole of the norm weight's block. -/
abbrev rL : Rect S1x1024 := Rect.unit (s := S1x1024) ![0, 0] S1x1024.size inb_S1x1024_S1x1024_0_0
/-- The whole of the block of weight columns. -/
abbrev rW : Rect S1024x512 := Rect.unit (s := S1024x512) ![0, 0] S1024x512.size inb_S1024x512_S1024x512_0_0
/-- The whole of the gates' weight columns. -/
abbrev rG : Rect S1024x128 := Rect.unit (s := S1024x128) ![0, 0] S1024x128.size inb_S1024x128_S1024x128_0_0
/-- The whole of the gates' biases. -/
abbrev rB : Rect S1x128 := Rect.unit (s := S1x128) ![0, 0] S1x128.size inb_S1x128_S1x128_0_0
/-- The whole of the block of projected columns. -/
abbrev rO : Rect S32x512 := Rect.unit (s := S32x512) ![0, 0] S32x512.size inb_S32x512_S32x512_0_0
/-- The whole of the block of gates. -/
abbrev rH : Rect S32x128 := Rect.unit (s := S32x128) ![0, 0] S32x128.size inb_S32x128_S32x128_0_0

/-- The projected columns a grid point stores. -/
def out5 (x0 : Vec F S32x1024 .f32) (x1 : Vec F S1x1024 .f32) (x2 : Vec F S1024x512 .bf16) : Vec F S32x512 .f32 :=
  View.canon [⟨rO, k0_pay2 (View.ld x0 rX) (View.ld x1 rL) (View.ld x2 rW)⟩]

/-- The gates the first grid point stores. -/
def out6 (x0 : Vec F S32x1024 .f32) (x1 : Vec F S1x1024 .f32) (x3 : Vec F S1024x128 .bf16) (x4 : Vec F S1x128 .f32) : Vec F S32x128 .f32 :=
  View.canon [⟨rH, k0_pay3 (View.ld x0 rX) (View.ld x1 rL) (View.ld x3 rG) (View.ld x4 rB)⟩]

/-- The store of projected columns covers its block. -/
theorem cover5 (p0 : Vec F S32x512 .f32) (y : S32x512.Idx) :
    ∃ pc ∈ ([⟨rO, p0⟩] : List (View.Piece (Elt F) S32x512 .f32)), y ∈ pc.1.set :=
  View.cover_of_tiled [⟨rO, p0⟩] S32x512.size (by rfl) y

/-- The store of gates covers its block. -/
theorem cover6 (p0 : Vec F S32x128 .f32) (y : S32x128.Idx) :
    ∃ pc ∈ ([⟨rH, p0⟩] : List (View.Piece (Elt F) S32x128 .f32)), y ∈ pc.1.set :=
  View.cover_of_tiled [⟨rH, p0⟩] S32x128.size (by rfl) y

/-- The gates are stored at the first grid point and at no other. -/
theorem cond_first : ∀ t : Fin cfg0.N, k0_cond1 (grid0.coords t) = 1#1 ↔ t.val = 0 :=
  (by decide +kernel : ∀ t : Fin grid0.N, k0_cond1 (grid0.coords t) = 1#1 ↔ t.val = 0)

set_option maxHeartbeats 1000000 in
/-- The body where it stores the gates: the inputs as they were, both results stored. -/
theorem body_first (c : Dev nD) (E : Set ℕ) (i : grid0.Coords) (a1 : Memref sig .tc .vmem S32x1024 .f32) (h1 : a1.IsWhole)
    (a2 : Memref sig .tc .vmem S1x1024 .f32) (h2 : a2.IsWhole) (a3 : Memref sig .tc .vmem S1024x512 .bf16) (h3 : a3.IsWhole)
    (a4 : Memref sig .tc .vmem S1024x128 .bf16) (h4 : a4.IsWhole) (a5 : Memref sig .tc .vmem S1x128 .f32) (h5 : a5.IsWhole)
    (a6 : Memref sig .tc .vmem S32x512 .f32) (h6 : a6.IsWhole) (a7 : Memref sig .tc .vmem S32x128 .f32) (h7 : a7.IsWhole)
    (hc : k0_cond1 i = 1#1)
    (x0 : Vec F S32x1024 .f32) (x1 : Vec F S1x1024 .f32) (x2 : Vec F S1024x512 .bf16) (x3 : Vec F S1024x128 .bf16) (x4 : Vec F S1x128 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out5 x0 x1 x2) ∗ owns (c : Thread nD τ) a7 fullShare (out6 x0 x1 x3 x4)) -∗ K ⟨⟩))
      ⊢ wp frame (wpE (defs₀ (F := F)) Variants.none c none) E (cc0_inproj_decode i a1 h1 a2 h2 a3 h3 a4 h4 a5 h5 a6 h6 a7 h7) K := by
  simp only [cc0_inproj_decode_eq_skeleton]; unfold cc0_inproj_decode_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover5 _)).trans ?_
    rfl
  iexists _; isplitr
  swap; · iexact H6
  ipureintro
  refine (View.read_writes_eq_canon _ _ _ (cover6 _)).trans ?_
  rfl

set_option maxHeartbeats 1000000 in
/-- The body elsewhere: the inputs and the gates' buffer as they were, the projected columns stored. -/
theorem body_rest (c : Dev nD) (E : Set ℕ) (i : grid0.Coords) (a1 : Memref sig .tc .vmem S32x1024 .f32) (h1 : a1.IsWhole)
    (a2 : Memref sig .tc .vmem S1x1024 .f32) (h2 : a2.IsWhole) (a3 : Memref sig .tc .vmem S1024x512 .bf16) (h3 : a3.IsWhole)
    (a4 : Memref sig .tc .vmem S1024x128 .bf16) (h4 : a4.IsWhole) (a5 : Memref sig .tc .vmem S1x128 .f32) (h5 : a5.IsWhole)
    (a6 : Memref sig .tc .vmem S32x512 .f32) (h6 : a6.IsWhole) (a7 : Memref sig .tc .vmem S32x128 .f32) (h7 : a7.IsWhole)
    (hc : ¬k0_cond1 i = 1#1)
    (x0 : Vec F S32x1024 .f32) (x1 : Vec F S1x1024 .f32) (x2 : Vec F S1024x512 .bf16) (x3 : Vec F S1024x128 .bf16) (x4 : Vec F S1x128 .f32)
    (x6 : Vec F S32x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ owns (c : Thread nD τ) a7 fullShare x6
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out5 x0 x1 x2) ∗ owns (c : Thread nD τ) a7 fullShare x6) -∗ K ⟨⟩))
      ⊢ wp frame (wpE (defs₀ (F := F)) Variants.none c none) E (cc0_inproj_decode i a1 h1 a2 h2 a3 h3 a4 h4 a5 h5 a6 h6 a7 h7) K := by
  simp only [cc0_inproj_decode_eq_skeleton]; unfold cc0_inproj_decode_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover5 _)).trans ?_
    rfl
  iexists f6; isplitr; · ipureintro; rfl
  iexact H6

/-- The gates, as the first grid point's blocks give them. -/
def held (c : Dev nD) : Vec F S32x128 .f32 :=
  out6 (iblk m c 0 t0_0) (iblk m c 1 t0_0) (iblk m c 3 t0_0) (iblk m c 4 t0_0)

/-- What every window's buffer holds after the body at a grid point; the gates' the same at all of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t)
    | ⟨6, _⟩ => held m c
    | ⟨_ + 7, h⟩ => absurd h (Nat.not_lt.2 (Nat.le_add_left _ _))
  Φ _ := Pipeline.ΦA spec0 c
  q _ := fullShare
  owed _ := 0

/-- The arrays are those the kernel is handed. -/
theorem A_eq (c : Dev nD) (w : Fin cfg0.W) : (dats m 0 c).A w = V m c (Pipeline.arrRef spec0 w) := by
  dsimp only [dats]

/-- The tokens' buffer after the body. -/
theorem after0 (c : Dev nD) (t : Fin cfg0.N) : (dats m 0 c).after 0 t = iblk m c 0 t := by dsimp only [dats]
/-- The norm weight's buffer after the body. -/
theorem after1 (c : Dev nD) (t : Fin cfg0.N) : (dats m 0 c).after 1 t = iblk m c 1 t := by dsimp only [dats]
/-- The weight columns' buffer after the body. -/
theorem after2 (c : Dev nD) (t : Fin cfg0.N) : (dats m 0 c).after 2 t = iblk m c 2 t := by dsimp only [dats]
/-- The gates' weights' buffer after the body. -/
theorem after3 (c : Dev nD) (t : Fin cfg0.N) : (dats m 0 c).after 3 t = iblk m c 3 t := by dsimp only [dats]
/-- The gates' biases' buffer after the body. -/
theorem after4 (c : Dev nD) (t : Fin cfg0.N) : (dats m 0 c).after 4 t = iblk m c 4 t := by dsimp only [dats]
/-- The projected columns' buffer after the body. -/
theorem after5 (c : Dev nD) (t : Fin cfg0.N) :
    (dats m 0 c).after 5 t = out5 (iblk m c 0 t) (iblk m c 1 t) (iblk m c 2 t) := by dsimp only [dats]
/-- The gates' buffer after the body. -/
theorem after6 (c : Dev nD) (t : Fin cfg0.N) : (dats m 0 c).after 6 t = held m c := by dsimp only [dats]

/-- The tokens' buffer before the body. -/
theorem before0 (c : Dev nD) (t : Fin cfg0.N) (d) : (dats m 0 c).before 0 t d = iblk m c 0 t :=
  before0_0_of m (dats m 0 c) (A_eq m c 0) (after0 m c) t d
/-- The norm weight's buffer before the body. -/
theorem before1 (c : Dev nD) (t : Fin cfg0.N) (d) : (dats m 0 c).before 1 t d = iblk m c 1 t :=
  before0_1_of m (dats m 0 c) (A_eq m c 1) (after1 m c) t d
/-- The weight columns' buffer before the body. -/
theorem before2 (c : Dev nD) (t : Fin cfg0.N) (d) : (dats m 0 c).before 2 t d = iblk m c 2 t :=
  before0_2_of m (dats m 0 c) (A_eq m c 2) (after2 m c) t d
/-- The gates' weights' buffer before the body. -/
theorem before3 (c : Dev nD) (t : Fin cfg0.N) (d) : (dats m 0 c).before 3 t d = iblk m c 3 t :=
  before0_3_of m (dats m 0 c) (A_eq m c 3) (after3 m c) t d
/-- The gates' biases' buffer before the body. -/
theorem before4 (c : Dev nD) (t : Fin cfg0.N) (d) : (dats m 0 c).before 4 t d = iblk m c 4 t :=
  before0_4_of m (dats m 0 c) (A_eq m c 4) (after4 m c) t d

/-- The grid has seven points. -/
theorem lt7 (t : Fin cfg0.N) : t.val < 7 := lt_of_lt_of_eq t.isLt (show cfg0.N = 7 from N_0)

/-- Past the first point the body leaves the gates' buffer alone. -/
theorem idle_rest (t : Fin cfg0.N) (h : t.val ≠ 0) : cfg0.idle 6 (cfg0.grid.coords t) = true := by
  have hc : ¬k0_cond1 (grid0.coords t) = 1#1 := fun e => h ((cond_first t).mp e)
  show (!(k0_cond1 (grid0.coords t) == 1#1)) = true
  rw [beq_eq_false_iff_ne.mpr hc]; rfl

/-- At the first point it does not. -/
theorem live_first (t : Fin cfg0.N) (h : t.val = 0) : cfg0.idle 6 (cfg0.grid.coords t) = false := by
  have hc : k0_cond1 (grid0.coords t) = 1#1 := (cond_first t).mpr h
  show (!(k0_cond1 (grid0.coords t) == 1#1)) = false
  rw [hc]; rfl

/-- The gates are not written back before the last point. -/
theorem flush_rest (t : Fin cfg0.N) (h : t.val < 6) : (cfg0.win 6).flush t = false := by
  rw [Bool.eq_false_iff]
  intro e
  have := (flush0_6 t).mp e
  omega

/-- Past the first point the gates' buffer holds what the first point stored. -/
theorem before6 (c : Dev nD) : ∀ (n : ℕ) (hn : n + 1 < cfg0.N) (d), (dats m 0 c).before 6 ⟨n + 1, hn⟩ d = held m c := by
  intro n
  induction n with
  | zero =>
    intro hn d
    rw [(dats m 0 c).before_of_pos 6 ⟨0 + 1, hn⟩ (by simp) rfl d]
    have hf : (cfg0.win 6).flush ⟨(⟨0 + 1, hn⟩ : Fin cfg0.N).val - 1, Nat.lt_of_le_of_lt (Nat.sub_le _ _) hn⟩ = false := flush_rest _ (by show 0 + 1 - 1 < 6; omega)
    rw [hf, if_neg Bool.false_ne_true]
    unfold Dat.left
    rw [live_first _ rfl]
    dsimp only
    unfold Dat.kept
    rw [after6]
    exact (cfg0.win 6).fill_cut _ _
  | succ n ih =>
    intro hn d
    rw [(dats m 0 c).before_of_pos 6 ⟨n + 1 + 1, hn⟩ (by simp) rfl d]
    have hN := lt7 ⟨n + 1 + 1, hn⟩
    have hf : (cfg0.win 6).flush ⟨(⟨n + 1 + 1, hn⟩ : Fin cfg0.N).val - 1, Nat.lt_of_le_of_lt (Nat.sub_le _ _) hn⟩ = false := flush_rest _ (by show n + 1 + 1 - 1 < 6; dsimp only at hN; omega)
    rw [hf, if_neg Bool.false_ne_true]
    unfold Dat.left
    rw [idle_rest _ (by show n + 1 + 1 - 1 ≠ 0; omega)]
    exact ih (Nat.lt_of_succ_lt hn) d

/-- The same, of any point past the first. -/
theorem before6_rest (c : Dev nD) (t : Fin cfg0.N) (h : t.val ≠ 0) (d) : (dats m 0 c).before 6 t d = held m c := by
  obtain ⟨n, hn⟩ := t
  cases n with
  | zero => exact absurd rfl h
  | succ n => exact before6 m c n hn d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare (held m c))

set_option maxHeartbeats 1600000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val = 0
  · obtain rfl : t = t0_0 := Fin.ext h0
    unfold held
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first c Set.univ (grid0.coords t0_0) _ _ _ _ _ _ _ _ _ _ _ _ _ _ ((cond_first t0_0).mpr h0)
      (iblk m c 0 t0_0) (iblk m c 1 t0_0) (iblk m c 2 t0_0) (iblk m c 3 t0_0) (iblk m c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before6_rest m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_rest c Set.univ (grid0.coords t) _ _ _ _ _ _ _ _ _ _ _ _ _ _ (fun e => h0 ((cond_first t).mp e))
      (iblk m c 0 t) (iblk m c 1 t) (iblk m c 2 t) (iblk m c 3 t) (iblk m c 4 t) (held m c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The gates' buffer at what the first point stored is what every grid point must leave in it. -/
theorem leaves6 (c : Dev nD) (t : Fin cfg0.N) :
    owns (c : Thread nD τ) (st0_6 t) fullShare (held m c) ⊢ (dats m 0 c).leavesExact 6 t := by
  by_cases h0 : t.val = 0
  · unfold Dat.leavesExact
    rw [live_first t h0]
    dsimp only
    rw [after6]
  · by_cases hl : t.val < 6
    · rw [(dats m 0 c).leavesExact_idle 6 t (idle_rest t h0) (flush_rest t hl)]
      simp only [before6_rest m c t h0]
      iintro H
      iexists (held m c)
      iexact H
    · have hN := lt7 t
      have hf : (cfg0.win 6).flush t = true := (flush0_6 t).mpr (by omega)
      unfold Dat.leavesExact
      rw [idle_rest t h0, hf]
      dsimp only
      rw [after6]

/-- The body the pipeline calls is the printed one. -/
theorem defs₀_row (t : Fin cfg0.N) :
    defs₀ (F := F) .tc cfg0.body (cfg0.bodyArgs t (cfg0.slots t)) = bodyAt0 t := by
  unfold defs₀; rw [Defs.onTc_tc]

/-- What the body returns is what the pipeline asks of it. -/
theorem post_leaves (c : Dev nD) (t : Fin cfg0.N) :
    bodyPost m c t ⊢ iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t) := by
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c t)
  iexact H6

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

-- the region theorem's implicit arguments are found by unifying its conclusion with this one
set_option backward.isDefEq.respectTransparency.types false in
/-- The run: every array at what its blocks were written with, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DProjIdeal.Hand

end
-- ==== Proof.DProjArrays.lean ====
/-
  The sample's input projection: its two result arrays after the run, element by element, as functions of the argument
  arrays.
-/
module

public import Idealize.ShloMosaic.Lib.Pipeline.ValueKit
public import Idealize.ShloMosaic.Lib.Pipeline.ValueKit.Held
public import Idealize.ShloMosaic.Lib.Pipeline.Value
public import Idealize.ShloMosaic.Lib.Pointwise
public import Idealize.ShloMosaic.Lib.Tactic
public import proofs.«01_k».proof.Proof.ProjArrays
public import proofs.«01_k».proof.Proof.DProjIdealBody

@[expose] public section

set_option maxRecDepth 16384

noncomputable section

namespace Cert.DProjIdeal.Hand

open Cert.DProjIdeal Cert.DProjIdeal.Gen Idealize.ShloMosaic Idealize.ShloMosaic.TcCoe Idealize.SL.Sem
open Idealize.ShloMosaic.Pipeline (Dat)
open Cert.ProjIdeal.Hand (nrm proj proj_zero zero_word)

/-! ## The body's blocks -/

/-- What the body leaves of the projected columns. -/
theorem win5 (x0 : Vec Ideal S32x1024 .f32) (x1 : Vec Ideal S1x1024 .f32) (x2 : Vec Ideal S1024x512 .bf16) (a : Fin 32) (b : Fin 512) :
    out5 x0 x1 x2 (ix2 a b) = proj (fun k => x0 (ix2 a k)) (fun k => x1 (ix2 0 k)) (fun k => x2 (ix2 k b)) := by
  unfold out5
  canon_tiles j hh
  idx_vars j
  obtain rfl : a = j0 := Fin.ext (by omega)
  obtain rfl : b = j1 := Fin.ext (by omega)
  open_payloads
  try pointwise
  rfl

/-- What the body leaves of the gates. -/
theorem win6 (x0 : Vec Ideal S32x1024 .f32) (x1 : Vec Ideal S1x1024 .f32) (x3 : Vec Ideal S1024x128 .bf16) (x4 : Vec Ideal S1x128 .f32) (a : Fin 32) (b : Fin 128) :
    out6 x0 x1 x3 x4 (ix2 a b) = proj (fun k => x0 (ix2 a k)) (fun k => x1 (ix2 0 k)) (fun k => x3 (ix2 k b)) + x4 (ix2 0 b) := by
  unfold out6
  canon_tiles j hh
  idx_vars j
  obtain rfl : a = j0 := Fin.ext (by omega)
  obtain rfl : b = j1 := Fin.ext (by omega)
  open_payloads
  try pointwise
  rfl

/-! ## The results as functions of the arguments -/

section
variable (x0 : (⟨S32x1x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- A coordinate of a sequence's projection: its normalised features against a column of the weights. -/
def zAt (r : Fin 32) (j : Fin 3592) : EReal :=
  proj (fun k => x0 (ix3 r 0 k)) (fun k => x1 (ix2 0 k)) (fun k => x2 (ix3 0 k j))

/-- One of the main coordinates. -/
def zMain (r : Fin 32) (j : Fin 3584) : EReal := zAt x0 x1 x2 r ⟨j.val, by omega⟩

/-- A sequence's gate, the lanes past the eight gates at zero. -/
def gate (r : Fin 32) (j : ℕ) : EReal :=
  if h : j < 8 then zAt x0 x1 x2 r ⟨3584 + j, by omega⟩ + x3 (ix2 0 ⟨j, h⟩) else 0
end

/-! ## What the kernel is handed -/

/-- The tokens, one after another. -/
def hostX (a : (⟨S32x1x1024, .f32⟩ : BufTy).Contents (Elt Ideal)) : (⟨S32x1024, .f32⟩ : BufTy).Contents (Elt Ideal) :=
  shapeCast S32x1024 a shapeCasts_S32x1x1024_S32x1024

/-- The tokens laid out as rows, read at one place. -/
theorem hostX_at (a : (⟨S32x1x1024, .f32⟩ : BufTy).Contents (Elt Ideal)) (r : Fin 32) (q : Fin 1024) : hostX a (ix2 r q) = a (ix3 r 0 q) := by
  unfold hostX
  pointwise

/-- The learned weights of the normalisation. -/
def hostLn (a : (⟨S1x1024, .f32⟩ : BufTy).Contents (Elt Ideal)) : (⟨S1x1024, .f32⟩ : BufTy).Contents (Elt Ideal) :=
  shapeCast S1x1024 (shapeCast S1024 a shapeCasts_S1x1024_S1024) shapeCasts_S1024_S1x1024

/-- The norm weight as a row, read at one place. -/
theorem hostLn_at (a : (⟨S1x1024, .f32⟩ : BufTy).Contents (Elt Ideal)) (q : Fin 1024) : hostLn a (ix2 0 q) = a (ix2 0 q) := by
  unfold hostLn
  pointwise

/-- The main columns of the projection. -/
def hostW (a : (⟨S1x1024x3592, .f32⟩ : BufTy).Contents (Elt Ideal)) : (⟨S1024x3584, .bf16⟩ : BufTy).Contents (Elt Ideal) :=
  truncf (F := Ideal) .bf16 (shapeCast S1024x3584 (extractStridedSlice S1x1024x3584 ![0, 0, 0] a slices_S1x1024x3592_S1x1024x3584_0_0_0)
    shapeCasts_S1x1024x3584_S1024x3584) bitsLt_bf16_f32

/-- The main columns of the projection, read at one place. -/
theorem hostW_at (a : (⟨S1x1024x3592, .f32⟩ : BufTy).Contents (Elt Ideal)) (k : Fin 1024) (j : Fin 3584) : hostW a (ix2 k j) = a (ix3 0 k ⟨j.val, by omega⟩) := by
  unfold hostW
  pointwise

/-- The columns of the gates, with zeros past them. -/
def hostWg (a : (⟨S1x1024x3592, .f32⟩ : BufTy).Contents (Elt Ideal)) : (⟨S1024x128, .bf16⟩ : BufTy).Contents (Elt Ideal) :=
  truncf (F := Ideal) .bf16 (pad S1024x128 ![0, 0] ![0, 120] ![0, 0] (shapeCast S1024x8 (extractStridedSlice S1x1024x8 ![0, 0, 3584] a
    slices_S1x1024x3592_S1x1024x8_0_0_3584) shapeCasts_S1x1024x8_S1024x8) (sitofp (F := Ideal) .f32 (constantI S_ 32 0#32))
    pads_S1024x8_S1024x128_000_01200 h_S_) bitsLt_bf16_f32

/-- The gate columns padded with zeros, read at one place. -/
theorem hostWg_at (a : (⟨S1x1024x3592, .f32⟩ : BufTy).Contents (Elt Ideal)) (k : Fin 1024) (j : Fin 128) : hostWg a (ix2 k j) = if h : j.val < 8 then a (ix3 0 k ⟨3584 + j.val, by omega⟩) else (0 : EReal) := by
  unfold hostWg
  by_cases h : j.val < 8
  · rw [dif_pos h]
    pointwise
    rw [dif_pos h]
  · rw [dif_neg h]
    pointwise
    rw [dif_neg h]
    exact zero_word

/-- The bias of the gates, with zeros past it. -/
def hostBg (a : (⟨S1x8, .f32⟩ : BufTy).Contents (Elt Ideal)) : (⟨S1x128, .f32⟩ : BufTy).Contents (Elt Ideal) :=
  shapeCast S1x128 (pad S128 ![0] ![120] ![0] (shapeCast S8 a shapeCasts_S1x8_S8) (sitofp (F := Ideal) .f32 (constantI S_ 32 0#32))
    pads_S8_S128_01200 h_S_) shapeCasts_S128_S1x128

/-- The gate biases padded with zeros as a row, read at one place. -/
theorem hostBg_at (a : (⟨S1x8, .f32⟩ : BufTy).Contents (Elt Ideal)) (j : Fin 128) : hostBg a (ix2 0 j) = if h : j.val < 8 then a (ix2 0 ⟨j.val, h⟩) else (0 : EReal) := by
  unfold hostBg
  by_cases h : j.val < 8
  · rw [dif_pos h]
    pointwise
    rw [dif_pos h]
  · rw [dif_neg h]
    pointwise
    rw [dif_neg h]
    exact zero_word

/-! ## The blocks -/

variable (m : (ℓ : Loc nD τ sig) → Buf (Elt Ideal) ℓ) (c : Dev nD)

/-- Where every window's block stands at a grid point. -/
theorem idx : ∀ t : Fin cfg0.N, win0_0.index t = ![0, 0]
    ∧ win0_1.index t = ![0, 0]
    ∧ win0_2.index t = ![0, t.val]
    ∧ win0_3.index t = ![0, 0]
    ∧ win0_4.index t = ![0, 0]
    ∧ win0_5.index t = ![0, t.val]
    ∧ win0_6.index t = ![0, 0] :=
  (by decide +kernel : ∀ t : Fin grid0.N, win0_0.index t = ![0, 0]
    ∧ win0_1.index t = ![0, 0]
    ∧ win0_2.index t = ![0, t.val]
    ∧ win0_3.index t = ![0, 0]
    ∧ win0_4.index t = ![0, 0]
    ∧ win0_5.index t = ![0, t.val]
    ∧ win0_6.index t = ![0, 0])

/-- The main coordinate a column of a grid point's block is. -/
def col (t : Fin cfg0.N) (q : Fin 512) : Fin 3584 := ⟨512 * t.val + q.val, by have := lt7 t; omega⟩

/-- The kernel is handed the tokens as rows. -/
theorem v10_eq : V m c main_v10 = hostX (m ((c.tc : Thread nD τ).loc main_arg0)) := by
  simp only [V, hostOps0, hostOps0_1, hostOps0_2, hostOps0_3, hostOps0_4,
    List.flatten_cons, List.flatten_nil, List.append_nil, List.cons_append, List.nil_append]
  entry_read
  rfl

/-- The block of the tokens. -/
theorem x_blk (t : Fin cfg0.N) (p : Fin 32) (q : Fin 1024) : iblk m c 0 t (ix2 p q) = (m ((c.tc : Thread nD τ).loc main_arg0)) (ix3 p 0 q) := by
  have e : iblk m c 0 t (ix2 p q) = V m c main_v10 (ix2 p q) := by
    blk_point [iblk, idx t]
  rw [e, v10_eq, hostX_at]

/-- The kernel is handed the learned weights of the normalisation. -/
theorem v12_eq : V m c main_v12 = hostLn (m ((c.tc : Thread nD τ).loc main_arg1)) := by
  simp only [V, hostOps0, hostOps0_1, hostOps0_2, hostOps0_3, hostOps0_4,
    List.flatten_cons, List.flatten_nil, List.append_nil, List.cons_append, List.nil_append]
  entry_read
  rfl

/-- The block of the learned weights of the normalisation. -/
theorem ln_blk (t : Fin cfg0.N) (q : Fin 1024) : iblk m c 1 t (ix2 0 q) = (m ((c.tc : Thread nD τ).loc main_arg1)) (ix2 0 q) := by
  have e : iblk m c 1 t (ix2 0 q) = V m c main_v12 (ix2 0 q) := by
    blk_point [iblk, idx t]
  rw [e, v12_eq, hostLn_at]

/-- The kernel is handed the main columns of the projection. -/
theorem v2_eq : V m c main_v2 = hostW (m ((c.tc : Thread nD τ).loc main_arg2)) := by
  simp only [V, hostOps0, hostOps0_1, hostOps0_2, hostOps0_3, hostOps0_4,
    List.flatten_cons, List.flatten_nil, List.append_nil, List.cons_append, List.nil_append]
  entry_read
  rfl

/-- The block of the main columns of the projection. -/
theorem w_blk (t : Fin cfg0.N) (k : Fin 1024) (j : Fin 512) :
    iblk m c 2 t (ix2 k j) = (m ((c.tc : Thread nD τ).loc main_arg2)) (ix3 0 k ⟨(col t j).val, by have := (col t j).isLt; omega⟩) := by
  have e : iblk m c 2 t (ix2 k j) = V m c main_v2 (ix2 k (col t j)) := by
    unfold col
    blk_point [iblk, idx t]
  rw [e, v2_eq, hostW_at]

/-- The kernel is handed the columns of the gates, with zeros past them. -/
theorem v6_eq : V m c main_v6 = hostWg (m ((c.tc : Thread nD τ).loc main_arg2)) := by
  simp only [V, hostOps0, hostOps0_1, hostOps0_2, hostOps0_3, hostOps0_4,
    List.flatten_cons, List.flatten_nil, List.append_nil, List.cons_append, List.nil_append]
  entry_read
  rfl

/-- The block of the columns of the gates, with zeros past them. -/
theorem wg_blk (t : Fin cfg0.N) (k : Fin 1024) (j : Fin 128) :
    iblk m c 3 t (ix2 k j) = if h : j.val < 8 then (m ((c.tc : Thread nD τ).loc main_arg2)) (ix3 0 k ⟨3584 + j.val, by omega⟩) else (0 : EReal) := by
  have e : iblk m c 3 t (ix2 k j) = V m c main_v6 (ix2 k j) := by
    blk_point [iblk, idx t]
  rw [e, v6_eq, hostWg_at]

/-- The kernel is handed the bias of the gates, with zeros past it. -/
theorem v9_eq : V m c main_v9 = hostBg (m ((c.tc : Thread nD τ).loc main_arg3)) := by
  simp only [V, hostOps0, hostOps0_1, hostOps0_2, hostOps0_3, hostOps0_4,
    List.flatten_cons, List.flatten_nil, List.append_nil, List.cons_append, List.nil_append]
  entry_read
  rfl

/-- The block of the bias of the gates, with zeros past it. -/
theorem bg_blk (t : Fin cfg0.N) (j : Fin 128) :
    iblk m c 4 t (ix2 0 j) = if h : j.val < 8 then (m ((c.tc : Thread nD τ).loc main_arg3)) (ix2 0 ⟨j.val, h⟩) else (0 : EReal) := by
  have e : iblk m c 4 t (ix2 0 j) = V m c main_v9 (ix2 0 j) := by
    blk_point [iblk, idx t]
  rw [e, v9_eq, hostBg_at]

/-! ## The arrays -/

/-- The projected row at a block's row is its sequence's. -/
theorem proj_at (t : Fin cfg0.N) (p : Fin 32) (f : Fin 1024 → EReal) :
    proj (fun k => iblk m c 0 t (ix2 p k)) (fun k => iblk m c 1 t (ix2 0 k)) f
      = proj (fun k => (m ((c.tc : Thread nD τ).loc main_arg0)) (ix3 p 0 k)) (fun k => (m ((c.tc : Thread nD τ).loc main_arg1)) (ix2 0 k)) f := by
  simp only [x_blk, ln_blk]

/-- A block's row against a main column of the projection. -/
theorem row_at (t : Fin cfg0.N) (p : Fin 32) (j : Fin 512) :
    proj (fun k => iblk m c 0 t (ix2 p k)) (fun k => iblk m c 1 t (ix2 0 k)) (fun k => iblk m c 2 t (ix2 k j))
      = zMain (m ((c.tc : Thread nD τ).loc main_arg0)) (m ((c.tc : Thread nD τ).loc main_arg1)) (m ((c.tc : Thread nD τ).loc main_arg2)) p (col t j) := by
  rw [proj_at]
  simp only [w_blk]
  rfl

/-- A block's row against a column of the gates. -/
theorem gate_at (t : Fin cfg0.N) (p : Fin 32) (j : Fin 128) :
    proj (fun k => iblk m c 0 t (ix2 p k)) (fun k => iblk m c 1 t (ix2 0 k)) (fun k => iblk m c 3 t (ix2 k j)) + iblk m c 4 t (ix2 0 j)
      = gate (m ((c.tc : Thread nD τ).loc main_arg0)) (m ((c.tc : Thread nD τ).loc main_arg1)) (m ((c.tc : Thread nD τ).loc main_arg2)) (m ((c.tc : Thread nD τ).loc main_arg3)) p j.val := by
  rw [proj_at, bg_blk]
  simp only [wg_blk]
  unfold gate
  by_cases h : j.val < 8
  · simp only [dif_pos h]
    rfl
  · simp only [dif_neg h]
    exact (congrArg (fun a : EReal => a + 0) (proj_zero _ _)).trans (add_zero 0)

/-- The main coordinates after the run. -/
theorem arr5 : (dats m 0 c).arrAt 5 cfg0.N = fun i => zMain (m ((c.tc : Thread nD τ).loc main_arg0)) (m ((c.tc : Thread nD τ).loc main_arg1)) (m ((c.tc : Thread nD τ).loc main_arg2)) (i 0) (i 1) := by
  refine (dats m 0 c).arrAt_eq_of_covers 5 _ (by decide +kernel) fun t hfl y => ?_
  have ht := lt7 t
  blk_simp
  rw [after5]
  idx_vars y
  rw [win5, row_at]
  show zMain (m ((c.tc : Thread nD τ).loc main_arg0)) (m ((c.tc : Thread nD τ).loc main_arg1)) (m ((c.tc : Thread nD τ).loc main_arg2)) y0 (col t y1) = _
  congr 1
  · exact Fin.ext (by blk_simp [idx t])
  · exact Fin.ext (by blk_simp [idx t]; simp [col]; omega)

/-- The gates after the run. -/
theorem arr6 : (dats m 0 c).arrAt 6 cfg0.N = fun i => gate (m ((c.tc : Thread nD τ).loc main_arg0)) (m ((c.tc : Thread nD τ).loc main_arg1)) (m ((c.tc : Thread nD τ).loc main_arg2)) (m ((c.tc : Thread nD τ).loc main_arg3)) (i 0) (i 1).val := by
  refine (dats m 0 c).arrAt_eq_of_covers 6 _ (by decide +kernel) fun t hfl y => ?_
  have ht := lt7 t
  blk_simp
  rw [after6]
  unfold held
  idx_vars y
  rw [win6, gate_at]
  show gate (m ((c.tc : Thread nD τ).loc main_arg0)) (m ((c.tc : Thread nD τ).loc main_arg1)) (m ((c.tc : Thread nD τ).loc main_arg2)) (m ((c.tc : Thread nD τ).loc main_arg3)) y0 y1.val = _
  congr 1
  · exact Fin.ext (by blk_simp [idx t])
  · blk_simp [idx t]

/-- The run, with both results and the arguments after it. -/
theorem run_blocks (ρ : Dev nD → PrngReg) : θ_run defs (onTc (τ := τ) (main (F := Ideal))) ⟨m, fun _ => 0, ρ⟩ fun r => ∀ c : Dev nD,
      r.2.mem ((c.tc : Thread nD τ).loc main_v13_0) = (dats m 0 c).arrAt 5 cfg0.N
      ∧ r.2.mem ((c.tc : Thread nD τ).loc main_v13_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 5, (h c).1 6,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.DProjIdeal.Hand

end
-- ==== Proof.DProjRef.lean ====
/-
  The reference's projection of the sample, element by element.
-/
module

public import proofs.«01_k».proof.Proof.DProjArrays
public import proofs.«01_k».proof.Proof.Gen.DProjRefIdeal.Read

@[expose] public section

set_option maxRecDepth 16384

noncomputable section

namespace Cert.DProjRefIdeal.Hand

open Cert.DProjRefIdeal Cert.DProjRefIdeal.Gen Cert.DProjRefIdeal.Read Idealize.ShloMosaic Idealize.ShloMosaic.TcCoe Idealize.SL.Sem
open Cert.ProjIdeal.Hand (nrm proj zero_word)
open Cert.DProjIdeal.Hand (zAt zMain gate)

variable (x0 : (⟨S32x1x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- A sequence's normed coordinate. -/
theorem ref_norm (r : Fin 32) (k : Fin 1024) :
    val_main_v13 (F := Ideal) x0 x1 (ix3 r 0 k) = nrm (fun k => x0 (ix3 r 0 k)) (fun k => x1 (ix2 0 k)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A sequence's projected coordinate. -/
theorem ref_z (r : Fin 32) (j : Fin 3592) : val_main_v15 (F := Ideal) x0 x1 x2 (ix3 r 0 j) = zAt x0 x1 x2 r j := by
  unfold val_main_v15 val_main_v14
  pointwise
  simp only [ref_norm]
  rfl

/-- A sequence's main coordinate. -/
theorem ref_v22 (r : Fin 32) (j : Fin 3584) : val_main_v22 (F := Ideal) x0 x1 x2 (ix2 r j) = zMain x0 x1 x2 r j := by
  unfold val_main_v22 val_main_v16
  pointwise
  simp only [ref_z]
  rfl

/-- A sequence's gates. -/
theorem ref_gate (r : Fin 32) (j : Fin 8) :
    val_main_v21 (F := Ideal) x0 x1 x2 x3 (ix2 r j) = zAt x0 x1 x2 r ⟨3584 + j.val, by omega⟩ + x3 (ix2 0 j) := by
  unfold val_main_v21 val_main_v20 val_main_v19 val_main_v18 val_main_v17 val_main_v16
  pointwise
  simp only [ref_z]

/-- The padded gates of a sequence. -/
theorem ref_v23 (r : Fin 32) (j : Fin 128) : val_main_v23 (F := Ideal) x0 x1 x2 x3 (ix2 r j) = gate x0 x1 x2 x3 r j.val := by
  unfold gate
  by_cases h : j.val < 8
  · rw [dif_pos h]
    unfold val_main_v23 val_main_call0_v0 val_main_c
    pointwise
    rw [dif_pos h]
    exact ref_gate x0 x1 x2 x3 r ⟨j.val, h⟩
  · rw [dif_neg h]
    unfold val_main_v23 val_main_call0_v0 val_main_c
    pointwise
    rw [dif_neg h]
    exact zero_word

end Cert.DProjRefIdeal.Hand

end
-- ==== Proof.DProjClaim.lean ====
/-
  The sample's input projection: the kernel's two results are the reference's, and the reference leaves its arguments
  unchanged.
-/
module

public import Idealize.ShloMosaic.Lib.Quiescent
public import proofs.«01_k».proof.Defs
public import proofs.«01_k».proof.Proof.DProjRef
public import proofs.«01_k».proof.Proof.DProjBody
public import proofs.«01_k».proof.Proof.ProjClaim
public import proofs.«01_k».proof.Proof.Gen.DProjRefIdeal.Run

@[expose] public section

set_option maxRecDepth 16384

noncomputable section

namespace Cert.Proof

open Idealize.ShloMosaic Idealize.ShloMosaic.TcCoe Idealize.SL.Sem

/-- The kernel leaves its arguments unchanged and every counter at zero. -/
theorem dproj_frame : Cert.quiescent_DProj := fun m ρ _ => Cert.DProj.Hand.frame (F := Bits) m ρ

/-- The same on exact numbers. -/
theorem dproj_ideal_frame : Cert.quiescent_DProjIdeal := fun m ρ _ => Cert.DProjIdeal.Hand.frame (F := Ideal) m ρ

/-- The reference writes none of its arguments, and declares no semaphore. -/
theorem dproj_ref_frame : Cert.quiescent_DProjRefIdeal := fun m ρ _ =>
  (θ_run Cert.DProjRefIdeal.defs _ _).mono (fun r h => ⟨fun c => (h c).2.2,
    Idealize.ShloMosaic.sem_eq_zero_of_no_sems (by decide) r.2⟩)
    (Cert.DProjRefIdeal.Value.run (F := Ideal) m ρ)

section
open Cert.DProjRefIdeal Cert.DProjRefIdeal.Gen Cert.DProjRefIdeal.Read
variable (x0 : (⟨S32x1x1024, .f32⟩ : BufTy).Contents (Elt Ideal)) (x1 : (⟨S1x1024, .f32⟩ : BufTy).Contents (Elt Ideal))
    (x2 : (⟨S1x1024x3592, .f32⟩ : BufTy).Contents (Elt Ideal)) (x3 : (⟨S1x8, .f32⟩ : BufTy).Contents (Elt Ideal))

/-- The reference's array of main coordinates. -/
theorem dproj_v22 : val_main_v22 (F := Ideal) x0 x1 x2 = fun i => Cert.DProjIdeal.Hand.zMain x0 x1 x2 (i 0) (i 1) := by
  funext j
  idx_vars j
  exact Cert.DProjRefIdeal.Hand.ref_v22 x0 x1 x2 j0 j1

/-- The reference's array of gates. -/
theorem dproj_v23 : val_main_v23 (F := Ideal) x0 x1 x2 x3 = fun i => Cert.DProjIdeal.Hand.gate x0 x1 x2 x3 (i 0) (i 1).val := by
  funext j
  idx_vars j
  exact Cert.DProjRefIdeal.Hand.ref_v23 x0 x1 x2 x3 j0 j1

end

set_option maxHeartbeats 1600000 in
/-- The kernel and the reference of the sample's input projection end with equal results. -/
theorem dproj_algebraic : Cert.algebraic_DProjIdeal_DProjRefIdeal := fun m ρ m' ρ' _ hag =>
  ⟨fun c => (Cert.DProjIdeal.Hand.dats m 0 c).arrAt 5 Cert.DProjIdeal.cfg0.N,
   fun c => (Cert.DProjIdeal.Hand.dats m 0 c).arrAt 6 Cert.DProjIdeal.cfg0.N,
   Cert.DProjIdeal.Hand.run_blocks m ρ,
   (θ_run _ _ _).mono (fun r h c =>
    have a := hag c
    ⟨(h c).1.trans ((Cert.DProjRefIdeal.Read.val_main_v22_eq _ _ _).trans
        ((congr3 (fun a b c => Cert.DProjRefIdeal.Read.val_main_v22 (F := Ideal) a b c) a.1 a.2.1 a.2.2.1).trans
          ((dproj_v22 _ _ _).trans (Cert.DProjIdeal.Hand.arr5 m c).symm))),
     (h c).2.1.trans ((Cert.DProjRefIdeal.Read.val_main_v23_eq _ _ _ _).trans
        ((congr_four (fun a b c d => Cert.DProjRefIdeal.Read.val_main_v23 (F := Ideal) a b c d) a.1 a.2.1 a.2.2.1 a.2.2.2).trans
          ((dproj_v23 _ _ _ _).trans (Cert.DProjIdeal.Hand.arr6 m c).symm))),
     (h c).2.2⟩)
    (Cert.DProjRefIdeal.Value.run m' ρ')⟩

end Cert.Proof

end
-- ==== Proof.lean ====
/-
  The claim about Step, Mlp, Proj, Mlps, Rec, DProj: every program leaves its arguments and its counters, and each kernel ends with the
  results of its reference.
-/
module

public import proofs.«01_k».proof.Defs
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Mlps
public import proofs.«01_k».proof.Proof.Gen.Mlps.Skeleton
public import proofs.«01_k».proof.Proof.Gen.Mlps.Launch
public import proofs.«01_k».proof.Proof.Gen.Mlps.Points
public import proofs.«01_k».proof.Proof.Gen.Mlps.Frame
public import proofs.«01_k».proof.Proof.Gen.MlpsIdeal
public import proofs.«01_k».proof.Proof.Gen.MlpsIdeal.Skeleton
public import proofs.«01_k».proof.Proof.Gen.MlpsIdeal.Launch
public import proofs.«01_k».proof.Proof.Gen.MlpsIdeal.Points
public import proofs.«01_k».proof.Proof.Gen.MlpsIdeal.Frame
public import proofs.«01_k».proof.Proof.Gen.MlpsRefIdeal
public import proofs.«01_k».proof.Proof.Gen.Rec
public import proofs.«01_k».proof.Proof.Gen.Rec.Skeleton
public import proofs.«01_k».proof.Proof.Gen.Rec.Launch
public import proofs.«01_k».proof.Proof.Gen.Rec.Points
public import proofs.«01_k».proof.Proof.Gen.Rec.Frame
public import proofs.«01_k».proof.Proof.Gen.RecIdeal
public import proofs.«01_k».proof.Proof.Gen.RecIdeal.Skeleton
public import proofs.«01_k».proof.Proof.Gen.RecIdeal.Launch
public import proofs.«01_k».proof.Proof.Gen.RecIdeal.Points
public import proofs.«01_k».proof.Proof.Gen.RecIdeal.Frame
public import proofs.«01_k».proof.Proof.Gen.RecRefIdeal
public import proofs.«01_k».proof.Proof.Gen.StepIdeal.Value
public import proofs.«01_k».proof.Proof.Gen.MlpIdeal.Value
public import proofs.«01_k».proof.Proof.Gen.ProjIdeal.Value
public import proofs.«01_k».proof.Proof.Gen.MlpsIdeal.Value
public import proofs.«01_k».proof.Proof.Gen.RecIdeal.Value
public import proofs.«01_k».proof.Proof.Gen.StepRefIdeal.Run
public import proofs.«01_k».proof.Proof.Gen.StepRefIdeal.Read
public import proofs.«01_k».proof.Proof.Gen.MlpRefIdeal.Run
public import proofs.«01_k».proof.Proof.Gen.MlpRefIdeal.Read
public import proofs.«01_k».proof.Proof.Gen.ProjRefIdeal.Run
public import proofs.«01_k».proof.Proof.Gen.ProjRefIdeal.Read
public import proofs.«01_k».proof.Proof.Gen.MlpsRefIdeal.Run
public import proofs.«01_k».proof.Proof.Gen.MlpsRefIdeal.Read
public import proofs.«01_k».proof.Proof.Gen.RecRefIdeal.Run
public import proofs.«01_k».proof.Proof.Gen.RecRefIdeal.Read
public import proofs.«01_k».proof.Proof.StepClaim
public import proofs.«01_k».proof.Proof.MlpClaim
public import proofs.«01_k».proof.Proof.ProjClaim
public import proofs.«01_k».proof.Proof.MlpsClaim
public import proofs.«01_k».proof.Proof.RecClaim
public import proofs.«01_k».proof.Proof.DProjClaim
public import proofs.«01_k».proof.Proof.Gen.DProj
public import proofs.«01_k».proof.Proof.Gen.DProj.Skeleton
public import proofs.«01_k».proof.Proof.Gen.DProj.Launch
public import proofs.«01_k».proof.Proof.Gen.DProj.Points
public import proofs.«01_k».proof.Proof.Gen.DProj.Frame
public import proofs.«01_k».proof.Proof.Gen.DProjIdeal
public import proofs.«01_k».proof.Proof.Gen.DProjIdeal.Skeleton
public import proofs.«01_k».proof.Proof.Gen.DProjIdeal.Launch
public import proofs.«01_k».proof.Proof.Gen.DProjIdeal.Points
public import proofs.«01_k».proof.Proof.Gen.DProjIdeal.Frame
public import proofs.«01_k».proof.Proof.Gen.DProjRefIdeal
public import proofs.«01_k».proof.Proof.Gen.DProjRefIdeal.Run
public import proofs.«01_k».proof.Proof.Gen.DProjRefIdeal.Read
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Step.Gen.facts,
    Cert.StepIdeal.Gen.facts,
    Cert.StepRefIdeal.Gen.facts,
    Cert.Mlp.Gen.facts,
    Cert.MlpIdeal.Gen.facts,
    Cert.MlpRefIdeal.Gen.facts,
    Cert.Proj.Gen.facts,
    Cert.ProjIdeal.Gen.facts,
    Cert.ProjRefIdeal.Gen.facts,
    Cert.Mlps.Gen.facts,
    Cert.MlpsIdeal.Gen.facts,
    Cert.MlpsRefIdeal.Gen.facts,
    Cert.Rec.Gen.facts,
    Cert.RecIdeal.Gen.facts,
    Cert.RecRefIdeal.Gen.facts,
    Cert.DProj.Gen.facts,
    Cert.DProjIdeal.Gen.facts,
    Cert.DProjRefIdeal.Gen.facts,
    pre_facts,
    fun m ρ _ => Cert.Step.Gen.frame m ρ,
    fun m ρ _ => Cert.StepIdeal.Gen.frame m ρ,
    step_ref_frame,
    fun m ρ _ => Cert.Mlp.Gen.frame m ρ,
    fun m ρ _ => Cert.MlpIdeal.Gen.frame m ρ,
    mlp_ref_frame,
    fun m ρ _ => Cert.Proj.Gen.frame m ρ,
    fun m ρ _ => Cert.ProjIdeal.Gen.frame m ρ,
    proj_ref_frame,
    fun m ρ _ => Cert.Mlps.Gen.frame m ρ,
    fun m ρ _ => Cert.MlpsIdeal.Gen.frame m ρ,
    mlps_ref_frame,
    fun m ρ _ => Cert.Rec.Gen.frame m ρ,
    fun m ρ _ => Cert.RecIdeal.Gen.frame m ρ,
    fun m ρ _ => Cert.RecIdeal.Gen.frame m ρ,
    rec_ref_frame,
    rec_ref_frame_pre,
    dproj_frame,
    dproj_ideal_frame,
    dproj_ref_frame,
    trivial,
    step_algebraic,
    trivial,
    mlp_algebraic,
    trivial,
    proj_algebraic,
    trivial,
    mlps_algebraic,
    trivial,
    rec_algebraic,
    trivial,
    dproj_algebraic⟩

end Cert.Proof

end
